-- ==== Defs.lean ====
def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_EvenOdd (m : (ℓ : Loc Cert.EvenOdd.nD Cert.EvenOdd.τ Cert.EvenOdd.sig) → Buf (Elt Bits) ℓ) : Prop :=
  True

def Pre_EvenOddIdeal (m : (ℓ : Loc Cert.EvenOddIdeal.nD Cert.EvenOddIdeal.τ Cert.EvenOddIdeal.sig) → Buf (Elt Ideal) ℓ) : Prop :=
  True

def Pre_EvenOddRefIdeal (m : (ℓ : Loc Cert.EvenOddRefIdeal.nD Cert.EvenOddRefIdeal.τ Cert.EvenOddRefIdeal.sig) → Buf (Elt Ideal) ℓ) : Prop :=
  True

def Pre_Embed (m : (ℓ : Loc Cert.Embed.nD Cert.Embed.τ Cert.Embed.sig) → Buf (Elt Bits) ℓ) : Prop :=
  True

def Pre_EmbedIdeal (m : (ℓ : Loc Cert.EmbedIdeal.nD Cert.EmbedIdeal.τ Cert.EmbedIdeal.sig) → Buf (Elt Ideal) ℓ) : Prop :=
  True

def Pre_EmbedRefIdeal (m : (ℓ : Loc Cert.EmbedRefIdeal.nD Cert.EmbedRefIdeal.τ Cert.EmbedRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5))
      ∧ r.2.sem = fun _ => 0)

def quiescent_EvenOdd [hEvenOdd : Cert.EvenOdd.Facts] : Prop :=
  ∀ (m : (ℓ : Loc Cert.EvenOdd.nD Cert.EvenOdd.τ Cert.EvenOdd.sig) → Buf (Elt Bits) ℓ) (g : Dev Cert.EvenOdd.nD → PrngReg), Pre_EvenOdd m →
    θ_run (Cert.EvenOdd.defs (F := Bits)) (onTc (τ := Cert.EvenOdd.τ) (Cert.EvenOdd.main (F := Bits))) ⟨m, fun _ => 0, g⟩ (fun r => (∀ c : Dev Cert.EvenOdd.nD,
      r.2.mem ((c.tc : Thread Cert.EvenOdd.nD Cert.EvenOdd.τ).loc Cert.EvenOdd.main_arg0) = m ((c.tc : Thread Cert.EvenOdd.nD Cert.EvenOdd.τ).loc Cert.EvenOdd.main_arg0)
      ∧ r.2.mem ((c.tc : Thread Cert.EvenOdd.nD Cert.EvenOdd.τ).loc Cert.EvenOdd.main_arg1) = m ((c.tc : Thread Cert.EvenOdd.nD Cert.EvenOdd.τ).loc Cert.EvenOdd.main_arg1)
      ∧ r.2.mem ((c.tc : Thread Cert.EvenOdd.nD Cert.EvenOdd.τ).loc Cert.EvenOdd.main_arg2) = m ((c.tc : Thread Cert.EvenOdd.nD Cert.EvenOdd.τ).loc Cert.EvenOdd.main_arg2)
      ∧ r.2.mem ((c.tc : Thread Cert.EvenOdd.nD Cert.EvenOdd.τ).loc Cert.EvenOdd.main_arg3) = m ((c.tc : Thread Cert.EvenOdd.nD Cert.EvenOdd.τ).loc Cert.EvenOdd.main_arg3)
      ∧ r.2.mem ((c.tc : Thread Cert.EvenOdd.nD Cert.EvenOdd.τ).loc Cert.EvenOdd.main_arg4) = m ((c.tc : Thread Cert.EvenOdd.nD Cert.EvenOdd.τ).loc Cert.EvenOdd.main_arg4)
      ∧ r.2.mem ((c.tc : Thread Cert.EvenOdd.nD Cert.EvenOdd.τ).loc Cert.EvenOdd.main_arg5) = m ((c.tc : Thread Cert.EvenOdd.nD Cert.EvenOdd.τ).loc Cert.EvenOdd.main_arg5)
      ∧ r.2.mem ((c.tc : Thread Cert.EvenOdd.nD Cert.EvenOdd.τ).loc Cert.EvenOdd.main_arg6) = m ((c.tc : Thread Cert.EvenOdd.nD Cert.EvenOdd.τ).loc Cert.EvenOdd.main_arg6)
      ∧ r.2.mem ((c.tc : Thread Cert.EvenOdd.nD Cert.EvenOdd.τ).loc Cert.EvenOdd.main_arg7) = m ((c.tc : Thread Cert.EvenOdd.nD Cert.EvenOdd.τ).loc Cert.EvenOdd.main_arg7)
      ∧ r.2.mem ((c.tc : Thread Cert.EvenOdd.nD Cert.EvenOdd.τ).loc Cert.EvenOdd.main_arg8) = m ((c.tc : Thread Cert.EvenOdd.nD Cert.EvenOdd.τ).loc Cert.EvenOdd.main_arg8)
      ∧ r.2.mem ((c.tc : Thread Cert.EvenOdd.nD Cert.EvenOdd.τ).loc Cert.EvenOdd.main_arg9) = m ((c.tc : Thread Cert.EvenOdd.nD Cert.EvenOdd.τ).loc Cert.EvenOdd.main_arg9)
      ∧ r.2.mem ((c.tc : Thread Cert.EvenOdd.nD Cert.EvenOdd.τ).loc Cert.EvenOdd.main_arg10) = m ((c.tc : Thread Cert.EvenOdd.nD Cert.EvenOdd.τ).loc Cert.EvenOdd.main_arg10)
      ∧ r.2.mem ((c.tc : Thread Cert.EvenOdd.nD Cert.EvenOdd.τ).loc Cert.EvenOdd.main_arg11) = m ((c.tc : Thread Cert.EvenOdd.nD Cert.EvenOdd.τ).loc Cert.EvenOdd.main_arg11))
      ∧ r.2.sem = fun _ => 0)

def quiescent_EvenOddIdeal [hEvenOddIdeal : Cert.EvenOddIdeal.Facts] : Prop :=
  ∀ (m : (ℓ : Loc Cert.EvenOddIdeal.nD Cert.EvenOddIdeal.τ Cert.EvenOddIdeal.sig) → Buf (Elt Ideal) ℓ) (g : Dev Cert.EvenOddIdeal.nD → PrngReg), Pre_EvenOddIdeal m →
    θ_run (Cert.EvenOddIdeal.defs (F := Ideal)) (onTc (τ := Cert.EvenOddIdeal.τ) (Cert.EvenOddIdeal.main (F := Ideal))) ⟨m, fun _ => 0, g⟩ (fun r => (∀ c : Dev Cert.EvenOddIdeal.nD,
      r.2.mem ((c.tc : Thread Cert.EvenOddIdeal.nD Cert.EvenOddIdeal.τ).loc Cert.EvenOddIdeal.main_arg0) = m ((c.tc : Thread Cert.EvenOddIdeal.nD Cert.EvenOddIdeal.τ).loc Cert.EvenOddIdeal.main_arg0)
      ∧ r.2.mem ((c.tc : Thread Cert.EvenOddIdeal.nD Cert.EvenOddIdeal.τ).loc Cert.EvenOddIdeal.main_arg1) = m ((c.tc : Thread Cert.EvenOddIdeal.nD Cert.EvenOddIdeal.τ).loc Cert.EvenOddIdeal.main_arg1)
      ∧ r.2.mem ((c.tc : Thread Cert.EvenOddIdeal.nD Cert.EvenOddIdeal.τ).loc Cert.EvenOddIdeal.main_arg2) = m ((c.tc : Thread Cert.EvenOddIdeal.nD Cert.EvenOddIdeal.τ).loc Cert.EvenOddIdeal.main_arg2)
      ∧ r.2.mem ((c.tc : Thread Cert.EvenOddIdeal.nD Cert.EvenOddIdeal.τ).loc Cert.EvenOddIdeal.main_arg3) = m ((c.tc : Thread Cert.EvenOddIdeal.nD Cert.EvenOddIdeal.τ).loc Cert.EvenOddIdeal.main_arg3)
      ∧ r.2.mem ((c.tc : Thread Cert.EvenOddIdeal.nD Cert.EvenOddIdeal.τ).loc Cert.EvenOddIdeal.main_arg4) = m ((c.tc : Thread Cert.EvenOddIdeal.nD Cert.EvenOddIdeal.τ).loc Cert.EvenOddIdeal.main_arg4)
      ∧ r.2.mem ((c.tc : Thread Cert.EvenOddIdeal.nD Cert.EvenOddIdeal.τ).loc Cert.EvenOddIdeal.main_arg5) = m ((c.tc : Thread Cert.EvenOddIdeal.nD Cert.EvenOddIdeal.τ).loc Cert.EvenOddIdeal.main_arg5)
      ∧ r.2.mem ((c.tc : Thread Cert.EvenOddIdeal.nD Cert.EvenOddIdeal.τ).loc Cert.EvenOddIdeal.main_arg6) = m ((c.tc : Thread Cert.EvenOddIdeal.nD Cert.EvenOddIdeal.τ).loc Cert.EvenOddIdeal.main_arg6)
      ∧ r.2.mem ((c.tc : Thread Cert.EvenOddIdeal.nD Cert.EvenOddIdeal.τ).loc Cert.EvenOddIdeal.main_arg7) = m ((c.tc : Thread Cert.EvenOddIdeal.nD Cert.EvenOddIdeal.τ).loc Cert.EvenOddIdeal.main_arg7)
      ∧ r.2.mem ((c.tc : Thread Cert.EvenOddIdeal.nD Cert.EvenOddIdeal.τ).loc Cert.EvenOddIdeal.main_arg8) = m ((c.tc : Thread Cert.EvenOddIdeal.nD Cert.EvenOddIdeal.τ).loc Cert.EvenOddIdeal.main_arg8)
      ∧ r.2.mem ((c.tc : Thread Cert.EvenOddIdeal.nD Cert.EvenOddIdeal.τ).loc Cert.EvenOddIdeal.main_arg9) = m ((c.tc : Thread Cert.EvenOddIdeal.nD Cert.EvenOddIdeal.τ).loc Cert.EvenOddIdeal.main_arg9)
      ∧ r.2.mem ((c.tc : Thread Cert.EvenOddIdeal.nD Cert.EvenOddIdeal.τ).loc Cert.EvenOddIdeal.main_arg10) = m ((c.tc : Thread Cert.EvenOddIdeal.nD Cert.EvenOddIdeal.τ).loc Cert.EvenOddIdeal.main_arg10)
      ∧ r.2.mem ((c.tc : Thread Cert.EvenOddIdeal.nD Cert.EvenOddIdeal.τ).loc Cert.EvenOddIdeal.main_arg11) = m ((c.tc : Thread Cert.EvenOddIdeal.nD Cert.EvenOddIdeal.τ).loc Cert.EvenOddIdeal.main_arg11))
      ∧ r.2.sem = fun _ => 0)

def quiescent_EvenOddRefIdeal [hEvenOddRefIdeal : Cert.EvenOddRefIdeal.Facts] : Prop :=
  ∀ (m : (ℓ : Loc Cert.EvenOddRefIdeal.nD Cert.EvenOddRefIdeal.τ Cert.EvenOddRefIdeal.sig) → Buf (Elt Ideal) ℓ) (g : Dev Cert.EvenOddRefIdeal.nD → PrngReg), Pre_EvenOddRefIdeal m →
    θ_run (Cert.EvenOddRefIdeal.defs (F := Ideal)) (onTc (τ := Cert.EvenOddRefIdeal.τ) (Cert.EvenOddRefIdeal.main (F := Ideal))) ⟨m, fun _ => 0, g⟩ (fun r => (∀ c : Dev Cert.EvenOddRefIdeal.nD,
      r.2.mem ((c.tc : Thread Cert.EvenOddRefIdeal.nD Cert.EvenOddRefIdeal.τ).loc Cert.EvenOddRefIdeal.main_arg0) = m ((c.tc : Thread Cert.EvenOddRefIdeal.nD Cert.EvenOddRefIdeal.τ).loc Cert.EvenOddRefIdeal.main_arg0)
      ∧ r.2.mem ((c.tc : Thread Cert.EvenOddRefIdeal.nD Cert.EvenOddRefIdeal.τ).loc Cert.EvenOddRefIdeal.main_arg1) = m ((c.tc : Thread Cert.EvenOddRefIdeal.nD Cert.EvenOddRefIdeal.τ).loc Cert.EvenOddRefIdeal.main_arg1)
      ∧ r.2.mem ((c.tc : Thread Cert.EvenOddRefIdeal.nD Cert.EvenOddRefIdeal.τ).loc Cert.EvenOddRefIdeal.main_arg2) = m ((c.tc : Thread Cert.EvenOddRefIdeal.nD Cert.EvenOddRefIdeal.τ).loc Cert.EvenOddRefIdeal.main_arg2)
      ∧ r.2.mem ((c.tc : Thread Cert.EvenOddRefIdeal.nD Cert.EvenOddRefIdeal.τ).loc Cert.EvenOddRefIdeal.main_arg3) = m ((c.tc : Thread Cert.EvenOddRefIdeal.nD Cert.EvenOddRefIdeal.τ).loc Cert.EvenOddRefIdeal.main_arg3)
      ∧ r.2.mem ((c.tc : Thread Cert.EvenOddRefIdeal.nD Cert.EvenOddRefIdeal.τ).loc Cert.EvenOddRefIdeal.main_arg4) = m ((c.tc : Thread Cert.EvenOddRefIdeal.nD Cert.EvenOddRefIdeal.τ).loc Cert.EvenOddRefIdeal.main_arg4)
      ∧ r.2.mem ((c.tc : Thread Cert.EvenOddRefIdeal.nD Cert.EvenOddRefIdeal.τ).loc Cert.EvenOddRefIdeal.main_arg5) = m ((c.tc : Thread Cert.EvenOddRefIdeal.nD Cert.EvenOddRefIdeal.τ).loc Cert.EvenOddRefIdeal.main_arg5)
      ∧ r.2.mem ((c.tc : Thread Cert.EvenOddRefIdeal.nD Cert.EvenOddRefIdeal.τ).loc Cert.EvenOddRefIdeal.main_arg6) = m ((c.tc : Thread Cert.EvenOddRefIdeal.nD Cert.EvenOddRefIdeal.τ).loc Cert.EvenOddRefIdeal.main_arg6)
      ∧ r.2.mem ((c.tc : Thread Cert.EvenOddRefIdeal.nD Cert.EvenOddRefIdeal.τ).loc Cert.EvenOddRefIdeal.main_arg7) = m ((c.tc : Thread Cert.EvenOddRefIdeal.nD Cert.EvenOddRefIdeal.τ).loc Cert.EvenOddRefIdeal.main_arg7)
      ∧ r.2.mem ((c.tc : Thread Cert.EvenOddRefIdeal.nD Cert.EvenOddRefIdeal.τ).loc Cert.EvenOddRefIdeal.main_arg8) = m ((c.tc : Thread Cert.EvenOddRefIdeal.nD Cert.EvenOddRefIdeal.τ).loc Cert.EvenOddRefIdeal.main_arg8)
      ∧ r.2.mem ((c.tc : Thread Cert.EvenOddRefIdeal.nD Cert.EvenOddRefIdeal.τ).loc Cert.EvenOddRefIdeal.main_arg9) = m ((c.tc : Thread Cert.EvenOddRefIdeal.nD Cert.EvenOddRefIdeal.τ).loc Cert.EvenOddRefIdeal.main_arg9)
      ∧ r.2.mem ((c.tc : Thread Cert.EvenOddRefIdeal.nD Cert.EvenOddRefIdeal.τ).loc Cert.EvenOddRefIdeal.main_arg10) = m ((c.tc : Thread Cert.EvenOddRefIdeal.nD Cert.EvenOddRefIdeal.τ).loc Cert.EvenOddRefIdeal.main_arg10)
      ∧ r.2.mem ((c.tc : Thread Cert.EvenOddRefIdeal.nD Cert.EvenOddRefIdeal.τ).loc Cert.EvenOddRefIdeal.main_arg11) = m ((c.tc : Thread Cert.EvenOddRefIdeal.nD Cert.EvenOddRefIdeal.τ).loc Cert.EvenOddRefIdeal.main_arg11))
      ∧ r.2.sem = fun _ => 0)

def quiescent_Embed [hEmbed : Cert.Embed.Facts] : Prop :=
  ∀ (m : (ℓ : Loc Cert.Embed.nD Cert.Embed.τ Cert.Embed.sig) → Buf (Elt Bits) ℓ) (g : Dev Cert.Embed.nD → PrngReg), Pre_Embed m →
    θ_run (Cert.Embed.defs (F := Bits)) (onTc (τ := Cert.Embed.τ) (Cert.Embed.main (F := Bits))) ⟨m, fun _ => 0, g⟩ (fun r => (∀ c : Dev Cert.Embed.nD,
      r.2.mem ((c.tc : Thread Cert.Embed.nD Cert.Embed.τ).loc Cert.Embed.main_arg0) = m ((c.tc : Thread Cert.Embed.nD Cert.Embed.τ).loc Cert.Embed.main_arg0)
      ∧ r.2.mem ((c.tc : Thread Cert.Embed.nD Cert.Embed.τ).loc Cert.Embed.main_arg1) = m ((c.tc : Thread Cert.Embed.nD Cert.Embed.τ).loc Cert.Embed.main_arg1)
      ∧ r.2.mem ((c.tc : Thread Cert.Embed.nD Cert.Embed.τ).loc Cert.Embed.main_arg2) = m ((c.tc : Thread Cert.Embed.nD Cert.Embed.τ).loc Cert.Embed.main_arg2)
      ∧ r.2.mem ((c.tc : Thread Cert.Embed.nD Cert.Embed.τ).loc Cert.Embed.main_arg3) = m ((c.tc : Thread Cert.Embed.nD Cert.Embed.τ).loc Cert.Embed.main_arg3))
      ∧ r.2.sem = fun _ => 0)

def quiescent_EmbedIdeal [hEmbedIdeal : Cert.EmbedIdeal.Facts] : Prop :=
  ∀ (m : (ℓ : Loc Cert.EmbedIdeal.nD Cert.EmbedIdeal.τ Cert.EmbedIdeal.sig) → Buf (Elt Ideal) ℓ) (g : Dev Cert.EmbedIdeal.nD → PrngReg), Pre_EmbedIdeal m →
    θ_run (Cert.EmbedIdeal.defs (F := Ideal)) (onTc (τ := Cert.EmbedIdeal.τ) (Cert.EmbedIdeal.main (F := Ideal))) ⟨m, fun _ => 0, g⟩ (fun r => (∀ c : Dev Cert.EmbedIdeal.nD,
      r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
      ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
      ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2)
      ∧ r.2.mem ((c.tc : Thread Cert.EmbedIdeal.nD Cert.EmbedIdeal.τ).loc Cert.EmbedIdeal.main_arg3) = m ((c.tc : Thread Cert.EmbedIdeal.nD Cert.EmbedIdeal.τ).loc Cert.EmbedIdeal.main_arg3))
      ∧ r.2.sem = fun _ => 0)

def quiescent_EmbedRefIdeal [hEmbedRefIdeal : Cert.EmbedRefIdeal.Facts] : Prop :=
  ∀ (m : (ℓ : Loc Cert.EmbedRefIdeal.nD Cert.EmbedRefIdeal.τ Cert.EmbedRefIdeal.sig) → Buf (Elt Ideal) ℓ) (g : Dev Cert.EmbedRefIdeal.nD → PrngReg), Pre_EmbedRefIdeal m →
    θ_run (Cert.EmbedRefIdeal.defs (F := Ideal)) (onTc (τ := Cert.EmbedRefIdeal.τ) (Cert.EmbedRefIdeal.main (F := Ideal))) ⟨m, fun _ => 0, g⟩ (fun r => (∀ c : Dev Cert.EmbedRefIdeal.nD,
      r.2.mem ((c.tc : Thread Cert.EmbedRefIdeal.nD Cert.EmbedRefIdeal.τ).loc Cert.EmbedRefIdeal.main_arg0) = m ((c.tc : Thread Cert.EmbedRefIdeal.nD Cert.EmbedRefIdeal.τ).loc Cert.EmbedRefIdeal.main_arg0)
      ∧ r.2.mem ((c.tc : Thread Cert.EmbedRefIdeal.nD Cert.EmbedRefIdeal.τ).loc Cert.EmbedRefIdeal.main_arg1) = m ((c.tc : Thread Cert.EmbedRefIdeal.nD Cert.EmbedRefIdeal.τ).loc Cert.EmbedRefIdeal.main_arg1)
      ∧ r.2.mem ((c.tc : Thread Cert.EmbedRefIdeal.nD Cert.EmbedRefIdeal.τ).loc Cert.EmbedRefIdeal.main_arg2) = m ((c.tc : Thread Cert.EmbedRefIdeal.nD Cert.EmbedRefIdeal.τ).loc Cert.EmbedRefIdeal.main_arg2)
      ∧ r.2.mem ((c.tc : Thread Cert.EmbedRefIdeal.nD Cert.EmbedRefIdeal.τ).loc Cert.EmbedRefIdeal.main_arg3) = m ((c.tc : Thread Cert.EmbedRefIdeal.nD Cert.EmbedRefIdeal.τ).loc Cert.EmbedRefIdeal.main_arg3))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def preserves_Last_LastIdeal : Prop :=
  IdealRules.named_const.Statement Cert.LastIdeal.κ "nlog2e" .f32 0xBFB8AA3B#32 ((-((Real.log 2)⁻¹) : ℝ) : EReal)

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)) →
    ∃ (v0 : (c : Dev Cert.LastIdeal.nD) → Buf (Elt Ideal) ((c.tc : Thread Cert.LastIdeal.nD Cert.LastIdeal.τ).loc Cert.LastIdeal.main_v2)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v2) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v22) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4))

def preserves_Mid_MidIdeal : Prop :=
  IdealRules.named_const.Statement Cert.MidIdeal.κ "nlog2e" .f32 0xBFB8AA3B#32 ((-((Real.log 2)⁻¹) : ℝ) : EReal)

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)) →
    ∃ (v0 : (c : Dev Cert.MidIdeal.nD) → Buf (Elt Ideal) ((c.tc : Thread Cert.MidIdeal.nD Cert.MidIdeal.τ).loc Cert.MidIdeal.main_v12_0)) (v1 : (c : Dev Cert.MidIdeal.nD) → Buf (Elt Ideal) ((c.tc : Thread Cert.MidIdeal.nD Cert.MidIdeal.τ).loc Cert.MidIdeal.main_v12_1)) (v2 : (c : Dev Cert.MidIdeal.nD) → Buf (Elt Ideal) ((c.tc : Thread Cert.MidIdeal.nD Cert.MidIdeal.τ).loc Cert.MidIdeal.main_v12_2)) (v3 : (c : Dev Cert.MidIdeal.nD) → Buf (Elt Ideal) ((c.tc : Thread Cert.MidIdeal.nD Cert.MidIdeal.τ).loc Cert.MidIdeal.main_v12_3)) (v4 : (c : Dev Cert.MidIdeal.nD) → Buf (Elt Ideal) ((c.tc : Thread Cert.MidIdeal.nD Cert.MidIdeal.τ).loc Cert.MidIdeal.main_v12_4)) (v5 : (c : Dev Cert.MidIdeal.nD) → Buf (Elt Ideal) ((c.tc : Thread Cert.MidIdeal.nD Cert.MidIdeal.τ).loc Cert.MidIdeal.main_v12_5)) (v6 : (c : Dev Cert.MidIdeal.nD) → Buf (Elt Ideal) ((c.tc : Thread Cert.MidIdeal.nD Cert.MidIdeal.τ).loc Cert.MidIdeal.main_v12_6)) (v7 : (c : Dev Cert.MidIdeal.nD) → Buf (Elt Ideal) ((c.tc : Thread Cert.MidIdeal.nD Cert.MidIdeal.τ).loc Cert.MidIdeal.main_v12_7)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v12_0) = v0 c
          ∧ r.2.mem ((c.tc : Thread Cert.MidIdeal.nD Cert.MidIdeal.τ).loc Cert.MidIdeal.main_v12_1) = v1 c
          ∧ r.2.mem ((c.tc : Thread Cert.MidIdeal.nD Cert.MidIdeal.τ).loc Cert.MidIdeal.main_v12_2) = v2 c
          ∧ r.2.mem ((c.tc : Thread Cert.MidIdeal.nD Cert.MidIdeal.τ).loc Cert.MidIdeal.main_v12_3) = v3 c
          ∧ r.2.mem ((c.tc : Thread Cert.MidIdeal.nD Cert.MidIdeal.τ).loc Cert.MidIdeal.main_v12_4) = v4 c
          ∧ r.2.mem ((c.tc : Thread Cert.MidIdeal.nD Cert.MidIdeal.τ).loc Cert.MidIdeal.main_v12_5) = v5 c
          ∧ r.2.mem ((c.tc : Thread Cert.MidIdeal.nD Cert.MidIdeal.τ).loc Cert.MidIdeal.main_v12_6) = v6 c
          ∧ r.2.mem ((c.tc : Thread Cert.MidIdeal.nD Cert.MidIdeal.τ).loc Cert.MidIdeal.main_v12_7) = v7 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v5) = v0 c
          ∧ r.2.mem ((c.tc : Thread Cert.MidRefIdeal.nD Cert.MidRefIdeal.τ).loc Cert.MidRefIdeal.main_v28) = v1 c
          ∧ r.2.mem ((c.tc : Thread Cert.MidRefIdeal.nD Cert.MidRefIdeal.τ).loc Cert.MidRefIdeal.main_v29) = v2 c
          ∧ r.2.mem ((c.tc : Thread Cert.MidRefIdeal.nD Cert.MidRefIdeal.τ).loc Cert.MidRefIdeal.main_v30) = v3 c
          ∧ r.2.mem ((c.tc : Thread Cert.MidRefIdeal.nD Cert.MidRefIdeal.τ).loc Cert.MidRefIdeal.main_v31) = v4 c
          ∧ r.2.mem ((c.tc : Thread Cert.MidRefIdeal.nD Cert.MidRefIdeal.τ).loc Cert.MidRefIdeal.main_v32) = v5 c
          ∧ r.2.mem ((c.tc : Thread Cert.MidRefIdeal.nD Cert.MidRefIdeal.τ).loc Cert.MidRefIdeal.main_v33) = v6 c
          ∧ r.2.mem ((c.tc : Thread Cert.MidRefIdeal.nD Cert.MidRefIdeal.τ).loc Cert.MidRefIdeal.main_v34) = v7 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5))

def preserves_EvenOdd_EvenOddIdeal : Prop :=
  IdealRules.named_const.Statement Cert.EvenOddIdeal.κ "qscale" .f32 0x3E16C740#32 (((Real.log 2)⁻¹ * (Real.sqrt 96)⁻¹ : ℝ) : EReal)

def algebraic_EvenOddIdeal_EvenOddRefIdeal [hEvenOddIdeal : Cert.EvenOddIdeal.Facts] [hEvenOddRefIdeal : Cert.EvenOddRefIdeal.Facts] : Prop :=
  ∀ (m : (ℓ : Loc Cert.EvenOddIdeal.nD Cert.EvenOddIdeal.τ Cert.EvenOddIdeal.sig) → Buf (Elt Ideal) ℓ) (g : Dev Cert.EvenOddIdeal.nD → PrngReg)
    (m' : (ℓ : Loc Cert.EvenOddRefIdeal.nD Cert.EvenOddRefIdeal.τ Cert.EvenOddRefIdeal.sig) → Buf (Elt Ideal) ℓ) (g' : Dev Cert.EvenOddRefIdeal.nD → PrngReg), Pre_EvenOddIdeal m →
    (∀ c : Dev Cert.EvenOddIdeal.nD,
      m' ((c.tc : Thread Cert.EvenOddRefIdeal.nD Cert.EvenOddRefIdeal.τ).loc Cert.EvenOddRefIdeal.main_arg0) = m ((c.tc : Thread Cert.EvenOddIdeal.nD Cert.EvenOddIdeal.τ).loc Cert.EvenOddIdeal.main_arg0)
      ∧ m' ((c.tc : Thread Cert.EvenOddRefIdeal.nD Cert.EvenOddRefIdeal.τ).loc Cert.EvenOddRefIdeal.main_arg1) = m ((c.tc : Thread Cert.EvenOddIdeal.nD Cert.EvenOddIdeal.τ).loc Cert.EvenOddIdeal.main_arg1)
      ∧ m' ((c.tc : Thread Cert.EvenOddRefIdeal.nD Cert.EvenOddRefIdeal.τ).loc Cert.EvenOddRefIdeal.main_arg2) = m ((c.tc : Thread Cert.EvenOddIdeal.nD Cert.EvenOddIdeal.τ).loc Cert.EvenOddIdeal.main_arg2)
      ∧ m' ((c.tc : Thread Cert.EvenOddRefIdeal.nD Cert.EvenOddRefIdeal.τ).loc Cert.EvenOddRefIdeal.main_arg3) = m ((c.tc : Thread Cert.EvenOddIdeal.nD Cert.EvenOddIdeal.τ).loc Cert.EvenOddIdeal.main_arg3)
      ∧ m' ((c.tc : Thread Cert.EvenOddRefIdeal.nD Cert.EvenOddRefIdeal.τ).loc Cert.EvenOddRefIdeal.main_arg4) = m ((c.tc : Thread Cert.EvenOddIdeal.nD Cert.EvenOddIdeal.τ).loc Cert.EvenOddIdeal.main_arg4)
      ∧ m' ((c.tc : Thread Cert.EvenOddRefIdeal.nD Cert.EvenOddRefIdeal.τ).loc Cert.EvenOddRefIdeal.main_arg5) = m ((c.tc : Thread Cert.EvenOddIdeal.nD Cert.EvenOddIdeal.τ).loc Cert.EvenOddIdeal.main_arg5)
      ∧ m' ((c.tc : Thread Cert.EvenOddRefIdeal.nD Cert.EvenOddRefIdeal.τ).loc Cert.EvenOddRefIdeal.main_arg6) = m ((c.tc : Thread Cert.EvenOddIdeal.nD Cert.EvenOddIdeal.τ).loc Cert.EvenOddIdeal.main_arg6)
      ∧ m' ((c.tc : Thread Cert.EvenOddRefIdeal.nD Cert.EvenOddRefIdeal.τ).loc Cert.EvenOddRefIdeal.main_arg7) = m ((c.tc : Thread Cert.EvenOddIdeal.nD Cert.EvenOddIdeal.τ).loc Cert.EvenOddIdeal.main_arg7)
      ∧ m' ((c.tc : Thread Cert.EvenOddRefIdeal.nD Cert.EvenOddRefIdeal.τ).loc Cert.EvenOddRefIdeal.main_arg8) = m ((c.tc : Thread Cert.EvenOddIdeal.nD Cert.EvenOddIdeal.τ).loc Cert.EvenOddIdeal.main_arg8)
      ∧ m' ((c.tc : Thread Cert.EvenOddRefIdeal.nD Cert.EvenOddRefIdeal.τ).loc Cert.EvenOddRefIdeal.main_arg9) = m ((c.tc : Thread Cert.EvenOddIdeal.nD Cert.EvenOddIdeal.τ).loc Cert.EvenOddIdeal.main_arg9)
      ∧ m' ((c.tc : Thread Cert.EvenOddRefIdeal.nD Cert.EvenOddRefIdeal.τ).loc Cert.EvenOddRefIdeal.main_arg10) = m ((c.tc : Thread Cert.EvenOddIdeal.nD Cert.EvenOddIdeal.τ).loc Cert.EvenOddIdeal.main_arg10)
      ∧ m' ((c.tc : Thread Cert.EvenOddRefIdeal.nD Cert.EvenOddRefIdeal.τ).loc Cert.EvenOddRefIdeal.main_arg11) = m ((c.tc : Thread Cert.EvenOddIdeal.nD Cert.EvenOddIdeal.τ).loc Cert.EvenOddIdeal.main_arg11)) →
    ∃ (v0 : (c : Dev Cert.EvenOddIdeal.nD) → Buf (Elt Ideal) ((c.tc : Thread Cert.EvenOddIdeal.nD Cert.EvenOddIdeal.τ).loc Cert.EvenOddIdeal.main_v47_0)) (v1 : (c : Dev Cert.EvenOddIdeal.nD) → Buf (Elt Ideal) ((c.tc : Thread Cert.EvenOddIdeal.nD Cert.EvenOddIdeal.τ).loc Cert.EvenOddIdeal.main_v47_1)) (v2 : (c : Dev Cert.EvenOddIdeal.nD) → Buf (Elt Ideal) ((c.tc : Thread Cert.EvenOddIdeal.nD Cert.EvenOddIdeal.τ).loc Cert.EvenOddIdeal.main_v47_2)) (v3 : (c : Dev Cert.EvenOddIdeal.nD) → Buf (Elt Ideal) ((c.tc : Thread Cert.EvenOddIdeal.nD Cert.EvenOddIdeal.τ).loc Cert.EvenOddIdeal.main_v47_3)) (v4 : (c : Dev Cert.EvenOddIdeal.nD) → Buf (Elt Ideal) ((c.tc : Thread Cert.EvenOddIdeal.nD Cert.EvenOddIdeal.τ).loc Cert.EvenOddIdeal.main_v47_4)),
      θ_run (Cert.EvenOddIdeal.defs (F := Ideal)) (onTc (τ := Cert.EvenOddIdeal.τ) (Cert.EvenOddIdeal.main (F := Ideal))) ⟨m, fun _ => 0, g⟩ (fun r => ∀ c : Dev Cert.EvenOddIdeal.nD,
          r.2.mem ((c.tc : Thread Cert.EvenOddIdeal.nD Cert.EvenOddIdeal.τ).loc Cert.EvenOddIdeal.main_v47_0) = v0 c
          ∧ r.2.mem ((c.tc : Thread Cert.EvenOddIdeal.nD Cert.EvenOddIdeal.τ).loc Cert.EvenOddIdeal.main_v47_1) = v1 c
          ∧ r.2.mem ((c.tc : Thread Cert.EvenOddIdeal.nD Cert.EvenOddIdeal.τ).loc Cert.EvenOddIdeal.main_v47_2) = v2 c
          ∧ r.2.mem ((c.tc : Thread Cert.EvenOddIdeal.nD Cert.EvenOddIdeal.τ).loc Cert.EvenOddIdeal.main_v47_3) = v3 c
          ∧ r.2.mem ((c.tc : Thread Cert.EvenOddIdeal.nD Cert.EvenOddIdeal.τ).loc Cert.EvenOddIdeal.main_v47_4) = v4 c
          ∧ r.2.mem ((c.tc : Thread Cert.EvenOddIdeal.nD Cert.EvenOddIdeal.τ).loc Cert.EvenOddIdeal.main_arg0) = m ((c.tc : Thread Cert.EvenOddIdeal.nD Cert.EvenOddIdeal.τ).loc Cert.EvenOddIdeal.main_arg0)
          ∧ r.2.mem ((c.tc : Thread Cert.EvenOddIdeal.nD Cert.EvenOddIdeal.τ).loc Cert.EvenOddIdeal.main_arg1) = m ((c.tc : Thread Cert.EvenOddIdeal.nD Cert.EvenOddIdeal.τ).loc Cert.EvenOddIdeal.main_arg1)
          ∧ r.2.mem ((c.tc : Thread Cert.EvenOddIdeal.nD Cert.EvenOddIdeal.τ).loc Cert.EvenOddIdeal.main_arg2) = m ((c.tc : Thread Cert.EvenOddIdeal.nD Cert.EvenOddIdeal.τ).loc Cert.EvenOddIdeal.main_arg2)
          ∧ r.2.mem ((c.tc : Thread Cert.EvenOddIdeal.nD Cert.EvenOddIdeal.τ).loc Cert.EvenOddIdeal.main_arg3) = m ((c.tc : Thread Cert.EvenOddIdeal.nD Cert.EvenOddIdeal.τ).loc Cert.EvenOddIdeal.main_arg3)
          ∧ r.2.mem ((c.tc : Thread Cert.EvenOddIdeal.nD Cert.EvenOddIdeal.τ).loc Cert.EvenOddIdeal.main_arg4) = m ((c.tc : Thread Cert.EvenOddIdeal.nD Cert.EvenOddIdeal.τ).loc Cert.EvenOddIdeal.main_arg4)
          ∧ r.2.mem ((c.tc : Thread Cert.EvenOddIdeal.nD Cert.EvenOddIdeal.τ).loc Cert.EvenOddIdeal.main_arg5) = m ((c.tc : Thread Cert.EvenOddIdeal.nD Cert.EvenOddIdeal.τ).loc Cert.EvenOddIdeal.main_arg5)
          ∧ r.2.mem ((c.tc : Thread Cert.EvenOddIdeal.nD Cert.EvenOddIdeal.τ).loc Cert.EvenOddIdeal.main_arg6) = m ((c.tc : Thread Cert.EvenOddIdeal.nD Cert.EvenOddIdeal.τ).loc Cert.EvenOddIdeal.main_arg6)
          ∧ r.2.mem ((c.tc : Thread Cert.EvenOddIdeal.nD Cert.EvenOddIdeal.τ).loc Cert.EvenOddIdeal.main_arg7) = m ((c.tc : Thread Cert.EvenOddIdeal.nD Cert.EvenOddIdeal.τ).loc Cert.EvenOddIdeal.main_arg7)
          ∧ r.2.mem ((c.tc : Thread Cert.EvenOddIdeal.nD Cert.EvenOddIdeal.τ).loc Cert.EvenOddIdeal.main_arg8) = m ((c.tc : Thread Cert.EvenOddIdeal.nD Cert.EvenOddIdeal.τ).loc Cert.EvenOddIdeal.main_arg8)
          ∧ r.2.mem ((c.tc : Thread Cert.EvenOddIdeal.nD Cert.EvenOddIdeal.τ).loc Cert.EvenOddIdeal.main_arg9) = m ((c.tc : Thread Cert.EvenOddIdeal.nD Cert.EvenOddIdeal.τ).loc Cert.EvenOddIdeal.main_arg9)
          ∧ r.2.mem ((c.tc : Thread Cert.EvenOddIdeal.nD Cert.EvenOddIdeal.τ).loc Cert.EvenOddIdeal.main_arg10) = m ((c.tc : Thread Cert.EvenOddIdeal.nD Cert.EvenOddIdeal.τ).loc Cert.EvenOddIdeal.main_arg10)
          ∧ r.2.mem ((c.tc : Thread Cert.EvenOddIdeal.nD Cert.EvenOddIdeal.τ).loc Cert.EvenOddIdeal.main_arg11) = m ((c.tc : Thread Cert.EvenOddIdeal.nD Cert.EvenOddIdeal.τ).loc Cert.EvenOddIdeal.main_arg11))
      ∧ θ_run (Cert.EvenOddRefIdeal.defs (F := Ideal)) (onTc (τ := Cert.EvenOddRefIdeal.τ) (Cert.EvenOddRefIdeal.main (F := Ideal))) ⟨m', fun _ => 0, g'⟩ (fun r => ∀ c : Dev Cert.EvenOddRefIdeal.nD,
          r.2.mem ((c.tc : Thread Cert.EvenOddRefIdeal.nD Cert.EvenOddRefIdeal.τ).loc Cert.EvenOddRefIdeal.main_v4) = v0 c
          ∧ r.2.mem ((c.tc : Thread Cert.EvenOddRefIdeal.nD Cert.EvenOddRefIdeal.τ).loc Cert.EvenOddRefIdeal.main_v107) = v1 c
          ∧ r.2.mem ((c.tc : Thread Cert.EvenOddRefIdeal.nD Cert.EvenOddRefIdeal.τ).loc Cert.EvenOddRefIdeal.main_v109) = v2 c
          ∧ r.2.mem ((c.tc : Thread Cert.EvenOddRefIdeal.nD Cert.EvenOddRefIdeal.τ).loc Cert.EvenOddRefIdeal.main_v111) = v3 c
          ∧ r.2.mem ((c.tc : Thread Cert.EvenOddRefIdeal.nD Cert.EvenOddRefIdeal.τ).loc Cert.EvenOddRefIdeal.main_v112) = v4 c
          ∧ r.2.mem ((c.tc : Thread Cert.EvenOddRefIdeal.nD Cert.EvenOddRefIdeal.τ).loc Cert.EvenOddRefIdeal.main_arg0) = m' ((c.tc : Thread Cert.EvenOddRefIdeal.nD Cert.EvenOddRefIdeal.τ).loc Cert.EvenOddRefIdeal.main_arg0)
          ∧ r.2.mem ((c.tc : Thread Cert.EvenOddRefIdeal.nD Cert.EvenOddRefIdeal.τ).loc Cert.EvenOddRefIdeal.main_arg1) = m' ((c.tc : Thread Cert.EvenOddRefIdeal.nD Cert.EvenOddRefIdeal.τ).loc Cert.EvenOddRefIdeal.main_arg1)
          ∧ r.2.mem ((c.tc : Thread Cert.EvenOddRefIdeal.nD Cert.EvenOddRefIdeal.τ).loc Cert.EvenOddRefIdeal.main_arg2) = m' ((c.tc : Thread Cert.EvenOddRefIdeal.nD Cert.EvenOddRefIdeal.τ).loc Cert.EvenOddRefIdeal.main_arg2)
          ∧ r.2.mem ((c.tc : Thread Cert.EvenOddRefIdeal.nD Cert.EvenOddRefIdeal.τ).loc Cert.EvenOddRefIdeal.main_arg3) = m' ((c.tc : Thread Cert.EvenOddRefIdeal.nD Cert.EvenOddRefIdeal.τ).loc Cert.EvenOddRefIdeal.main_arg3)
          ∧ r.2.mem ((c.tc : Thread Cert.EvenOddRefIdeal.nD Cert.EvenOddRefIdeal.τ).loc Cert.EvenOddRefIdeal.main_arg4) = m' ((c.tc : Thread Cert.EvenOddRefIdeal.nD Cert.EvenOddRefIdeal.τ).loc Cert.EvenOddRefIdeal.main_arg4)
          ∧ r.2.mem ((c.tc : Thread Cert.EvenOddRefIdeal.nD Cert.EvenOddRefIdeal.τ).loc Cert.EvenOddRefIdeal.main_arg5) = m' ((c.tc : Thread Cert.EvenOddRefIdeal.nD Cert.EvenOddRefIdeal.τ).loc Cert.EvenOddRefIdeal.main_arg5)
          ∧ r.2.mem ((c.tc : Thread Cert.EvenOddRefIdeal.nD Cert.EvenOddRefIdeal.τ).loc Cert.EvenOddRefIdeal.main_arg6) = m' ((c.tc : Thread Cert.EvenOddRefIdeal.nD Cert.EvenOddRefIdeal.τ).loc Cert.EvenOddRefIdeal.main_arg6)
          ∧ r.2.mem ((c.tc : Thread Cert.EvenOddRefIdeal.nD Cert.EvenOddRefIdeal.τ).loc Cert.EvenOddRefIdeal.main_arg7) = m' ((c.tc : Thread Cert.EvenOddRefIdeal.nD Cert.EvenOddRefIdeal.τ).loc Cert.EvenOddRefIdeal.main_arg7)
          ∧ r.2.mem ((c.tc : Thread Cert.EvenOddRefIdeal.nD Cert.EvenOddRefIdeal.τ).loc Cert.EvenOddRefIdeal.main_arg8) = m' ((c.tc : Thread Cert.EvenOddRefIdeal.nD Cert.EvenOddRefIdeal.τ).loc Cert.EvenOddRefIdeal.main_arg8)
          ∧ r.2.mem ((c.tc : Thread Cert.EvenOddRefIdeal.nD Cert.EvenOddRefIdeal.τ).loc Cert.EvenOddRefIdeal.main_arg9) = m' ((c.tc : Thread Cert.EvenOddRefIdeal.nD Cert.EvenOddRefIdeal.τ).loc Cert.EvenOddRefIdeal.main_arg9)
          ∧ r.2.mem ((c.tc : Thread Cert.EvenOddRefIdeal.nD Cert.EvenOddRefIdeal.τ).loc Cert.EvenOddRefIdeal.main_arg10) = m' ((c.tc : Thread Cert.EvenOddRefIdeal.nD Cert.EvenOddRefIdeal.τ).loc Cert.EvenOddRefIdeal.main_arg10)
          ∧ r.2.mem ((c.tc : Thread Cert.EvenOddRefIdeal.nD Cert.EvenOddRefIdeal.τ).loc Cert.EvenOddRefIdeal.main_arg11) = m' ((c.tc : Thread Cert.EvenOddRefIdeal.nD Cert.EvenOddRefIdeal.τ).loc Cert.EvenOddRefIdeal.main_arg11))

def preserves_Embed_EmbedIdeal : Prop :=
  True

def algebraic_EmbedIdeal_EmbedRefIdeal [hEmbedIdeal : Cert.EmbedIdeal.Facts] [hEmbedRefIdeal : Cert.EmbedRefIdeal.Facts] : Prop :=
  ∀ (m : (ℓ : Loc Cert.EmbedIdeal.nD Cert.EmbedIdeal.τ Cert.EmbedIdeal.sig) → Buf (Elt Ideal) ℓ) (g : Dev Cert.EmbedIdeal.nD → PrngReg)
    (m' : (ℓ : Loc Cert.EmbedRefIdeal.nD Cert.EmbedRefIdeal.τ Cert.EmbedRefIdeal.sig) → Buf (Elt Ideal) ℓ) (g' : Dev Cert.EmbedRefIdeal.nD → PrngReg), Pre_EmbedIdeal m →
    (∀ c : Dev Cert.EmbedIdeal.nD,
      m' ((c.tc : Thread Cert.EmbedRefIdeal.nD Cert.EmbedRefIdeal.τ).loc Cert.EmbedRefIdeal.main_arg0) = m ((c.tc : Thread Cert.EmbedIdeal.nD Cert.EmbedIdeal.τ).loc Cert.EmbedIdeal.main_arg0)
      ∧ m' ((c.tc : Thread Cert.EmbedRefIdeal.nD Cert.EmbedRefIdeal.τ).loc Cert.EmbedRefIdeal.main_arg1) = m ((c.tc : Thread Cert.EmbedIdeal.nD Cert.EmbedIdeal.τ).loc Cert.EmbedIdeal.main_arg1)
      ∧ m' ((c.tc : Thread Cert.EmbedRefIdeal.nD Cert.EmbedRefIdeal.τ).loc Cert.EmbedRefIdeal.main_arg2) = m ((c.tc : Thread Cert.EmbedIdeal.nD Cert.EmbedIdeal.τ).loc Cert.EmbedIdeal.main_arg2)
      ∧ m' ((c.tc : Thread Cert.EmbedRefIdeal.nD Cert.EmbedRefIdeal.τ).loc Cert.EmbedRefIdeal.main_arg3) = m ((c.tc : Thread Cert.EmbedIdeal.nD Cert.EmbedIdeal.τ).loc Cert.EmbedIdeal.main_arg3)) →
    ∃ (v0 : (c : Dev Cert.EmbedIdeal.nD) → Buf (Elt Ideal) ((c.tc : Thread Cert.EmbedIdeal.nD Cert.EmbedIdeal.τ).loc Cert.EmbedIdeal.main_v12_0)) (v1 : (c : Dev Cert.EmbedIdeal.nD) → Buf (Elt Ideal) ((c.tc : Thread Cert.EmbedIdeal.nD Cert.EmbedIdeal.τ).loc Cert.EmbedIdeal.main_v12_1)) (v2 : (c : Dev Cert.EmbedIdeal.nD) → Buf (Elt Ideal) ((c.tc : Thread Cert.EmbedIdeal.nD Cert.EmbedIdeal.τ).loc Cert.EmbedIdeal.main_v12_2)) (v3 : (c : Dev Cert.EmbedIdeal.nD) → Buf (Elt Ideal) ((c.tc : Thread Cert.EmbedIdeal.nD Cert.EmbedIdeal.τ).loc Cert.EmbedIdeal.main_v12_3)) (v4 : (c : Dev Cert.EmbedIdeal.nD) → Buf (Elt Ideal) ((c.tc : Thread Cert.EmbedIdeal.nD Cert.EmbedIdeal.τ).loc Cert.EmbedIdeal.main_v12_4)) (v5 : (c : Dev Cert.EmbedIdeal.nD) → Buf (Elt Ideal) ((c.tc : Thread Cert.EmbedIdeal.nD Cert.EmbedIdeal.τ).loc Cert.EmbedIdeal.main_v12_5)) (v6 : (c : Dev Cert.EmbedIdeal.nD) → Buf (Elt Ideal) ((c.tc : Thread Cert.EmbedIdeal.nD Cert.EmbedIdeal.τ).loc Cert.EmbedIdeal.main_v12_6)) (v7 : (c : Dev Cert.EmbedIdeal.nD) → Buf (Elt Ideal) ((c.tc : Thread Cert.EmbedIdeal.nD Cert.EmbedIdeal.τ).loc Cert.EmbedIdeal.main_v12_7)),
      θ_run (Cert.EmbedIdeal.defs (F := Ideal)) (onTc (τ := Cert.EmbedIdeal.τ) (Cert.EmbedIdeal.main (F := Ideal))) ⟨m, fun _ => 0, g⟩ (fun r => ∀ c : Dev Cert.EmbedIdeal.nD,
          r.2.mem ((c.tc : Thread Cert.EmbedIdeal.nD Cert.EmbedIdeal.τ).loc Cert.EmbedIdeal.main_v12_0) = v0 c
          ∧ r.2.mem ((c.tc : Thread Cert.EmbedIdeal.nD Cert.EmbedIdeal.τ).loc Cert.EmbedIdeal.main_v12_1) = v1 c
          ∧ r.2.mem ((c.tc : Thread Cert.EmbedIdeal.nD Cert.EmbedIdeal.τ).loc Cert.EmbedIdeal.main_v12_2) = v2 c
          ∧ r.2.mem ((c.tc : Thread Cert.EmbedIdeal.nD Cert.EmbedIdeal.τ).loc Cert.EmbedIdeal.main_v12_3) = v3 c
          ∧ r.2.mem ((c.tc : Thread Cert.EmbedIdeal.nD Cert.EmbedIdeal.τ).loc Cert.EmbedIdeal.main_v12_4) = v4 c
          ∧ r.2.mem ((c.tc : Thread Cert.EmbedIdeal.nD Cert.EmbedIdeal.τ).loc Cert.EmbedIdeal.main_v12_5) = v5 c
          ∧ r.2.mem ((c.tc : Thread Cert.EmbedIdeal.nD Cert.EmbedIdeal.τ).loc Cert.EmbedIdeal.main_v12_6) = v6 c
          ∧ r.2.mem ((c.tc : Thread Cert.EmbedIdeal.nD Cert.EmbedIdeal.τ).loc Cert.EmbedIdeal.main_v12_7) = v7 c
          ∧ r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
          ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
          ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2)
          ∧ r.2.mem ((c.tc : Thread Cert.EmbedIdeal.nD Cert.EmbedIdeal.τ).loc Cert.EmbedIdeal.main_arg3) = m ((c.tc : Thread Cert.EmbedIdeal.nD Cert.EmbedIdeal.τ).loc Cert.EmbedIdeal.main_arg3))
      ∧ θ_run (Cert.EmbedRefIdeal.defs (F := Ideal)) (onTc (τ := Cert.EmbedRefIdeal.τ) (Cert.EmbedRefIdeal.main (F := Ideal))) ⟨m', fun _ => 0, g'⟩ (fun r => ∀ c : Dev Cert.EmbedRefIdeal.nD,
          r.2.mem ((c.tc : Thread Cert.EmbedRefIdeal.nD Cert.EmbedRefIdeal.τ).loc Cert.EmbedRefIdeal.main_v4) = v0 c
          ∧ r.2.mem ((c.tc : Thread Cert.EmbedRefIdeal.nD Cert.EmbedRefIdeal.τ).loc Cert.EmbedRefIdeal.main_v27) = v1 c
          ∧ r.2.mem ((c.tc : Thread Cert.EmbedRefIdeal.nD Cert.EmbedRefIdeal.τ).loc Cert.EmbedRefIdeal.main_v28) = v2 c
          ∧ r.2.mem ((c.tc : Thread Cert.EmbedRefIdeal.nD Cert.EmbedRefIdeal.τ).loc Cert.EmbedRefIdeal.main_v29) = v3 c
          ∧ r.2.mem ((c.tc : Thread Cert.EmbedRefIdeal.nD Cert.EmbedRefIdeal.τ).loc Cert.EmbedRefIdeal.main_v30) = v4 c
          ∧ r.2.mem ((c.tc : Thread Cert.EmbedRefIdeal.nD Cert.EmbedRefIdeal.τ).loc Cert.EmbedRefIdeal.main_v31) = v5 c
          ∧ r.2.mem ((c.tc : Thread Cert.EmbedRefIdeal.nD Cert.EmbedRefIdeal.τ).loc Cert.EmbedRefIdeal.main_v32) = v6 c
          ∧ r.2.mem ((c.tc : Thread Cert.EmbedRefIdeal.nD Cert.EmbedRefIdeal.τ).loc Cert.EmbedRefIdeal.main_v33) = v7 c
          ∧ r.2.mem ((c.tc : Thread Cert.EmbedRefIdeal.nD Cert.EmbedRefIdeal.τ).loc Cert.EmbedRefIdeal.main_arg0) = m' ((c.tc : Thread Cert.EmbedRefIdeal.nD Cert.EmbedRefIdeal.τ).loc Cert.EmbedRefIdeal.main_arg0)
          ∧ r.2.mem ((c.tc : Thread Cert.EmbedRefIdeal.nD Cert.EmbedRefIdeal.τ).loc Cert.EmbedRefIdeal.main_arg1) = m' ((c.tc : Thread Cert.EmbedRefIdeal.nD Cert.EmbedRefIdeal.τ).loc Cert.EmbedRefIdeal.main_arg1)
          ∧ r.2.mem ((c.tc : Thread Cert.EmbedRefIdeal.nD Cert.EmbedRefIdeal.τ).loc Cert.EmbedRefIdeal.main_arg2) = m' ((c.tc : Thread Cert.EmbedRefIdeal.nD Cert.EmbedRefIdeal.τ).loc Cert.EmbedRefIdeal.main_arg2)
          ∧ r.2.mem ((c.tc : Thread Cert.EmbedRefIdeal.nD Cert.EmbedRefIdeal.τ).loc Cert.EmbedRefIdeal.main_arg3) = m' ((c.tc : Thread Cert.EmbedRefIdeal.nD Cert.EmbedRefIdeal.τ).loc Cert.EmbedRefIdeal.main_arg3))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v33_0)) (v1 : (c : Dev Cert.RopeIdeal.nD) → Buf (Elt Ideal) ((c.tc : Thread Cert.RopeIdeal.nD Cert.RopeIdeal.τ).loc Cert.RopeIdeal.main_v33_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v33_0) = v0 c
          ∧ r.2.mem ((c.tc : Thread Cert.RopeIdeal.nD Cert.RopeIdeal.τ).loc Cert.RopeIdeal.main_v33_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v29) = v0 c
          ∧ r.2.mem ((c.tc : Thread Cert.RopeRefIdeal.nD Cert.RopeRefIdeal.τ).loc Cert.RopeRefIdeal.main_v31) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def Claim : Prop :=
  ∃ (hLast : Cert.Last.Facts) (hLastIdeal : Cert.LastIdeal.Facts) (hLastRefIdeal : Cert.LastRefIdeal.Facts) (hMid : Cert.Mid.Facts) (hMidIdeal : Cert.MidIdeal.Facts) (hMidRefIdeal : Cert.MidRefIdeal.Facts) (hEvenOdd : Cert.EvenOdd.Facts) (hEvenOddIdeal : Cert.EvenOddIdeal.Facts) (hEvenOddRefIdeal : Cert.EvenOddRefIdeal.Facts) (hEmbed : Cert.Embed.Facts) (hEmbedIdeal : Cert.EmbedIdeal.Facts) (hEmbedRefIdeal : Cert.EmbedRefIdeal.Facts) (hRope : Cert.Rope.Facts) (hRopeIdeal : Cert.RopeIdeal.Facts) (hRopeRefIdeal : Cert.RopeRefIdeal.Facts),
    quiescent_Last (hLast := hLast)
    ∧ quiescent_LastIdeal (hLastIdeal := hLastIdeal)
    ∧ quiescent_LastRefIdeal (hLastRefIdeal := hLastRefIdeal)
    ∧ quiescent_Mid (hMid := hMid)
    ∧ quiescent_MidIdeal (hMidIdeal := hMidIdeal)
    ∧ quiescent_MidRefIdeal (hMidRefIdeal := hMidRefIdeal)
    ∧ quiescent_EvenOdd (hEvenOdd := hEvenOdd)
    ∧ quiescent_EvenOddIdeal (hEvenOddIdeal := hEvenOddIdeal)
    ∧ quiescent_EvenOddRefIdeal (hEvenOddRefIdeal := hEvenOddRefIdeal)
    ∧ quiescent_Embed (hEmbed := hEmbed)
    ∧ quiescent_EmbedIdeal (hEmbedIdeal := hEmbedIdeal)
    ∧ quiescent_EmbedRefIdeal (hEmbedRefIdeal := hEmbedRefIdeal)
    ∧ quiescent_Rope (hRope := hRope)
    ∧ quiescent_RopeIdeal (hRopeIdeal := hRopeIdeal)
    ∧ quiescent_RopeRefIdeal (hRopeRefIdeal := hRopeRefIdeal)
    ∧ preserves_Last_LastIdeal
    ∧ algebraic_LastIdeal_LastRefIdeal (hLastIdeal := hLastIdeal) (hLastRefIdeal := hLastRefIdeal)
    ∧ preserves_Mid_MidIdeal
    ∧ algebraic_MidIdeal_MidRefIdeal (hMidIdeal := hMidIdeal) (hMidRefIdeal := hMidRefIdeal)
    ∧ preserves_EvenOdd_EvenOddIdeal
    ∧ algebraic_EvenOddIdeal_EvenOddRefIdeal (hEvenOddIdeal := hEvenOddIdeal) (hEvenOddRefIdeal := hEvenOddRefIdeal)
    ∧ preserves_Embed_EmbedIdeal
    ∧ algebraic_EmbedIdeal_EmbedRefIdeal (hEmbedIdeal := hEmbedIdeal) (hEmbedRefIdeal := hEmbedRefIdeal)
    ∧ preserves_Rope_RopeIdeal
    ∧ algebraic_RopeIdeal_RopeRefIdeal (hRopeIdeal := hRopeIdeal) (hRopeRefIdeal := hRopeRefIdeal)
-- ==== Last.lean ====
abbrev S17408x1024 : Shape := ⟨2, ![17408, 1024]⟩
abbrev S1024x1024 : Shape := ⟨2, ![1024, 1024]⟩
abbrev S1024 : Shape := ⟨1, ![1024]⟩
abbrev S1x1024 : Shape := ⟨2, ![1, 1024]⟩
abbrev S16384x1024 : Shape := ⟨2, ![16384, 1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S17408x1024, .f32⟩
  | .hbm, ⟨1, _⟩ => ⟨S17408x1024, .bf16⟩
  | .hbm, ⟨2, _⟩ => ⟨S17408x1024, .bf16⟩
  | .hbm, ⟨3, _⟩ => ⟨S1024x1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg0 : BitVec 32 := BitVec.ofNat 32 (i 0).val
  let c2176_i32 : BitVec 32 := 2176#32
  let v0 : BitVec 32 := Scalar.muli arg0 c2176_i32
  let c16_i32 : BitVec 32 := 16#32
  let v1 : BitVec 32 := Scalar.addi v0 c16_i32
  let arg1 : BitVec 32 := BitVec.ofNat 32 (i 1).val
  let c1024_i32 : BitVec 32 := 1024#32
  let v2 : BitVec 32 := Scalar.muli arg1 c1024_i32
  let v3 : BitVec 32 := Scalar.addi v1 v2
  v3
def k0_mult2 (i : grid0.Coords) : BitVec 32 :=
  let arg0 : BitVec 32 := BitVec.ofNat 32 (i 0).val
  let c2176_i32 : BitVec 32 := 2176#32
  let v0 : BitVec 32 := Scalar.muli arg0 c2176_i32
  let c16_i32 : BitVec 32 := 16#32
  let v1 : BitVec 32 := Scalar.addi v0 c16_i32
  let arg1 : BitVec 32 := BitVec.ofNat 32 (i 1).val
  let c1024_i32 : BitVec 32 := 1024#32
  let v2 : BitVec 32 := Scalar.muli arg1 c1024_i32
  let v3 : BitVec 32 := Scalar.addi v1 v2
  v3
def k0_mult3 (i : grid0.Coords) : BitVec 32 :=
  let arg0 : BitVec 32 := BitVec.ofNat 32 (i 0).val
  let c2176_i32 : BitVec 32 := 2176#32
  let v0 : BitVec 32 := Scalar.muli arg0 c2176_i32
  let c16_i32 : BitVec 32 := 16#32
  let v1 : BitVec 32 := Scalar.addi v0 c16_i32
  let arg1 : BitVec 32 := BitVec.ofNat 32 (i 1).val
  let c1024_i32 : BitVec 32 := 1024#32
  let v2 : BitVec 32 := Scalar.muli arg1 c1024_i32
  let v3 : BitVec 32 := Scalar.addi v1 v2
  v3
def cc0_transform_0 (i : grid0.Coords) : Fin 2 → Nat :=
  let arg0 : BitVec 32 := BitVec.ofNat 32 (i 0).val
  let arg1 : BitVec 32 := BitVec.ofNat 32 (i 1).val
  let c2176_i32 : BitVec 32 := 2176#32
  let v0 : BitVec 32 := Scalar.muli arg0 c2176_i32
  let c16_i32 : BitVec 32 := 16#32
  let v1 : BitVec 32 := Scalar.addi v0 c16_i32
  let c1024_i32 : BitVec 32 := 1024#32
  let v2 : BitVec 32 := Scalar.muli arg1 c1024_i32
  let v3 : BitVec 32 := Scalar.addi v1 v2
  let v4 : BitVec 32 := v3
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c2176_i32 : BitVec 32 := 2176#32
  let v0 : BitVec 32 := Scalar.muli arg0 c2176_i32
  let c16_i32 : BitVec 32 := 16#32
  let v1 : BitVec 32 := Scalar.addi v0 c16_i32
  let c1024_i32 : BitVec 32 := 1024#32
  let v2 : BitVec 32 := Scalar.muli arg1 c1024_i32
  let v3 : BitVec 32 := Scalar.addi v1 v2
  let v4 : BitVec 32 := v3
  let c0_i32 : BitVec 32 := 0#32
  let c0_i32_0 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c2176_i32 : BitVec 32 := 2176#32
  let v0 : BitVec 32 := Scalar.muli arg0 c2176_i32
  let c16_i32 : BitVec 32 := 16#32
  let v1 : BitVec 32 := Scalar.addi v0 c16_i32
  let c1024_i32 : BitVec 32 := 1024#32
  let v2 : BitVec 32 := Scalar.muli arg1 c1024_i32
  let v3 : BitVec 32 := Scalar.addi v1 v2
  let v4 : BitVec 32 := v3
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== LastIdeal.lean ====
variable {F : FTy → Type} [FloatOps F] [Named F]
def κ : String → Option EReal := fun
  | "nlog2e" => some ((-((Real.log 2)⁻¹) : ℝ) : EReal)
  | _ => none
-- ==== LastRefIdeal.lean ====
abbrev S17408x1024 : Shape := ⟨2, ![17408, 1024]⟩
abbrev S1024x1024 : Shape := ⟨2, ![1024, 1024]⟩
abbrev S1024 : Shape := ⟨1, ![1024]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S8x2176x1024 : Shape := ⟨3, ![8, 2176, 1024]⟩
abbrev S8x2064x1024 : Shape := ⟨3, ![8, 2064, 1024]⟩
abbrev S8x2048x1024 : Shape := ⟨3, ![8, 2048, 1024]⟩
abbrev S16384x1024 : Shape := ⟨2, ![16384, 1024]⟩

abbrev nBuf : Space → Nat
  | .hbm => 39
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S17408x1024, .bf16⟩
  | .hbm, ⟨2, _⟩ => ⟨S17408x1024, .bf16⟩
  | .hbm, ⟨3, _⟩ => ⟨S1024x1024, .f32⟩
  | .hbm, ⟨4, _⟩ => ⟨S1024, .f32⟩
  | .hbm, ⟨5, _⟩ => ⟨S17408x1024, .f32⟩
  | .hbm, ⟨6, _⟩ => ⟨S17408x1024, .f32⟩
  | .hbm, ⟨7, _⟩ => ⟨S17408x1024, .f32⟩
  | .hbm, ⟨8, _⟩ => ⟨S17408x1024, .f32⟩
  | .hbm, ⟨9, _⟩ => ⟨S_, .f32⟩
  | .hbm, ⟨10, _⟩ => ⟨S17408x1024, .f32⟩
  | .hbm, ⟨11, _⟩ => ⟨S17408x1024, .f32⟩
  | .hbm, ⟨12, _⟩ => ⟨S_, .f32⟩
  | .hbm, ⟨13, _⟩ => ⟨S17408x1024, .f32⟩
  | .hbm, ⟨14, _⟩ => ⟨S17408x1024, .f32⟩
  | .hbm, ⟨15, _⟩ => ⟨S17408x1024, .f32⟩
  | .hbm, ⟨16, _⟩ => ⟨S17408x1024, .f32⟩
  | .hbm, ⟨17, _⟩ => ⟨S17408x1024, .f32⟩
  | .hbm, ⟨18, _⟩ => ⟨S17408x1024, .f32⟩
  | .hbm, ⟨19, _⟩ => ⟨S17408x1024, .f32⟩
  | .hbm, ⟨20, _⟩ => ⟨S_, .f32⟩
  | .hbm, ⟨21, _⟩ => ⟨S17408, .f32⟩
  | .hbm, ⟨22, _⟩ => ⟨S17408x1, .f32⟩
  | .hbm, ⟨23, _⟩ => ⟨S_, .f32⟩
  | .hbm, ⟨24, _⟩ => ⟨S17408x1, .f32⟩
  | .hbm, ⟨25, _⟩ => ⟨S17408x1, .f32⟩
  | .hbm, ⟨26, _⟩ => ⟨S_, .f32⟩
  | .hbm, ⟨27, _⟩ => ⟨S17408x1, .f32⟩
  | .hbm, ⟨28, _⟩ => ⟨S17408x1, .f32⟩
  | .hbm, ⟨29, _⟩ => ⟨S17408x1, .f32⟩
  | .hbm, ⟨30, _⟩ => ⟨S17408x1024, .f32⟩
  | .hbm, ⟨31, _⟩ => ⟨S17408x1024, .f32⟩
  | .hbm, ⟨32, _⟩ => ⟨S1x1024, .f32⟩
  | .hbm, ⟨33, _⟩ => ⟨S17408x1024, .f32⟩
  | .hbm, ⟨34, _⟩ => ⟨S17408x1024, .f32⟩
  | .hbm, ⟨35, _⟩ => ⟨S8x2176x1024, .f32⟩
  | .hbm, ⟨36, _⟩ => ⟨S8x2064x1024, .f32⟩
  | .hbm, ⟨37, _⟩ => ⟨S8x2048x1024, .f32⟩
  | .hbm, ⟨38, _⟩ => ⟨S16384x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Mid.lean ====
abbrev S17408x1024 : Shape := ⟨2, ![17408, 1024]⟩
abbrev S1024x1024 : Shape := ⟨2, ![1024, 1024]⟩
abbrev S1024 : Shape := ⟨1, ![1024]⟩
abbrev S1024x5136 : Shape := ⟨2, ![1024, 5136]⟩
abbrev S1024x512 : Shape := ⟨2, ![1024, 512]⟩
abbrev S1024x16 : Shape := ⟨2, ![1024, 16]⟩
abbrev S_ : Shape := ⟨0, ![]⟩
abbrev S1024x128 : Shape := ⟨2, ![1024, 128]⟩
abbrev S1024x5248 : Shape := ⟨2, ![1024, 5248]⟩
abbrev S1x1024 : Shape := ⟨2, ![1, 1024]⟩
abbrev S17408x512 : Shape := ⟨2, ![17408, 512]⟩
abbrev S17408x128 : Shape := ⟨2, ![17408, 128]⟩
abbrev S512x1024 : Shape := ⟨2, ![512, 1024]⟩
abbrev S512x512 : Shape := ⟨2, ![512, 512]⟩
abbrev S512x128 : Shape := ⟨2, ![512, 128]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S256x128 : Shape := ⟨2, ![256, 128]⟩

abbrev nBuf : Space → Nat
  | .hbm => 28
  | .vmem => 25
  | .smem => 0
  | _ => 0

abbrev bufTy : (tb : Table) → Fin (tcTables nBuf tb) → BufTy
  | .hbm, ⟨0, _⟩ => ⟨S17408x1024, .f32⟩
  | .hbm, ⟨1, _⟩ => ⟨S17408x1024, .bf16⟩
  | .hbm, ⟨2, _⟩ => ⟨S17408x1024, .bf16⟩
  | .hbm, ⟨3, _⟩ => ⟨S1024x1024, .f32⟩
  | .hbm, ⟨4, _⟩ => ⟨S1024, .f32⟩
  | .hbm, ⟨5, _⟩ => ⟨S1024x5136, .f32⟩
  | .hbm, ⟨6, _⟩ => ⟨S1024x1024, .f32⟩
  | .hbm, ⟨7, _⟩ => ⟨S1024x1024, .f32⟩
  | .hbm, ⟨8, _⟩ => ⟨S1024x512, .f32⟩
  | .hbm, ⟨9, _⟩ => ⟨S1024x512, .f32⟩
  | .hbm, ⟨10, _⟩ => ⟨S1024x1024, .f32⟩
  | .hbm, ⟨11, _⟩ => ⟨S1024x16, .f32⟩
  | .hbm, ⟨12, _⟩ => ⟨S1024x1024, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x5248, .f32⟩
  | .hbm, ⟨17, _⟩ => ⟨S1024x5248, .bf16⟩
  | .hbm, ⟨18, _⟩ => ⟨S1024x1024, .bf16⟩
  | .hbm, ⟨19, _⟩ => ⟨S1x1024, .f32⟩
  | .hbm, ⟨20, _⟩ => ⟨S17408x1024, .f32⟩
  | .hbm, ⟨21, _⟩ => ⟨S17408x1024, .bf16⟩
  | .hbm, ⟨22, _⟩ => ⟨S17408x1024, .bf16⟩
  | .hbm, ⟨23, _⟩ => ⟨S17408x512, .bf16⟩
  | .hbm, ⟨24, _⟩ => ⟨S17408x512, .bf16⟩
  | .hbm, ⟨25, _⟩ => ⟨S17408x1024, .bf16⟩
  | .hbm, ⟨26, _⟩ => ⟨S17408x1024, .bf16⟩
  | .hbm, ⟨27, _⟩ => ⟨S17408x128, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x5248, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x128, .bf16⟩
  | .local _ .vmem, ⟨24, _⟩ => ⟨S512x128, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v12_4 : Ref sig .tc := ⟨.hbm, 24, rfl⟩
abbrev main_v12_5 : Ref sig .tc := ⟨.hbm, 25, rfl⟩
abbrev main_v12_6 : Ref sig .tc := ⟨.hbm, 26, rfl⟩
abbrev main_v12_7 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5248 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MidIdeal.lean ====
variable {F : FTy → Type} [FloatOps F] [Named F]
def κ : String → Option EReal := fun
  | "nlog2e" => some ((-((Real.log 2)⁻¹) : ℝ) : EReal)
  | _ => none
-- ==== MidRefIdeal.lean ====
abbrev S17408x1024 : Shape := ⟨2, ![17408, 1024]⟩
abbrev S1024x1024 : Shape := ⟨2, ![1024, 1024]⟩
abbrev S1024 : Shape := ⟨1, ![1024]⟩
abbrev S1024x5136 : Shape := ⟨2, ![1024, 5136]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S17408x5136 : Shape := ⟨2, ![17408, 5136]⟩
abbrev S17408x512 : Shape := ⟨2, ![17408, 512]⟩
abbrev S17408x16 : Shape := ⟨2, ![17408, 16]⟩
abbrev S17408x128 : Shape := ⟨2, ![17408, 128]⟩

abbrev nBuf : Space → Nat
  | .hbm => 54
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S17408x1024, .bf16⟩
  | .hbm, ⟨2, _⟩ => ⟨S17408x1024, .bf16⟩
  | .hbm, ⟨3, _⟩ => ⟨S1024x1024, .f32⟩
  | .hbm, ⟨4, _⟩ => ⟨S1024, .f32⟩
  | .hbm, ⟨5, _⟩ => ⟨S1024x5136, .f32⟩
  | .hbm, ⟨6, _⟩ => ⟨S17408x1024, .f32⟩
  | .hbm, ⟨7, _⟩ => ⟨S17408x1024, .f32⟩
  | .hbm, ⟨8, _⟩ => ⟨S17408x1024, .f32⟩
  | .hbm, ⟨9, _⟩ => ⟨S17408x1024, .f32⟩
  | .hbm, ⟨10, _⟩ => ⟨S_, .f32⟩
  | .hbm, ⟨11, _⟩ => ⟨S17408x1024, .f32⟩
  | .hbm, ⟨12, _⟩ => ⟨S17408x1024, .f32⟩
  | .hbm, ⟨13, _⟩ => ⟨S_, .f32⟩
  | .hbm, ⟨14, _⟩ => ⟨S17408x1024, .f32⟩
  | .hbm, ⟨15, _⟩ => ⟨S17408x1024, .f32⟩
  | .hbm, ⟨16, _⟩ => ⟨S17408x1024, .f32⟩
  | .hbm, ⟨17, _⟩ => ⟨S17408x1024, .f32⟩
  | .hbm, ⟨18, _⟩ => ⟨S17408x1024, .f32⟩
  | .hbm, ⟨19, _⟩ => ⟨S17408x1024, .f32⟩
  | .hbm, ⟨20, _⟩ => ⟨S17408x1024, .f32⟩
  | .hbm, ⟨21, _⟩ => ⟨S_, .f32⟩
  | .hbm, ⟨22, _⟩ => ⟨S17408, .f32⟩
  | .hbm, ⟨23, _⟩ => ⟨S17408x1, .f32⟩
  | .hbm, ⟨24, _⟩ => ⟨S_, .f32⟩
  | .hbm, ⟨25, _⟩ => ⟨S17408x1, .f32⟩
  | .hbm, ⟨26, _⟩ => ⟨S17408x1, .f32⟩
  | .hbm, ⟨27, _⟩ => ⟨S_, .f32⟩
  | .hbm, ⟨28, _⟩ => ⟨S17408x1, .f32⟩
  | .hbm, ⟨29, _⟩ => ⟨S17408x1, .f32⟩
  | .hbm, ⟨30, _⟩ => ⟨S17408x1, .f32⟩
  | .hbm, ⟨31, _⟩ => ⟨S17408x1024, .f32⟩
  | .hbm, ⟨32, _⟩ => ⟨S17408x1024, .f32⟩
  | .hbm, ⟨33, _⟩ => ⟨S1x1024, .f32⟩
  | .hbm, ⟨34, _⟩ => ⟨S17408x1024, .f32⟩
  | .hbm, ⟨35, _⟩ => ⟨S17408x1024, .f32⟩
  | .hbm, ⟨36, _⟩ => ⟨S17408x5136, .f32⟩
  | .hbm, ⟨37, _⟩ => ⟨S17408x1024, .f32⟩
  | .hbm, ⟨38, _⟩ => ⟨S17408x1024, .f32⟩
  | .hbm, ⟨39, _⟩ => ⟨S17408x512, .f32⟩
  | .hbm, ⟨40, _⟩ => ⟨S17408x512, .f32⟩
  | .hbm, ⟨41, _⟩ => ⟨S17408x1024, .f32⟩
  | .hbm, ⟨42, _⟩ => ⟨S17408x16, .f32⟩
  | .hbm, ⟨43, _⟩ => ⟨S17408x1024, .f32⟩
  | .hbm, ⟨44, _⟩ => ⟨S_, .i32⟩
  | .hbm, ⟨45, _⟩ => ⟨S_, .f32⟩
  | .hbm, ⟨46, _⟩ => ⟨S17408x128, .f32⟩
  | .hbm, ⟨47, _⟩ => ⟨S17408x1024, .bf16⟩
  | .hbm, ⟨48, _⟩ => ⟨S17408x1024, .bf16⟩
  | .hbm, ⟨49, _⟩ => ⟨S17408x512, .bf16⟩
  | .hbm, ⟨50, _⟩ => ⟨S17408x512, .bf16⟩
  | .hbm, ⟨51, _⟩ => ⟨S17408x1024, .bf16⟩
  | .hbm, ⟨52, _⟩ => ⟨S17408x1024, .bf16⟩
  | .hbm, ⟨53, _⟩ => ⟨S17408x128, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c : Ref sig .tc := ⟨.hbm, 44, rfl⟩
abbrev main_call1_v0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]
-- ==== EvenOdd.lean ====
abbrev S17408x1024 : Shape := ⟨2, ![17408, 1024]⟩
abbrev S2048x1024 : Shape := ⟨2, ![2048, 1024]⟩
abbrev S1024 : Shape := ⟨1, ![1024]⟩
abbrev S1024x1824 : Shape := ⟨2, ![1024, 1824]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S17408x16 : Shape := ⟨2, ![17408, 16]⟩
abbrev S_ : Shape := ⟨0, ![]⟩
abbrev S17408x48 : Shape := ⟨2, ![17408, 48]⟩
abbrev S17408x128 : Shape := ⟨2, ![17408, 128]⟩
abbrev S1024x512 : Shape := ⟨2, ![1024, 512]⟩
abbrev S1024x256 : Shape := ⟨2, ![1024, 256]⟩
abbrev S1024x32 : Shape := ⟨2, ![1024, 32]⟩
abbrev S1024x1024 : Shape := ⟨2, ![1024, 1024]⟩
abbrev S1024x64 : Shape := ⟨2, ![1024, 64]⟩
abbrev S1024x16 : Shape := ⟨2, ![1024, 16]⟩
abbrev S1024x48 : Shape := ⟨2, ![1024, 48]⟩
abbrev S1024x128 : Shape := ⟨2, ![1024, 128]⟩
abbrev S1024x1920 : Shape := ⟨2, ![1024, 1920]⟩
abbrev S512x16x96 : Shape := ⟨3, ![512, 16, 96]⟩
abbrev S512x16x64 : Shape := ⟨3, ![512, 16, 64]⟩
abbrev S512x16x32 : Shape := ⟨3, ![512, 16, 32]⟩
abbrev S512x16x16 : Shape := ⟨3, ![512, 16, 16]⟩
abbrev S512x16x48 : Shape := ⟨3, ![512, 16, 48]⟩
abbrev S512x16x128 : Shape := ⟨3, ![512, 16, 128]⟩
abbrev S512x2048 : Shape := ⟨2, ![512, 2048]⟩
abbrev S256x16x128 : Shape := ⟨3, ![256, 16, 128]⟩
abbrev S256x16x64 : Shape := ⟨3, ![256, 16, 64]⟩
abbrev S256x16x32 : Shape := ⟨3, ![256, 16, 32]⟩
abbrev S256x16x16 : Shape := ⟨3, ![256, 16, 16]⟩
abbrev S256x16x48 : Shape := ⟨3, ![256, 16, 48]⟩
abbrev S256x1024 : Shape := ⟨2, ![256, 1024]⟩
abbrev S1x1024 : Shape := ⟨2, ![1, 1024]⟩
abbrev S1x512 : Shape := ⟨2, ![1, 512]⟩
abbrev S1x256 : Shape := ⟨2, ![1, 256]⟩
abbrev S17408x2048 : Shape := ⟨2, ![17408, 2048]⟩
abbrev S512x1024 : Shape := ⟨2, ![512, 1024]⟩
abbrev S512x128 : Shape := ⟨2, ![512, 128]⟩
abbrev S512x1 : Shape := ⟨2, ![512, 1]⟩
abbrev S512x512 : Shape := ⟨2, ![512, 512]⟩
abbrev S512x256 : Shape := ⟨2, ![512, 256]⟩
abbrev S256x256 : Shape := ⟨2, ![256, 256]⟩

abbrev nBuf : Space → Nat
  | .hbm => 71
  | .vmem => 28
  | .smem => 0
  | _ => 0

abbrev bufTy : (tb : Table) → Fin (tcTables nBuf tb) → BufTy
  | .hbm, ⟨0, _⟩ => ⟨S17408x1024, .f32⟩
  | .hbm, ⟨1, _⟩ => ⟨S17408x1024, .bf16⟩
  | .hbm, ⟨2, _⟩ => ⟨S17408x1024, .bf16⟩
  | .hbm, ⟨3, _⟩ => ⟨S2048x1024, .f32⟩
  | .hbm, ⟨4, _⟩ => ⟨S1024, .f32⟩
  | .hbm, ⟨5, _⟩ => ⟨S1024x1824, .f32⟩
  | .hbm, ⟨6, _⟩ => ⟨S512, .f32⟩
  | .hbm, ⟨7, _⟩ => ⟨S512x1536, .f32⟩
  | .hbm, ⟨8, _⟩ => ⟨S256, .f32⟩
  | .hbm, ⟨9, _⟩ => ⟨S256x2048, .f32⟩
  | .hbm, ⟨10, _⟩ => ⟨S17408x16, .f32⟩
  | .hbm, ⟨11, _⟩ => ⟨S17408x16, .f32⟩
  | .hbm, ⟨12, _⟩ => ⟨S_, .f32⟩
  | .hbm, ⟨13, _⟩ => ⟨S17408x48, .f32⟩
  | .hbm, ⟨14, _⟩ => ⟨S_, .f32⟩
  | .hbm, ⟨15, _⟩ => ⟨S17408x48, .f32⟩
  | .hbm, ⟨16, _⟩ => ⟨S17408x128, .f32⟩
  | .hbm, ⟨17, _⟩ => ⟨S17408x16, .f32⟩
  | .hbm, ⟨18, _⟩ => ⟨S17408x128, .f32⟩
  | .hbm, ⟨19, _⟩ => ⟨S1024x512, .f32⟩
  | .hbm, ⟨20, _⟩ => ⟨S1024x256, .f32⟩
  | .hbm, ⟨21, _⟩ => ⟨S1024x32, .f32⟩
  | .hbm, ⟨22, _⟩ => ⟨S1024x1024, .f32⟩
  | .hbm, ⟨23, _⟩ => ⟨S_, .f32⟩
  | .hbm, ⟨24, _⟩ => ⟨S1024x64, .f32⟩
  | .hbm, ⟨25, _⟩ => ⟨S1024x16, .f32⟩
  | .hbm, ⟨26, _⟩ => ⟨S1024x48, .f32⟩
  | .hbm, ⟨27, _⟩ => ⟨S1024x16, .f32⟩
  | .hbm, ⟨28, _⟩ => ⟨S1024x16, .f32⟩
  | .hbm, ⟨29, _⟩ => ⟨S_, .f32⟩
  | .hbm, ⟨30, _⟩ => ⟨S1024x32, .f32⟩
  | .hbm, ⟨31, _⟩ => ⟨S1024x128, .f32⟩
  | .hbm, ⟨32, _⟩ => ⟨S1024x1920, .f32⟩
  | .hbm, ⟨33, _⟩ => ⟨S1024x1920, .bf16⟩
  | .hbm, ⟨34, _⟩ => ⟨S512x16x96, .f32⟩
  | .hbm, ⟨35, _⟩ => ⟨S512x16x64, .f32⟩
  | .hbm, ⟨36, _⟩ => ⟨S512x16x32, .f32⟩
  | .hbm, ⟨37, _⟩ => ⟨S512x16x16, .f32⟩
  | .hbm, ⟨38, _⟩ => ⟨S512x16x48, .f32⟩
  | .hbm, ⟨39, _⟩ => ⟨S512x16x16, .f32⟩
  | .hbm, ⟨40, _⟩ => ⟨S512x16x16, .f32⟩
  | .hbm, ⟨41, _⟩ => ⟨S_, .f32⟩
  | .hbm, ⟨42, _⟩ => ⟨S512x16x32, .f32⟩
  | .hbm, ⟨43, _⟩ => ⟨S512x16x128, .f32⟩
  | .hbm, ⟨44, _⟩ => ⟨S512x2048, .f32⟩
  | .hbm, ⟨45, _⟩ => ⟨S256x16x128, .f32⟩
  | .hbm, ⟨46, _⟩ => ⟨S256x16x64, .f32⟩
  | .hbm, ⟨47, _⟩ => ⟨S_, .f32⟩
  | .hbm, ⟨48, _⟩ => ⟨S256x16x32, .f32⟩
  | .hbm, ⟨49, _⟩ => ⟨S256x16x16, .f32⟩
  | .hbm, ⟨50, _⟩ => ⟨S256x16x48, .f32⟩
  | .hbm, ⟨51, _⟩ => ⟨S256x16x16, .f32⟩
  | .hbm, ⟨52, _⟩ => ⟨S256x16x16, .f32⟩
  | .hbm, ⟨53, _⟩ => ⟨S_, .f32⟩
  | .hbm, ⟨54, _⟩ => ⟨S256x16x32, .f32⟩
  | .hbm, ⟨55, _⟩ => ⟨S256x16x128, .f32⟩
  | .hbm, ⟨56, _⟩ => ⟨S256x2048, .f32⟩
  | .hbm, ⟨57, _⟩ => ⟨S256x16x64, .f32⟩
  | .hbm, ⟨58, _⟩ => ⟨S256x1024, .f32⟩
  | .hbm, ⟨59, _⟩ => ⟨S512x2048, .bf16⟩
  | .hbm, ⟨60, _⟩ => ⟨S256x2048, .bf16⟩
  | .hbm, ⟨61, _⟩ => ⟨S256x1024, .bf16⟩
  | .hbm, ⟨62, _⟩ => ⟨S1x1024, .f32⟩
  | .hbm, ⟨63, _⟩ => ⟨S1x512, .f32⟩
  | .hbm, ⟨64, _⟩ => ⟨S1x256, .f32⟩
  | .hbm, ⟨65, _⟩ => ⟨S2048x1024, .bf16⟩
  | .hbm, ⟨66, _⟩ => ⟨S17408x1024, .f32⟩
  | .hbm, ⟨67, _⟩ => ⟨S17408x2048, .bf16⟩
  | .hbm, ⟨68, _⟩ => ⟨S17408x2048, .bf16⟩
  | .hbm, ⟨69, _⟩ => ⟨S17408x1024, .bf16⟩
  | .hbm, ⟨70, _⟩ => ⟨S17408x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x1024, .bf16⟩
  | .local _ .vmem, ⟨7, _⟩ => ⟨S1x1024, .f32⟩
  | .local _ .vmem, ⟨8, _⟩ => ⟨S1024x1920, .bf16⟩
  | .local _ .vmem, ⟨9, _⟩ => ⟨S1x512, .f32⟩
  | .local _ .vmem, ⟨10, _⟩ => ⟨S512x2048, .bf16⟩
  | .local _ .vmem, ⟨11, _⟩ => ⟨S1x256, .f32⟩
  | .local _ .vmem, ⟨12, _⟩ => ⟨S256x2048, .bf16⟩
  | .local _ .vmem, ⟨13, _⟩ => ⟨S256x1024, .bf16⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x1024, .f32⟩
  | .local _ .vmem, ⟨19, _⟩ => ⟨S512x1024, .f32⟩
  | .local _ .vmem, ⟨20, _⟩ => ⟨S512x2048, .bf16⟩
  | .local _ .vmem, ⟨21, _⟩ => ⟨S512x2048, .bf16⟩
  | .local _ .vmem, ⟨22, _⟩ => ⟨S512x2048, .bf16⟩
  | .local _ .vmem, ⟨23, _⟩ => ⟨S512x2048, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47_0 : Ref sig .tc := ⟨.hbm, 66, rfl⟩
abbrev main_v47_1 : Ref sig .tc := ⟨.hbm, 67, rfl⟩
abbrev main_v47_2 : Ref sig .tc := ⟨.hbm, 68, rfl⟩
abbrev main_v47_3 : Ref sig .tc := ⟨.hbm, 69, rfl⟩
abbrev main_v47_4 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1920 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== EvenOddIdeal.lean ====
variable {F : FTy → Type} [FloatOps F] [Named F]
def κ : String → Option EReal := fun
  | "qscale" => some (((Real.log 2)⁻¹ * (Real.sqrt 96)⁻¹ : ℝ) : EReal)
  | _ => none
-- ==== EvenOddRefIdeal.lean ====
abbrev S17408x1024 : Shape := ⟨2, ![17408, 1024]⟩
abbrev S2048x1024 : Shape := ⟨2, ![2048, 1024]⟩
abbrev S1024 : Shape := ⟨1, ![1024]⟩
abbrev S1024x1824 : Shape := ⟨2, ![1024, 1824]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S17408x16 : Shape := ⟨2, ![17408, 16]⟩
abbrev S17408x2048 : Shape := ⟨2, ![17408, 2048]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S17408x1824 : Shape := ⟨2, ![17408, 1824]⟩
abbrev S17408x512 : Shape := ⟨2, ![17408, 512]⟩
abbrev S17408x256 : Shape := ⟨2, ![17408, 256]⟩
abbrev S17408x32 : Shape := ⟨2, ![17408, 32]⟩
abbrev S1x512 : Shape := ⟨2, ![1, 512]⟩
abbrev S17408x1536 : Shape := ⟨2, ![17408, 1536]⟩
abbrev S17408x16x96 : Shape := ⟨3, ![17408, 16, 96]⟩
abbrev S17408x16x64 : Shape := ⟨3, ![17408, 16, 64]⟩
abbrev S17408x16x32 : Shape := ⟨3, ![17408, 16, 32]⟩
abbrev S1x256 : Shape := ⟨2, ![1, 256]⟩
abbrev S17408x16x128 : Shape := ⟨3, ![17408, 16, 128]⟩
abbrev S17408x1x16 : Shape := ⟨3, ![17408, 1, 16]⟩
abbrev S17408x16x16 : Shape := ⟨3, ![17408, 16, 16]⟩
abbrev S17408x1x32 : Shape := ⟨3, ![17408, 1, 32]⟩
abbrev S17408x16x48 : Shape := ⟨3, ![17408, 16, 48]⟩

abbrev nBuf : Space → Nat
  | .hbm => 139
  | .vmem => 0
  | .smem => 0
  | _ => 0

abbrev hbmTy0_0 (i : Nat) : BufTy := match i % 128 with
  | 0 => ⟨S17408x1024, .f32⟩
  | 1 => ⟨S17408x1024, .bf16⟩
  | 2 => ⟨S17408x1024, .bf16⟩
  | 3 => ⟨S2048x1024, .f32⟩
  | 4 => ⟨S1024, .f32⟩
  | 5 => ⟨S1024x1824, .f32⟩
  | 6 => ⟨S512, .f32⟩
  | 7 => ⟨S512x1536, .f32⟩
  | 8 => ⟨S256, .f32⟩
  | 9 => ⟨S256x2048, .f32⟩
  | 10 => ⟨S17408x16, .f32⟩
  | 11 => ⟨S17408x16, .f32⟩
  | 12 => ⟨S17408x1024, .f32⟩
  | 13 => ⟨S17408x1024, .f32⟩
  | 14 => ⟨S17408x2048, .f32⟩
  | 15 => ⟨S17408x1024, .f32⟩
  | 16 => ⟨S17408x1024, .f32⟩
  | 17 => ⟨S17408x1024, .f32⟩
  | 18 => ⟨S_, .f32⟩
  | 19 => ⟨S17408, .f32⟩
  | 20 => ⟨S17408x1, .f32⟩
  | 21 => ⟨S_, .f32⟩
  | 22 => ⟨S17408x1, .f32⟩
  | 23 => ⟨S17408x1, .f32⟩
  | 24 => ⟨S_, .f32⟩
  | 25 => ⟨S17408x1, .f32⟩
  | 26 => ⟨S17408x1, .f32⟩
  | 27 => ⟨S17408x1, .f32⟩
  | 28 => ⟨S17408x1024, .f32⟩
  | 29 => ⟨S17408x1024, .f32⟩
  | 30 => ⟨S1x1024, .f32⟩
  | 31 => ⟨S17408x1024, .f32⟩
  | 32 => ⟨S17408x1024, .f32⟩
  | 33 => ⟨S17408x1824, .f32⟩
  | 34 => ⟨S17408x512, .f32⟩
  | 35 => ⟨S17408x256, .f32⟩
  | 36 => ⟨S17408x32, .f32⟩
  | 37 => ⟨S17408x1024, .f32⟩
  | 38 => ⟨S17408x512, .f32⟩
  | 39 => ⟨S_, .f32⟩
  | 40 => ⟨S17408, .f32⟩
  | 41 => ⟨S17408x1, .f32⟩
  | 42 => ⟨S_, .f32⟩
  | 43 => ⟨S17408x1, .f32⟩
  | 44 => ⟨S17408x1, .f32⟩
  | 45 => ⟨S_, .f32⟩
  | 46 => ⟨S17408x1, .f32⟩
  | 47 => ⟨S17408x1, .f32⟩
  | 48 => ⟨S17408x1, .f32⟩
  | 49 => ⟨S17408x512, .f32⟩
  | 50 => ⟨S17408x512, .f32⟩
  | 51 => ⟨S1x512, .f32⟩
  | 52 => ⟨S17408x512, .f32⟩
  | 53 => ⟨S17408x512, .f32⟩
  | 54 => ⟨S17408x1536, .f32⟩
  | 55 => ⟨S17408x16x96, .f32⟩
  | 56 => ⟨S17408x16x64, .f32⟩
  | 57 => ⟨S17408x16x32, .f32⟩
  | 58 => ⟨S17408x256, .f32⟩
  | 59 => ⟨S_, .f32⟩
  | 60 => ⟨S17408, .f32⟩
  | 61 => ⟨S17408x1, .f32⟩
  | 62 => ⟨S_, .f32⟩
  | 63 => ⟨S17408x1, .f32⟩
  | 64 => ⟨S17408x1, .f32⟩
  | 65 => ⟨S_, .f32⟩
  | 66 => ⟨S17408x1, .f32⟩
  | 67 => ⟨S17408x1, .f32⟩
  | 68 => ⟨S17408x1, .f32⟩
  | 69 => ⟨S17408x256, .f32⟩
  | 70 => ⟨S17408x256, .f32⟩
  | 71 => ⟨S1x256, .f32⟩
  | 72 => ⟨S17408x256, .f32⟩
  | 73 => ⟨S17408x256, .f32⟩
  | 74 => ⟨S17408x2048, .f32⟩
  | 75 => ⟨S17408x16x128, .f32⟩
  | 76 => ⟨S17408x16x64, .f32⟩
  | 77 => ⟨S17408x16x64, .f32⟩
  | 78 => ⟨S17408x1x16, .f32⟩
  | 79 => ⟨S17408x1x16, .f32⟩
  | 80 => ⟨S17408x16x16, .f32⟩
  | 81 => ⟨S17408x16x16, .f32⟩
  | 82 => ⟨S17408x16x16, .f32⟩
  | 83 => ⟨S17408x16x16, .f32⟩
  | 84 => ⟨S17408x16x16, .f32⟩
  | 85 => ⟨S17408x16x16, .f32⟩
  | 86 => ⟨S17408x16x16, .f32⟩
  | 87 => ⟨S17408x16x16, .f32⟩
  | 88 => ⟨S17408x16x16, .f32⟩
  | 89 => ⟨S17408x16x16, .f32⟩
  | 90 => ⟨S17408x16x16, .f32⟩
  | 91 => ⟨S17408x16x16, .f32⟩
  | 92 => ⟨S17408x16x32, .f32⟩
  | 93 => ⟨S17408x16, .f32⟩
  | 94 => ⟨S17408x16, .f32⟩
  | 95 => ⟨S17408x16, .f32⟩
  | 96 => ⟨S17408x16, .f32⟩
  | 97 => ⟨S17408x16, .f32⟩
  | 98 => ⟨S17408x16, .f32⟩
  | 99 => ⟨S17408x16, .f32⟩
  | 100 => ⟨S17408x16, .f32⟩
  | 101 => ⟨S17408x32, .f32⟩
  | 102 => ⟨S17408x1x32, .f32⟩
  | 103 => ⟨S17408x16x32, .f32⟩
  | 104 => ⟨S_, .f32⟩
  | 105 => ⟨S_, .f32⟩
  | 106 => ⟨S17408x16x64, .f32⟩
  | 107 => ⟨S17408x16x64, .f32⟩
  | 108 => ⟨S_, .f32⟩
  | 109 => ⟨S_, .f32⟩
  | 110 => ⟨S17408x16x64, .f32⟩
  | 111 => ⟨S17408x16x64, .f32⟩
  | 112 => ⟨S_, .f32⟩
  | 113 => ⟨S_, .f32⟩
  | 114 => ⟨S17408x16x32, .f32⟩
  | 115 => ⟨S17408x16x32, .f32⟩
  | 116 => ⟨S_, .f32⟩
  | 117 => ⟨S_, .f32⟩
  | 118 => ⟨S17408x16x32, .f32⟩
  | 119 => ⟨S17408x16x32, .f32⟩
  | 120 => ⟨S_, .f32⟩
  | 121 => ⟨S17408x16x32, .f32⟩
  | 122 => ⟨S17408x16x16, .f32⟩
  | 123 => ⟨S17408x16x48, .f32⟩
  | 124 => ⟨S17408x16x16, .f32⟩
  | 125 => ⟨S17408x16x16, .f32⟩
  | 126 => ⟨S17408x16x128, .f32⟩
  | 127 => ⟨S17408x16x16, .f32⟩
  | _ => ⟨S17408x1024, .f32⟩

abbrev hbmTy0_1 (i : Nat) : BufTy := match i % 128 with
  | 0 => ⟨S17408x16x48, .f32⟩
  | 1 => ⟨S17408x16x16, .f32⟩
  | 2 => ⟨S17408x16x16, .f32⟩
  | 3 => ⟨S17408x16x128, .f32⟩
  | 4 => ⟨S17408x2048, .f32⟩
  | 5 => ⟨S17408x2048, .bf16⟩
  | 6 => ⟨S17408x2048, .f32⟩
  | 7 => ⟨S17408x2048, .bf16⟩
  | 8 => ⟨S17408x1024, .f32⟩
  | 9 => ⟨S17408x1024, .bf16⟩
  | 10 => ⟨S17408x1024, .bf16⟩
  | _ => ⟨S17408x1024, .f32⟩

abbrev hbmTy (i : Nat) : BufTy := match i / 128 with
  | 0 => hbmTy0_0 i
  | 1 => hbmTy0_1 i
  | _ => ⟨S17408x1024, .f32⟩

abbrev bufTy : (tb : Table) → Fin (tcTables nBuf tb) → BufTy
  | .hbm, ⟨i, _⟩ => hbmTy i
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_8 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_9 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_10 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_11 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_12 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩

abbrev nD : Nat := 1
abbrev τ : Topo := Topo.v7x

variable {F : FTy → Type} [FloatOps F]
-- ==== Embed.lean ====
abbrev S8x2048x1024 : Shape := ⟨3, ![8, 2048, 1024]⟩
abbrev S16x1024 : Shape := ⟨2, ![16, 1024]⟩
abbrev S1024 : Shape := ⟨1, ![1024]⟩
abbrev S1024x5136 : Shape := ⟨2, ![1024, 5136]⟩
abbrev S1024x1024 : Shape := ⟨2, ![1024, 1024]⟩
abbrev S1024x512 : Shape := ⟨2, ![1024, 512]⟩
abbrev S1024x16 : Shape := ⟨2, ![1024, 16]⟩
abbrev S_ : Shape := ⟨0, ![]⟩
abbrev S1024x128 : Shape := ⟨2, ![1024, 128]⟩
abbrev S1024x5248 : Shape := ⟨2, ![1024, 5248]⟩
abbrev S1x1024 : Shape := ⟨2, ![1, 1024]⟩
abbrev S16384x1024 : Shape := ⟨2, ![16384, 1024]⟩
abbrev S17408x1024 : Shape := ⟨2, ![17408, 1024]⟩
abbrev S17408x512 : Shape := ⟨2, ![17408, 512]⟩
abbrev S17408x128 : Shape := ⟨2, ![17408, 128]⟩
abbrev S544x1024 : Shape := ⟨2, ![544, 1024]⟩
abbrev S544x512 : Shape := ⟨2, ![544, 512]⟩
abbrev S544x128 : Shape := ⟨2, ![544, 128]⟩
abbrev S528x1024 : Shape := ⟨2, ![528, 1024]⟩
abbrev S432x1024 : Shape := ⟨2, ![432, 1024]⟩
abbrev S112x1024 : Shape := ⟨2, ![112, 1024]⟩
abbrev S272x1024 : Shape := ⟨2, ![272, 1024]⟩
abbrev S272 : Shape := ⟨1, ![272]⟩
abbrev S272x1 : Shape := ⟨2, ![272, 1]⟩
abbrev S272x512 : Shape := ⟨2, ![272, 512]⟩
abbrev S272x128 : Shape := ⟨2, ![272, 128]⟩

abbrev nBuf : Space → Nat
  | .hbm => 26
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S16x1024, .f32⟩
  | .hbm, ⟨2, _⟩ => ⟨S1024, .f32⟩
  | .hbm, ⟨3, _⟩ => ⟨S1024x5136, .f32⟩
  | .hbm, ⟨4, _⟩ => ⟨S1024x1024, .f32⟩
  | .hbm, ⟨5, _⟩ => ⟨S1024x1024, .f32⟩
  | .hbm, ⟨6, _⟩ => ⟨S1024x512, .f32⟩
  | .hbm, ⟨7, _⟩ => ⟨S1024x512, .f32⟩
  | .hbm, ⟨8, _⟩ => ⟨S1024x1024, .f32⟩
  | .hbm, ⟨9, _⟩ => ⟨S1024x16, .f32⟩
  | .hbm, ⟨10, _⟩ => ⟨S1024x1024, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x5248, .f32⟩
  | .hbm, ⟨15, _⟩ => ⟨S1024x5248, .bf16⟩
  | .hbm, ⟨16, _⟩ => ⟨S1x1024, .f32⟩
  | .hbm, ⟨17, _⟩ => ⟨S16384x1024, .f32⟩
  | .hbm, ⟨18, _⟩ => ⟨S17408x1024, .f32⟩
  | .hbm, ⟨19, _⟩ => ⟨S17408x1024, .bf16⟩
  | .hbm, ⟨20, _⟩ => ⟨S17408x1024, .bf16⟩
  | .hbm, ⟨21, _⟩ => ⟨S17408x512, .bf16⟩
  | .hbm, ⟨22, _⟩ => ⟨S17408x512, .bf16⟩
  | .hbm, ⟨23, _⟩ => ⟨S17408x1024, .bf16⟩
  | .hbm, ⟨24, _⟩ => ⟨S17408x1024, .bf16⟩
  | .hbm, ⟨25, _⟩ => ⟨S17408x128, .bf16⟩
  | .local _ .vmem, ⟨0, _⟩ => ⟨S544x1024, .f32⟩
  | .local _ .vmem, ⟨1, _⟩ => ⟨S544x1024, .f32⟩
  | .local _ .vmem, ⟨2, _⟩ => ⟨S16x1024, .f32⟩
  | .local _ .vmem, ⟨3, _⟩ => ⟨S1x1024, .f32⟩
  | .local _ .vmem, ⟨4, _⟩ => ⟨S1024x5248, .bf16⟩
  | .local _ .vmem, ⟨5, _⟩ => ⟨S544x1024, .f32⟩
  | .local _ .vmem, ⟨6, _⟩ => ⟨S544x1024, .f32⟩
  | .local _ .vmem, ⟨7, _⟩ => ⟨S544x1024, .bf16⟩
  | .local _ .vmem, ⟨8, _⟩ => ⟨S544x1024, .bf16⟩
  | .local _ .vmem, ⟨9, _⟩ => ⟨S544x1024, .bf16⟩
  | .local _ .vmem, ⟨10, _⟩ => ⟨S544x1024, .bf16⟩
  | .local _ .vmem, ⟨11, _⟩ => ⟨S544x512, .bf16⟩
  | .local _ .vmem, ⟨12, _⟩ => ⟨S544x512, .bf16⟩
  | .local _ .vmem, ⟨13, _⟩ => ⟨S544x512, .bf16⟩
  | .local _ .vmem, ⟨14, _⟩ => ⟨S544x512, .bf16⟩
  | .local _ .vmem, ⟨15, _⟩ => ⟨S544x1024, .bf16⟩
  | .local _ .vmem, ⟨16, _⟩ => ⟨S544x1024, .bf16⟩
  | .local _ .vmem, ⟨17, _⟩ => ⟨S544x1024, .bf16⟩
  | .local _ .vmem, ⟨18, _⟩ => ⟨S544x1024, .bf16⟩
  | .local _ .vmem, ⟨19, _⟩ => ⟨S544x128, .bf16⟩
  | .local _ .vmem, ⟨20, _⟩ => ⟨S544x128, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev main_v12_4 : Ref sig .tc := ⟨.hbm, 22, rfl⟩
abbrev main_v12_5 : Ref sig .tc := ⟨.hbm, 23, rfl⟩
abbrev main_v12_6 : Ref sig .tc := ⟨.hbm, 24, rfl⟩
abbrev main_v12_7 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg0 : BitVec 32 := BitVec.ofNat 32 (i 0).val
  let c2048_i32 : BitVec 32 := 2048#32
  let v4 : BitVec 32 := Scalar.muli arg0 c2048_i32
  let c1504_i32 : BitVec 32 := 1504#32
  let c0_i32 : BitVec 32 := 0#32
  let arg1 : BitVec 32 := BitVec.ofNat 32 (i 1).val
  let c544_i32 : BitVec 32 := 544#32
  let v0 : BitVec 32 := Scalar.muli arg1 c544_i32
  let c16_i32 : BitVec 32 := 16#32
  let v1 : BitVec 32 := Scalar.subi v0 c16_i32
  let v2 : BitVec 32 := Scalar.maxsi c0_i32 v1
  let v3 : BitVec 32 := Scalar.minsi c1504_i32 v2
  let v5 : BitVec 32 := Scalar.addi v4 v3
  v5
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c544_i32 : BitVec 32 := 544#32
  let v0 : BitVec 32 := Scalar.muli arg1 c544_i32
  let c16_i32 : BitVec 32 := 16#32
  let v1 : BitVec 32 := Scalar.subi v0 c16_i32
  let c0_i32 : BitVec 32 := 0#32
  let c1504_i32 : BitVec 32 := 1504#32
  let v2 : BitVec 32 := Scalar.maxsi c0_i32 v1
  let v3 : BitVec 32 := Scalar.minsi c1504_i32 v2
  let c2048_i32 : BitVec 32 := 2048#32
  let v4 : BitVec 32 := Scalar.muli arg0 c2048_i32
  let v5 : BitVec 32 := Scalar.addi v4 v3
  let v6 : BitVec 32 := v5
  let c0_i32_0 : BitVec 32 := 0#32
  let c0_i32_1 : BitVec 32 := 0#32
  ![v6.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5248 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S544x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S544x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S544x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S544x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S544x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S544x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== EmbedRefIdeal.lean ====
abbrev S8x2048x1024 : Shape := ⟨3, ![8, 2048, 1024]⟩
abbrev S16x1024 : Shape := ⟨2, ![16, 1024]⟩
abbrev S1024 : Shape := ⟨1, ![1024]⟩
abbrev S1024x5136 : Shape := ⟨2, ![1024, 5136]⟩
abbrev S1x16x1024 : Shape := ⟨3, ![1, 16, 1024]⟩
abbrev S8x16x1024 : Shape := ⟨3, ![8, 16, 1024]⟩
abbrev S8x2064x1024 : Shape := ⟨3, ![8, 2064, 1024]⟩
abbrev S_ : Shape := ⟨0, ![]⟩
abbrev S8x2176x1024 : Shape := ⟨3, ![8, 2176, 1024]⟩
abbrev S17408x1024 : Shape := ⟨2, ![17408, 1024]⟩
abbrev S17408 : Shape := ⟨1, ![17408]⟩
abbrev S17408x1 : Shape := ⟨2, ![17408, 1]⟩
abbrev S1x1024 : Shape := ⟨2, ![1, 1024]⟩
abbrev S17408x5136 : Shape := ⟨2, ![17408, 5136]⟩
abbrev S17408x512 : Shape := ⟨2, ![17408, 512]⟩
abbrev S17408x16 : Shape := ⟨2, ![17408, 16]⟩
abbrev S17408x128 : Shape := ⟨2, ![17408, 128]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16x1024, .f32⟩
  | .hbm, ⟨2, _⟩ => ⟨S1024, .f32⟩
  | .hbm, ⟨3, _⟩ => ⟨S1024x5136, .f32⟩
  | .hbm, ⟨4, _⟩ => ⟨S1x16x1024, .f32⟩
  | .hbm, ⟨5, _⟩ => ⟨S8x16x1024, .f32⟩
  | .hbm, ⟨6, _⟩ => ⟨S8x2064x1024, .f32⟩
  | .hbm, ⟨7, _⟩ => ⟨S_, .i32⟩
  | .hbm, ⟨8, _⟩ => ⟨S_, .f32⟩
  | .hbm, ⟨9, _⟩ => ⟨S8x2176x1024, .f32⟩
  | .hbm, ⟨10, _⟩ => ⟨S17408x1024, .f32⟩
  | .hbm, ⟨11, _⟩ => ⟨S17408x1024, .f32⟩
  | .hbm, ⟨12, _⟩ => ⟨S_, .f32⟩
  | .hbm, ⟨13, _⟩ => ⟨S17408, .f32⟩
  | .hbm, ⟨14, _⟩ => ⟨S17408x1, .f32⟩
  | .hbm, ⟨15, _⟩ => ⟨S_, .f32⟩
  | .hbm, ⟨16, _⟩ => ⟨S17408x1, .f32⟩
  | .hbm, ⟨17, _⟩ => ⟨S17408x1, .f32⟩
  | .hbm, ⟨18, _⟩ => ⟨S_, .f32⟩
  | .hbm, ⟨19, _⟩ => ⟨S17408x1, .f32⟩
  | .hbm, ⟨20, _⟩ => ⟨S17408x1, .f32⟩
  | .hbm, ⟨21, _⟩ => ⟨S17408x1, .f32⟩
  | .hbm, ⟨22, _⟩ => ⟨S17408x1024, .f32⟩
  | .hbm, ⟨23, _⟩ => ⟨S17408x1024, .f32⟩
  | .hbm, ⟨24, _⟩ => ⟨S1x1024, .f32⟩
  | .hbm, ⟨25, _⟩ => ⟨S17408x1024, .f32⟩
  | .hbm, ⟨26, _⟩ => ⟨S17408x1024, .f32⟩
  | .hbm, ⟨27, _⟩ => ⟨S17408x5136, .f32⟩
  | .hbm, ⟨28, _⟩ => ⟨S17408x1024, .f32⟩
  | .hbm, ⟨29, _⟩ => ⟨S17408x1024, .f32⟩
  | .hbm, ⟨30, _⟩ => ⟨S17408x512, .f32⟩
  | .hbm, ⟨31, _⟩ => ⟨S17408x512, .f32⟩
  | .hbm, ⟨32, _⟩ => ⟨S17408x1024, .f32⟩
  | .hbm, ⟨33, _⟩ => ⟨S17408x16, .f32⟩
  | .hbm, ⟨34, _⟩ => ⟨S17408x1024, .f32⟩
  | .hbm, ⟨35, _⟩ => ⟨S_, .i32⟩
  | .hbm, ⟨36, _⟩ => ⟨S_, .f32⟩
  | .hbm, ⟨37, _⟩ => ⟨S17408x128, .f32⟩
  | .hbm, ⟨38, _⟩ => ⟨S17408x1024, .bf16⟩
  | .hbm, ⟨39, _⟩ => ⟨S17408x1024, .bf16⟩
  | .hbm, ⟨40, _⟩ => ⟨S17408x512, .bf16⟩
  | .hbm, ⟨41, _⟩ => ⟨S17408x512, .bf16⟩
  | .hbm, ⟨42, _⟩ => ⟨S17408x1024, .bf16⟩
  | .hbm, ⟨43, _⟩ => ⟨S17408x1024, .bf16⟩
  | .hbm, ⟨44, _⟩ => ⟨S17408x128, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_call1_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Rope.lean ====
abbrev S8x2048 : Shape := ⟨2, ![8, 2048]⟩
abbrev S16 : Shape := ⟨1, ![16]⟩
abbrev S1x16 : Shape := ⟨2, ![1, 16]⟩
abbrev S8x16 : Shape := ⟨2, ![8, 16]⟩
abbrev S_ : Shape := ⟨0, ![]⟩
abbrev S8x112 : Shape := ⟨2, ![8, 112]⟩
abbrev S8x2176 : Shape := ⟨2, ![8, 2176]⟩
abbrev S17408x1 : Shape := ⟨2, ![17408, 1]⟩
abbrev S32 : Shape := ⟨1, ![32]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S17408x128 : Shape := ⟨2, ![17408, 128]⟩
abbrev S1088x1 : Shape := ⟨2, ![1088, 1]⟩
abbrev S1088x128 : Shape := ⟨2, ![1088, 128]⟩
abbrev S272x128 : Shape := ⟨2, ![272, 128]⟩
abbrev S272x1 : Shape := ⟨2, ![272, 1]⟩

abbrev nBuf : Space → Nat
  | .hbm => 44
  | .vmem => 8
  | .smem => 0
  | _ => 0

abbrev bufTy : (tb : Table) → Fin (tcTables nBuf tb) → BufTy
  | .hbm, ⟨0, _⟩ => ⟨S8x2048, .i32⟩
  | .hbm, ⟨1, _⟩ => ⟨S16, .i32⟩
  | .hbm, ⟨2, _⟩ => ⟨S1x16, .i32⟩
  | .hbm, ⟨3, _⟩ => ⟨S8x16, .i32⟩
  | .hbm, ⟨4, _⟩ => ⟨S_, .i32⟩
  | .hbm, ⟨5, _⟩ => ⟨S8x2048, .i32⟩
  | .hbm, ⟨6, _⟩ => ⟨S8x2048, .i32⟩
  | .hbm, ⟨7, _⟩ => ⟨S_, .i32⟩
  | .hbm, ⟨8, _⟩ => ⟨S8x112, .i32⟩
  | .hbm, ⟨9, _⟩ => ⟨S8x2176, .i32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S8x2176, .f32⟩
  | .hbm, ⟨25, _⟩ => ⟨S17408x1, .f32⟩
  | .hbm, ⟨26, _⟩ => ⟨S_, .f32⟩
  | .hbm, ⟨27, _⟩ => ⟨S16, .f32⟩
  | .hbm, ⟨28, _⟩ => ⟨S32, .f32⟩
  | .hbm, ⟨29, _⟩ => ⟨S1x32, .f32⟩
  | .hbm, ⟨30, _⟩ => ⟨S4x32, .f32⟩
  | .hbm, ⟨31, _⟩ => ⟨S128, .f32⟩
  | .hbm, ⟨32, _⟩ => ⟨S1x128, .f32⟩
  | .hbm, ⟨33, _⟩ => ⟨S_, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S32, .f32⟩
  | .hbm, ⟨38, _⟩ => ⟨S1x32, .f32⟩
  | .hbm, ⟨39, _⟩ => ⟨S4x32, .f32⟩
  | .hbm, ⟨40, _⟩ => ⟨S128, .f32⟩
  | .hbm, ⟨41, _⟩ => ⟨S1x128, .f32⟩
  | .hbm, ⟨42, _⟩ => ⟨S17408x128, .f32⟩
  | .hbm, ⟨43, _⟩ => ⟨S17408x128, .f32⟩
  | .local _ .vmem, ⟨0, _⟩ => ⟨S1088x1, .f32⟩
  | .local _ .vmem, ⟨1, _⟩ => ⟨S1088x1, .f32⟩
  | .local _ .vmem, ⟨2, _⟩ => ⟨S1x128, .f32⟩
  | .local _ .vmem, ⟨3, _⟩ => ⟨S1x128, .f32⟩
  | .local _ .vmem, ⟨4, _⟩ => ⟨S1088x128, .f32⟩
  | .local _ .vmem, ⟨5, _⟩ => ⟨S1088x128, .f32⟩
  | .local _ .vmem, ⟨6, _⟩ => ⟨S1088x128, .f32⟩
  | .local _ .vmem, ⟨7, _⟩ => ⟨S1088x128, .f32⟩
  | _, _ => ⟨S8x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33_0 : Ref sig .tc := ⟨.hbm, 42, rfl⟩
abbrev main_v33_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1088x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1088x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1088x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RopeRefIdeal.lean ====
abbrev S8x2048 : Shape := ⟨2, ![8, 2048]⟩
abbrev S16 : Shape := ⟨1, ![16]⟩
abbrev S1x16 : Shape := ⟨2, ![1, 16]⟩
abbrev S8x16 : Shape := ⟨2, ![8, 16]⟩
abbrev S_ : Shape := ⟨0, ![]⟩
abbrev S8x2064 : Shape := ⟨2, ![8, 2064]⟩
abbrev S8x2176 : Shape := ⟨2, ![8, 2176]⟩
abbrev S8x2176x1 : Shape := ⟨3, ![8, 2176, 1]⟩
abbrev S1x1x16 : Shape := ⟨3, ![1, 1, 16]⟩
abbrev S8x2176x16 : Shape := ⟨3, ![8, 2176, 16]⟩
abbrev S17408x16 : Shape := ⟨2, ![17408, 16]⟩
abbrev S17408x48 : Shape := ⟨2, ![17408, 48]⟩
abbrev S17408x128 : Shape := ⟨2, ![17408, 128]⟩

abbrev nBuf : Space → Nat
  | .hbm => 42
  | .vmem => 0
  | .smem => 0
  | _ => 0

abbrev bufTy : (tb : Table) → Fin (tcTables nBuf tb) → BufTy
  | .hbm, ⟨0, _⟩ => ⟨S8x2048, .i32⟩
  | .hbm, ⟨1, _⟩ => ⟨S16, .i32⟩
  | .hbm, ⟨2, _⟩ => ⟨S1x16, .i32⟩
  | .hbm, ⟨3, _⟩ => ⟨S8x16, .i32⟩
  | .hbm, ⟨4, _⟩ => ⟨S_, .i32⟩
  | .hbm, ⟨5, _⟩ => ⟨S8x2048, .i32⟩
  | .hbm, ⟨6, _⟩ => ⟨S8x2048, .i32⟩
  | .hbm, ⟨7, _⟩ => ⟨S8x2064, .i32⟩
  | .hbm, ⟨8, _⟩ => ⟨S_, .i32⟩
  | .hbm, ⟨9, _⟩ => ⟨S_, .i32⟩
  | .hbm, ⟨10, _⟩ => ⟨S8x2176, .i32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S8x2176, .f32⟩
  | .hbm, ⟨26, _⟩ => ⟨S8x2176x1, .f32⟩
  | .hbm, ⟨27, _⟩ => ⟨S1x1x16, .f32⟩
  | .hbm, ⟨28, _⟩ => ⟨S8x2176x16, .f32⟩
  | .hbm, ⟨29, _⟩ => ⟨S8x2176x16, .f32⟩
  | .hbm, ⟨30, _⟩ => ⟨S8x2176x16, .f32⟩
  | .hbm, ⟨31, _⟩ => ⟨S8x2176x16, .f32⟩
  | .hbm, ⟨32, _⟩ => ⟨S17408x16, .f32⟩
  | .hbm, ⟨33, _⟩ => ⟨S8x2176x16, .f32⟩
  | .hbm, ⟨34, _⟩ => ⟨S17408x16, .f32⟩
  | .hbm, ⟨35, _⟩ => ⟨S_, .f32⟩
  | .hbm, ⟨36, _⟩ => ⟨S17408x48, .f32⟩
  | .hbm, ⟨37, _⟩ => ⟨S_, .f32⟩
  | .hbm, ⟨38, _⟩ => ⟨S17408x48, .f32⟩
  | .hbm, ⟨39, _⟩ => ⟨S17408x128, .f32⟩
  | .hbm, ⟨40, _⟩ => ⟨S17408x16, .f32⟩
  | .hbm, ⟨41, _⟩ => ⟨S17408x128, .f32⟩
  | _, _ => ⟨S8x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Proof.EmbedFrame.lean ====
/- The embedding call's frame: what one point of the grid leaves in each result block, and the run of the whole call. -/
module

public import proofs.«01_k».proof.Proof.Gen.EmbedIdeal.Frame.RunD
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.EmbedIdeal.Whole

open Cert.EmbedIdeal Cert.EmbedIdeal.Gen

variable {F : FTy → Type} [FloatOps F]

variable (m : (ℓ : Loc nD τ sig) → Buf (Elt F) ℓ) (ρ : Dev nD → PrngReg)

/-- The pieces cover the whole block. -/
abbrev Covers {S : Shape} {e : EltTy} (L : List (View.Piece (Elt F) S e)) : Prop := ∀ y : S.Idx, ∃ pc ∈ L, y ∈ pc.1.set

/-- A result's buffer at a point: some earlier contents with the pieces written over them. -/
abbrev wrote (c : Dev nD) {S : Shape} {e : EltTy} (a : Memref sig .tc .vmem S e) (L : List (View.Piece (Elt F) S e)) :
    sProp (MT nD τ sig Unit (Elt F) ℕ (UR sig nD τ) ℕ) :=
  iprop(∃ f, a.view.loc (c : Thread nD τ) ↦[a.view.set]{fullShare} a.view.writes (Elt F) f L)

/-- One point's run: the pieces it leaves in each result block, that they cover it, and the body's triple. -/
structure PointRun (c : Dev nD) (t : Fin cfg0.N) where
  L4 : List (View.Piece (Elt F) S544x1024 .f32)
  L5 : List (View.Piece (Elt F) S544x1024 .bf16)
  L6 : List (View.Piece (Elt F) S544x1024 .bf16)
  L7 : List (View.Piece (Elt F) S544x512 .bf16)
  L8 : List (View.Piece (Elt F) S544x512 .bf16)
  L9 : List (View.Piece (Elt F) S544x1024 .bf16)
  L10 : List (View.Piece (Elt F) S544x1024 .bf16)
  L11 : List (View.Piece (Elt F) S544x128 .bf16)
  cov4 : Covers L4
  cov5 : Covers L5
  cov6 : Covers L6
  cov7 : Covers L7
  cov8 : Covers L8
  cov9 : Covers L9
  cov10 : Covers L10
  cov11 : Covers L11
  run : ∀ (E : Set ℕ) (K : PUnit → sProp (MT nD τ sig Unit (Elt F) ℕ (UR sig nD τ) ℕ)),
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t)
        ∗ (∃ d, owns (c : Thread nD τ) (ms0_4 t) fullShare d) ∗ (∃ d, owns (c : Thread nD τ) (ms0_5 t) fullShare d) ∗ (∃ d, owns (c : Thread nD τ) (ms0_6 t) fullShare d) ∗ (∃ d, owns (c : Thread nD τ) (ms0_7 t) fullShare d) ∗ (∃ d, owns (c : Thread nD τ) (ms0_8 t) fullShare d) ∗ (∃ d, owns (c : Thread nD τ) (ms0_9 t) fullShare d) ∗ (∃ d, owns (c : Thread nD τ) (ms0_10 t) fullShare d) ∗ (∃ d, owns (c : Thread nD τ) (ms0_11 t) fullShare d)
        ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t)
          ∗ wrote c (ms0_4 t) L4 ∗ wrote c (ms0_5 t) L5 ∗ wrote c (ms0_6 t) L6 ∗ wrote c (ms0_7 t) L7 ∗ wrote c (ms0_8 t) L8 ∗ wrote c (ms0_9 t) L9 ∗ wrote c (ms0_10 t) L10 ∗ wrote c (ms0_11 t) L11) -∗ K ⟨⟩))
      ⊢ wp frame (wpE (defs₀ (F := F)) Variants.none c none) E (bodyAt0 t) K

/-- The run at the points whose tile is number 0 of its batch row. -/
def runA (c : Dev nD) (t : Fin cfg0.N) (h : t.val % 4 = 0) : PointRun m c t :=
  let R := kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h) (fun g => absurd ((hcond0_1 t).mp g) (by omega)) (fun g => absurd ((hcond0_2 t).mp g) (by omega)) (fun g => absurd ((hcond0_3 t).mp g) (by omega)) (iblk m c 0 t) (iblk m c 1 t) (iblk m c 2 t) (iblk m c 3 t)
  { L4 := R.1
    L5 := R.2.1
    L6 := R.2.2.1
    L7 := R.2.2.2.1
    L8 := R.2.2.2.2.1
    L9 := R.2.2.2.2.2.1
    L10 := R.2.2.2.2.2.2.1
    L11 := R.2.2.2.2.2.2.2.1
    cov4 := View.cover_of_tiledBy _ ![16, 1024] (by sl_kernel_rfl)
    cov5 := View.cover_of_tiledL _ S272x1024.size (by sl_kernel_rfl)
    cov6 := View.cover_of_tiledL _ S272x1024.size (by sl_kernel_rfl)
    cov7 := View.cover_of_tiledL _ S272x512.size (by sl_kernel_rfl)
    cov8 := View.cover_of_tiledL _ S272x512.size (by sl_kernel_rfl)
    cov9 := View.cover_of_tiledL _ S272x1024.size (by sl_kernel_rfl)
    cov10 := View.cover_of_tiledL _ S272x1024.size (by sl_kernel_rfl)
    cov11 := View.cover_of_tiledL _ S272x128.size (by sl_kernel_rfl)
    run := R.2.2.2.2.2.2.2.2 }

/-- The run at the points whose tile is number 1 of its batch row. -/
def runB (c : Dev nD) (t : Fin cfg0.N) (h : t.val % 4 = 1) : PointRun m c t :=
  let R := kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun g => absurd ((hcond0_0 t).mp g) (by omega)) ((hcond0_1 t).mpr h) (fun g => absurd ((hcond0_2 t).mp g) (by omega)) (fun g => absurd ((hcond0_3 t).mp g) (by omega)) (iblk m c 0 t) (iblk m c 1 t) (iblk m c 2 t) (iblk m c 3 t)
  { L4 := R.1
    L5 := R.2.1
    L6 := R.2.2.1
    L7 := R.2.2.2.1
    L8 := R.2.2.2.2.1
    L9 := R.2.2.2.2.2.1
    L10 := R.2.2.2.2.2.2.1
    L11 := R.2.2.2.2.2.2.2.1
    cov4 := View.cover_of_tiledL _ S544x1024.size (by sl_kernel_rfl)
    cov5 := View.cover_of_tiledL _ S272x1024.size (by sl_kernel_rfl)
    cov6 := View.cover_of_tiledL _ S272x1024.size (by sl_kernel_rfl)
    cov7 := View.cover_of_tiledL _ S272x512.size (by sl_kernel_rfl)
    cov8 := View.cover_of_tiledL _ S272x512.size (by sl_kernel_rfl)
    cov9 := View.cover_of_tiledL _ S272x1024.size (by sl_kernel_rfl)
    cov10 := View.cover_of_tiledL _ S272x1024.size (by sl_kernel_rfl)
    cov11 := View.cover_of_tiledL _ S272x128.size (by sl_kernel_rfl)
    run := R.2.2.2.2.2.2.2.2 }

/-- The run at the points whose tile is number 2 of its batch row. -/
def runC (c : Dev nD) (t : Fin cfg0.N) (h : t.val % 4 = 2) : PointRun m c t :=
  let R := kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun g => absurd ((hcond0_0 t).mp g) (by omega)) (fun g => absurd ((hcond0_1 t).mp g) (by omega)) ((hcond0_2 t).mpr h) (fun g => absurd ((hcond0_3 t).mp g) (by omega)) (iblk m c 0 t) (iblk m c 1 t) (iblk m c 2 t) (iblk m c 3 t)
  { L4 := R.1
    L5 := R.2.1
    L6 := R.2.2.1
    L7 := R.2.2.2.1
    L8 := R.2.2.2.2.1
    L9 := R.2.2.2.2.2.1
    L10 := R.2.2.2.2.2.2.1
    L11 := R.2.2.2.2.2.2.2.1
    cov4 := View.cover_of_tiledL _ S544x1024.size (by sl_kernel_rfl)
    cov5 := View.cover_of_tiledL _ S272x1024.size (by sl_kernel_rfl)
    cov6 := View.cover_of_tiledL _ S272x1024.size (by sl_kernel_rfl)
    cov7 := View.cover_of_tiledL _ S272x512.size (by sl_kernel_rfl)
    cov8 := View.cover_of_tiledL _ S272x512.size (by sl_kernel_rfl)
    cov9 := View.cover_of_tiledL _ S272x1024.size (by sl_kernel_rfl)
    cov10 := View.cover_of_tiledL _ S272x1024.size (by sl_kernel_rfl)
    cov11 := View.cover_of_tiledL _ S272x128.size (by sl_kernel_rfl)
    run := R.2.2.2.2.2.2.2.2 }

/-- The run at the points whose tile is number 3 of its batch row. -/
def runD (c : Dev nD) (t : Fin cfg0.N) (h : t.val % 4 = 3) : PointRun m c t :=
  let R := kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun g => absurd ((hcond0_0 t).mp g) (by omega)) (fun g => absurd ((hcond0_1 t).mp g) (by omega)) (fun g => absurd ((hcond0_2 t).mp g) (by omega)) ((hcond0_3 t).mpr h) (iblk m c 0 t) (iblk m c 1 t) (iblk m c 2 t) (iblk m c 3 t)
  { L4 := R.1
    L5 := R.2.1
    L6 := R.2.2.1
    L7 := R.2.2.2.1
    L8 := R.2.2.2.2.1
    L9 := R.2.2.2.2.2.1
    L10 := R.2.2.2.2.2.2.1
    L11 := R.2.2.2.2.2.2.2.1
    cov4 := View.cover_of_tiledBy _ ![16, 1024] (by sl_kernel_rfl)
    cov5 := View.cover_of_tiledL _ S272x1024.size (by sl_kernel_rfl)
    cov6 := View.cover_of_tiledL _ S272x1024.size (by sl_kernel_rfl)
    cov7 := View.cover_of_tiledL _ S272x512.size (by sl_kernel_rfl)
    cov8 := View.cover_of_tiledL _ S272x512.size (by sl_kernel_rfl)
    cov9 := View.cover_of_tiledL _ S272x1024.size (by sl_kernel_rfl)
    cov10 := View.cover_of_tiledL _ S272x1024.size (by sl_kernel_rfl)
    cov11 := View.cover_of_tiledL _ S272x128.size (by sl_kernel_rfl)
    run := R.2.2.2.2.2.2.2.2 }

/-- The run at any point. -/
def runAt (c : Dev nD) (t : Fin cfg0.N) : PointRun m c t :=
  if h0 : t.val % 4 = 0 then runA m c t h0 else if h1 : t.val % 4 = 1 then runB m c t h1
  else if h2 : t.val % 4 = 2 then runC m c t h2 else runD m c t (by omega)

/-- What a point leaves in result window 4. -/
def after4 (c : Dev nD) (t : Fin cfg0.N) : Vec F S544x1024 .f32 :=
  VO0_4.read (Elt F) (VO0_4.writes (Elt F) VO0_4.junk (runAt m c t).L4)

/-- What a point leaves in result window 5. -/
def after5 (c : Dev nD) (t : Fin cfg0.N) : Vec F S544x1024 .bf16 :=
  VO0_5.read (Elt F) (VO0_5.writes (Elt F) VO0_5.junk (runAt m c t).L5)

/-- What a point leaves in result window 6. -/
def after6 (c : Dev nD) (t : Fin cfg0.N) : Vec F S544x1024 .bf16 :=
  VO0_6.read (Elt F) (VO0_6.writes (Elt F) VO0_6.junk (runAt m c t).L6)

/-- What a point leaves in result window 7. -/
def after7 (c : Dev nD) (t : Fin cfg0.N) : Vec F S544x512 .bf16 :=
  VO0_7.read (Elt F) (VO0_7.writes (Elt F) VO0_7.junk (runAt m c t).L7)

/-- What a point leaves in result window 8. -/
def after8 (c : Dev nD) (t : Fin cfg0.N) : Vec F S544x512 .bf16 :=
  VO0_8.read (Elt F) (VO0_8.writes (Elt F) VO0_8.junk (runAt m c t).L8)

/-- What a point leaves in result window 9. -/
def after9 (c : Dev nD) (t : Fin cfg0.N) : Vec F S544x1024 .bf16 :=
  VO0_9.read (Elt F) (VO0_9.writes (Elt F) VO0_9.junk (runAt m c t).L9)

/-- What a point leaves in result window 10. -/
def after10 (c : Dev nD) (t : Fin cfg0.N) : Vec F S544x1024 .bf16 :=
  VO0_10.read (Elt F) (VO0_10.writes (Elt F) VO0_10.junk (runAt m c t).L10)

/-- What a point leaves in result window 11. -/
def after11 (c : Dev nD) (t : Fin cfg0.N) : Vec F S544x128 .bf16 :=
  VO0_11.read (Elt F) (VO0_11.writes (Elt F) VO0_11.junk (runAt m c t).L11)

/-- The proof data: the arrays as the call finds them, each input's block, each result's contents after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => after4 m c t
    | ⟨5, _⟩ => after5 m c t
    | ⟨6, _⟩ => after6 m c t
    | ⟨7, _⟩ => after7 m c t
    | ⟨8, _⟩ => after8 m c t
    | ⟨9, _⟩ => after9 m c t
    | ⟨10, _⟩ => after10 m c t
    | ⟨11, _⟩ => after11 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d

theorem live4 : ∀ t : Fin cfg0.N, cfg0.idle 4 (grid0.coords t) = false := by
  intro t
  have hN : t.val < 32 := lt_of_lt_of_eq t.isLt (show cfg0.N = 32 from N_0)
  have e0 := hcond0_0 t
  have e1 := hcond0_1 t
  have e2 := hcond0_2 t
  have e3 := hcond0_3 t
  by_cases h0 : t.val % 4 = 0
  · exact liveAt0_4_A t (e0.mpr h0) (fun g => absurd (e1.mp g) (by omega)) (fun g => absurd (e2.mp g) (by omega)) (fun g => absurd (e3.mp g) (by omega))
  by_cases h1 : t.val % 4 = 1
  · exact liveAt0_4_B t (fun g => absurd (e0.mp g) (by omega)) (e1.mpr h1) (fun g => absurd (e2.mp g) (by omega)) (fun g => absurd (e3.mp g) (by omega))
  by_cases h2 : t.val % 4 = 2
  · exact liveAt0_4_C t (fun g => absurd (e0.mp g) (by omega)) (fun g => absurd (e1.mp g) (by omega)) (e2.mpr h2) (fun g => absurd (e3.mp g) (by omega))
  exact liveAt0_4_D t (fun g => absurd (e0.mp g) (by omega)) (fun g => absurd (e1.mp g) (by omega)) (fun g => absurd (e2.mp g) (by omega)) (e3.mpr (by omega))

theorem leaves_0 (c : Dev nD) (t : Fin cfg0.N) :
    (dats m 0 c).leavesExact 0 t = owns (c : Thread nD τ) (ms0_0 t) fullShare (iblk m c 0 t) := by
  unfold Dat.leavesExact; rw [liveAt0_0 t]; dsimp only [dats]
theorem leaves_1 (c : Dev nD) (t : Fin cfg0.N) :
    (dats m 0 c).leavesExact 1 t = owns (c : Thread nD τ) (ms0_1 t) fullShare (iblk m c 1 t) := by
  unfold Dat.leavesExact; rw [liveAt0_1 t]; dsimp only [dats]
theorem leaves_2 (c : Dev nD) (t : Fin cfg0.N) :
    (dats m 0 c).leavesExact 2 t = owns (c : Thread nD τ) (ms0_2 t) fullShare (iblk m c 2 t) := by
  unfold Dat.leavesExact; rw [liveAt0_2 t]; dsimp only [dats]
theorem leaves_3 (c : Dev nD) (t : Fin cfg0.N) :
    (dats m 0 c).leavesExact 3 t = owns (c : Thread nD τ) (ms0_3 t) fullShare (iblk m c 3 t) := by
  unfold Dat.leavesExact; rw [liveAt0_3 t]; dsimp only [dats]
theorem leaves_4 (c : Dev nD) (t : Fin cfg0.N) :
    (dats m 0 c).leavesExact 4 t = owns (c : Thread nD τ) (ms0_4 t) fullShare (after4 m c t) := by
  unfold Dat.leavesExact; rw [live4 t]; dsimp only [dats]
theorem leaves_5 (c : Dev nD) (t : Fin cfg0.N) :
    (dats m 0 c).leavesExact 5 t = owns (c : Thread nD τ) (ms0_5 t) fullShare (after5 m c t) := by
  unfold Dat.leavesExact; rw [liveAt0_5 t]; dsimp only [dats]
theorem leaves_6 (c : Dev nD) (t : Fin cfg0.N) :
    (dats m 0 c).leavesExact 6 t = owns (c : Thread nD τ) (ms0_6 t) fullShare (after6 m c t) := by
  unfold Dat.leavesExact; rw [liveAt0_6 t]; dsimp only [dats]
theorem leaves_7 (c : Dev nD) (t : Fin cfg0.N) :
    (dats m 0 c).leavesExact 7 t = owns (c : Thread nD τ) (ms0_7 t) fullShare (after7 m c t) := by
  unfold Dat.leavesExact; rw [liveAt0_7 t]; dsimp only [dats]
theorem leaves_8 (c : Dev nD) (t : Fin cfg0.N) :
    (dats m 0 c).leavesExact 8 t = owns (c : Thread nD τ) (ms0_8 t) fullShare (after8 m c t) := by
  unfold Dat.leavesExact; rw [liveAt0_8 t]; dsimp only [dats]
theorem leaves_9 (c : Dev nD) (t : Fin cfg0.N) :
    (dats m 0 c).leavesExact 9 t = owns (c : Thread nD τ) (ms0_9 t) fullShare (after9 m c t) := by
  unfold Dat.leavesExact; rw [liveAt0_9 t]; dsimp only [dats]
theorem leaves_10 (c : Dev nD) (t : Fin cfg0.N) :
    (dats m 0 c).leavesExact 10 t = owns (c : Thread nD τ) (ms0_10 t) fullShare (after10 m c t) := by
  unfold Dat.leavesExact; rw [liveAt0_10 t]; dsimp only [dats]
theorem leaves_11 (c : Dev nD) (t : Fin cfg0.N) :
    (dats m 0 c).leavesExact 11 t = owns (c : Thread nD τ) (ms0_11 t) fullShare (after11 m c t) := by
  unfold Dat.leavesExact; rw [liveAt0_11 t]; dsimp only [dats]

/-- Written pieces that cover a block own it at what they read back to. -/
theorem owns_wrote (c : Dev nD) {S : Shape} {e : EltTy} (a : Memref sig .tc .vmem S e) (v : View sig .tc .vmem S e)
    (L : List (View.Piece (Elt F) S e)) (h : Covers L) :
    wrote c a L ⊢ owns (c : Thread nD τ) a fullShare (v.read (Elt F) (v.writes (Elt F) v.junk L)) := by
  iintro ⟨%f, H⟩
  unfold owns; iexists _; isplitr
  swap; · iexact H
  ipureintro; exact View.read_writes_of_cover _ _ _ _ _ h

set_option maxHeartbeats 4800000 in
/-- The body at any point. -/
theorem body (c : Dev nD) (t : Fin cfg0.N) :
    iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))
    ⊢ wp frame (wpE (defs₀ (F := F)) Variants.none c none) Set.univ (bodyAt0 t) (fun _ =>
      iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)) := by
  simp only [before_0, before_1, before_2, before_3]
  rw [show (dats m 0 c).Φ t.succ = (dats m 0 c).Φ t.castSucc from rfl,
    show (dats m 0 c).owesAt () t.succ = (dats m 0 c).owesAt () t.castSucc from rfl]
  rw [leaves_0, leaves_1, leaves_2, leaves_3, leaves_4, leaves_5, leaves_6, leaves_7, leaves_8, leaves_9, leaves_10, leaves_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runAt m c t).run Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iapply (owns_wrote c (ms0_4 t) VO0_4 _ (runAt m c t).cov4); iexact H4
  isplitl [H5]; · iapply (owns_wrote c (ms0_5 t) VO0_5 _ (runAt m c t).cov5); iexact H5
  isplitl [H6]; · iapply (owns_wrote c (ms0_6 t) VO0_6 _ (runAt m c t).cov6); iexact H6
  isplitl [H7]; · iapply (owns_wrote c (ms0_7 t) VO0_7 _ (runAt m c t).cov7); iexact H7
  isplitl [H8]; · iapply (owns_wrote c (ms0_8 t) VO0_8 _ (runAt m c t).cov8); iexact H8
  isplitl [H9]; · iapply (owns_wrote c (ms0_9 t) VO0_9 _ (runAt m c t).cov9); iexact H9
  isplitl [H10]; · iapply (owns_wrote c (ms0_10 t) VO0_10 _ (runAt m c t).cov10); iexact H10
  iapply (owns_wrote c (ms0_11 t) VO0_11 _ (runAt m c t).cov11); iexact H11

theorem row (t : Fin cfg0.N) :
    defs₀ (F := F) .tc cfg0.body (cfg0.bodyArgs t (cfg0.slots t)) = bodyAt0 t := by
  unfold defs₀; rw [Defs.onTc_tc]

/-- The body's triple in the form the pipeline asks for. -/
theorem obligation (c : Dev nD) : BodyObligation (dats (F := F) m 0 c) (defs₀ (F := F)) Variants.none () Set.univ := fun t => by
  rw [bigSep_W0, bigSep_W0, row]
  exact triple_restated (body m c t) rfl .rfl fun _ => .rfl

set_option backward.isDefEq.respectTransparency.types false in
/-- The whole call runs, and every counter is zero at the end. -/
theorem run_quiet : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The whole call runs to the arrays its points write. -/
theorem run_main : θ_run defs (onTc (τ := τ) (main (F := F))) (s₀ m ρ) (Pipeline.FramePost cfgs (dats m) 0 (V m)) :=
  (θ_run defs _ _).mono (fun _ h => h.1) (run_quiet m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiet m ρ))

end Cert.EmbedIdeal.Whole

end
-- ==== Proof.Rows.lean ====
/- Facts about extended reals that the row-wise kernels share. -/
module

public import Idealize.ShloMosaic.PureOps.Ideal

@[expose] public section

noncomputable section

namespace Cert.Rows

open Idealize.ShloMosaic

/-- A power of two at `x / (-log 2)` is the exponential at `-x`, for every extended real. -/
theorem exp2_scaled (x : EReal) :
    Ideal.exp2 (x * ((-((Real.log 2)⁻¹) : ℝ) : EReal)) = Ideal.exp (-x) := by
  have hl : 0 < Real.log 2 := Real.log_pos (by norm_num)
  have hn : (-((Real.log 2)⁻¹) : ℝ) < 0 := neg_lt_zero.mpr (inv_pos.mpr hl)
  induction x using EReal.rec with
  | bot => rw [EReal.bot_mul_coe_of_neg hn]; rfl
  | top => rw [EReal.top_mul_coe_of_neg hn]; rfl
  | coe r =>
    rw [← EReal.coe_mul, ← EReal.coe_neg]
    show ((Real.rpow 2 (r * -((Real.log 2)⁻¹)) : ℝ) : EReal) = ((Real.exp (-r) : ℝ) : EReal)
    congr 1
    show (2 : ℝ) ^ (r * -((Real.log 2)⁻¹)) = Real.exp (-r)
    rw [Real.rpow_def_of_pos (by norm_num)]
    congr 1
    field_simp

/-- A gated value: `x` times its logistic. -/
def silu (x : EReal) : EReal := x * Ideal.div 1 (1 + Ideal.exp (-x))

/-- One element of the residual sum: the gated mixer row against a column of the output projection, added to `h`. -/
def hrow (h : EReal) (o g w : Fin 1024 → EReal) : EReal := h + ∑ k, o k * silu (g k) * w k

/-- One element of a normalised row: the row divided by the root of its mean square, scaled by `f`. -/
def nrow (a : Fin 1024 → EReal) (f : EReal) (l : Fin 1024) : EReal :=
  a l * Ideal.rsqrt (Ideal.div (∑ k, a k * a k) (Ideal.ofBits .f32 0x44800000#32) + Ideal.ofBits .f32 0x358637BD#32) * f

/-- Residual sums with the same entries agree. -/
theorem hrow_eq {h h' : EReal} {o g w o' g' w' : Fin 1024 → EReal} (eh : h = h') (eo : ∀ k, o k = o' k)
    (eg : ∀ k, g k = g' k) (ew : ∀ k, w k = w' k) : hrow h o g w = hrow h' o' g' w' := by
  rw [eh, funext eo, funext eg, funext ew]

/-- Normalised rows with the same entries agree. -/
theorem nrow_eq {a a' : Fin 1024 → EReal} {f f' : EReal} (ea : ∀ k, a k = a' k) (ef : f = f') (l : Fin 1024) :
    nrow a f l = nrow a' f' l := by
  rw [ef, funext ea]

end Cert.Rows

end
-- ==== Proof.LastValue.lean ====
/- The last row-wise call: what its result array holds, and that the reference holds the same. -/
module

public import proofs.«01_k».proof.Defs
public import proofs.«01_k».proof.Proof.Gen.LastIdeal.Frame
public import proofs.«01_k».proof.Proof.Gen.LastRefIdeal.Run
public import proofs.«01_k».proof.Proof.Gen.LastRefIdeal.Read
public import proofs.«01_k».proof.Proof.Rows
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LastIdeal.RowValue

open Cert.LastIdeal Cert.LastIdeal.Gen Cert.LastRefIdeal.Read

variable (m : (ℓ : Loc nD τ sig) → Buf (Elt Ideal) ℓ)

/-- Where each window's block begins, at every grid point. -/
theorem idx : ∀ t : Fin cfg0.N,
    win0_0.index t = ![(t.val / 2) * 2176 + 16 + (t.val % 2) * 1024, 0]
    ∧ win0_1.index t = ![(t.val / 2) * 2176 + 16 + (t.val % 2) * 1024, 0]
    ∧ win0_2.index t = ![(t.val / 2) * 2176 + 16 + (t.val % 2) * 1024, 0]
    ∧ win0_3.index t = ![0, 0] ∧ win0_4.index t = ![0, 0] ∧ win0_5.index t = ![t.val, 0] :=
  (by decide +kernel : ∀ t : Fin grid0.N, _)

/-- The kernel's power of two with the named factor is the exponential of the negated argument. -/
theorem exp2_neg (x : Ideal .f32) :
    (FloatOps.exp2 (x * Named.named κ "nlog2e" 0xBFB8AA3B#32 : Ideal .f32) : Ideal .f32) = Ideal.exp (-x) :=
  Cert.Rows.exp2_scaled x

/-- Where an element of an element-indexed window's block sits in its array: the offset plus its coordinate. -/
theorem emb_elem (t : Fin cfg0.N) (y : S1024x1024.Idx) :
    ((((View.whole main_arg0).slice (win0_0.rect t)).emb y 0 : Fin _) : Nat) = (t.val / 2) * 2176 + 16 + (t.val % 2) * 1024 + (y 0).val
    ∧ ((((View.whole main_arg0).slice (win0_0.rect t)).emb y 1 : Fin _) : Nat) = (y 1).val
    ∧ ((((View.whole main_arg1).slice (win0_1.rect t)).emb y 0 : Fin _) : Nat) = (t.val / 2) * 2176 + 16 + (t.val % 2) * 1024 + (y 0).val
    ∧ ((((View.whole main_arg1).slice (win0_1.rect t)).emb y 1 : Fin _) : Nat) = (y 1).val
    ∧ ((((View.whole main_arg2).slice (win0_2.rect t)).emb y 0 : Fin _) : Nat) = (t.val / 2) * 2176 + 16 + (t.val % 2) * 1024 + (y 0).val
    ∧ ((((View.whole main_arg2).slice (win0_2.rect t)).emb y 1 : Fin _) : Nat) = (y 1).val := by
  obtain ⟨e0, e1, e2, -⟩ := idx t
  refine ⟨?_, ?_, ?_, ?_, ?_, ?_⟩
  · exact (Pipeline.Window.rect_emb_val_off win0_0 t y 0).trans (by rw [e0]; rfl)
  · exact (Pipeline.Window.rect_emb_val_off win0_0 t y 1).trans (by rw [e0]; exact Nat.zero_add _)
  · exact (Pipeline.Window.rect_emb_val_off win0_1 t y 0).trans (by rw [e1]; rfl)
  · exact (Pipeline.Window.rect_emb_val_off win0_1 t y 1).trans (by rw [e1]; exact Nat.zero_add _)
  · exact (Pipeline.Window.rect_emb_val_off win0_2 t y 0).trans (by rw [e2]; rfl)
  · exact (Pipeline.Window.rect_emb_val_off win0_2 t y 1).trans (by rw [e2]; exact Nat.zero_add _)

/-- The row that a block's row comes from, written over the result's row. -/
theorem row_place (t : Fin cfg0.N) (y : S1024x1024.Idx) {n : Nat}
    (h : n = (t.val / 2) * 2176 + 16 + (t.val % 2) * 1024 + (y 0).val) :
    n = (t.val * 1024 + (y 0).val) / 2048 * 2176 + (16 + (t.val * 1024 + (y 0).val) % 2048) := by
  have hy : (y 0).val < 1024 := (y 0).isLt
  omega

/-- What the body stores at a place of its block is the reference's value at that place of the array. -/
theorem point (c : Dev nD) (t : Fin cfg0.N) (y) :
    k0_pay1 (F := Ideal) (iblk m c 2 t) (iblk m c 1 t) (iblk m c 0 t) (iblk m c 3 t) (iblk m c 4 t) y
      = val_main_v22 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (((cfg0.win 5).blk t).view.emb y) := by
  pointwise [k0_pay1, val_main_v0, val_main_v1, val_main_call0_v0, val_main_call0_v1, val_main_call0_cst, val_main_call0_v2, val_main_call0_v3, val_main_call0_cst_0, val_main_call0_v4, val_main_call0_v5, val_main_v2, val_main_v3, val_main_v4, val_main_v5, val_main_v6, val_main_cst, val_main_v7, val_main_v8, val_main_cst_0, val_main_v9, val_main_v10, val_main_cst_1, val_main_v11, val_main_v12, val_main_v13, val_main_v14, val_main_v15, val_main_v16, val_main_v17, val_main_v18, val_main_v19, val_main_v20, val_main_v21, val_main_v22]
  simp only [exp2_neg]
  blk_point [iblk, V, idx t]
  all_goals
    first
    | exact (emb_elem t _).2.1
    | exact (emb_elem t _).2.2.2.1
    | exact (emb_elem t _).2.2.2.2.2
    | exact row_place t y ((emb_elem t _).1)
    | exact row_place t y ((emb_elem t _).2.2.1)
    | exact row_place t y ((emb_elem t _).2.2.2.2.1)

/-- The result array after the run. -/
theorem final (c : Dev nD) : (dats m 0 c).arrAt 5 (cfgs 0).N
    = val_main_v22 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  exact point m c t y

end Cert.LastIdeal.RowValue

namespace Cert.Proof

theorem algebraic_last : Cert.algebraic_LastIdeal_LastRefIdeal (hLastIdeal := Cert.LastIdeal.Gen.facts) (hLastRefIdeal := Cert.LastRefIdeal.Gen.facts) := by
  pair_intro
  · run_from Cert.LastIdeal.Gen.run_main m g
  · run_from Cert.LastRefIdeal.Value.run m' g'
    rw [Cert.LastIdeal.RowValue.final m c]
    rfl

end Cert.Proof

end
-- ==== Proof.MidRows.lean ====
/- The row-wise call between two layers: its payloads and its reference, row by row. -/
module

public import proofs.«01_k».proof.Defs
public import proofs.«01_k».proof.Proof.Gen.MidIdeal.Frame
public import proofs.«01_k».proof.Proof.Gen.MidRefIdeal.Run
public import proofs.«01_k».proof.Proof.Gen.MidRefIdeal.Read
public import proofs.«01_k».proof.Proof.Rows
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MidIdeal.RowValue

open Cert.MidIdeal Cert.MidIdeal.Gen Cert.MidRefIdeal.Read Cert.Rows

variable (m : (ℓ : Loc nD τ sig) → Buf (Elt Ideal) ℓ)

/-- Where each window's block begins, at every grid point. -/
theorem idx : ∀ t : Fin cfg0.N,
    win0_0.index t = ![t.val, 0] ∧ win0_1.index t = ![t.val, 0] ∧ win0_2.index t = ![t.val, 0]
    ∧ win0_3.index t = ![0, 0] ∧ win0_4.index t = ![0, 0] ∧ win0_5.index t = ![0, 0]
    ∧ win0_6.index t = ![t.val, 0] ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0] ∧ win0_13.index t = ![t.val, 0] :=
  (by decide +kernel : ∀ t : Fin grid0.N, _)

/-- The kernel's power of two with the named factor is the exponential of the negated argument. -/
theorem exp2_neg (x : Ideal .f32) :
    (FloatOps.exp2 (x * Named.named κ "nlog2e" 0xBFB8AA3B#32 : Ideal .f32) : Ideal .f32) = Ideal.exp (-x) :=
  Cert.Rows.exp2_scaled x

/-- The first half's residual sum. -/
theorem pay3_row (g o : Vec Ideal S256x1024 .bf16) (h : Vec Ideal S256x1024 .f32) (w : Vec Ideal S1024x1024 .bf16)
    (r : Fin 256) (l : Fin 1024) :
    k0_pay3 (F := Ideal) g o h w (ix2 r l)
      = hrow (h (ix2 r l)) (fun k => o (ix2 r k)) (fun k => g (ix2 r k)) (fun k => w (ix2 k l)) := by
  pointwise [k0_pay3]
  simp only [exp2_neg]
  rfl

/-- The second half's residual sum. -/
theorem pay13_row (g o : Vec Ideal S256x1024 .bf16) (h : Vec Ideal S256x1024 .f32) (w : Vec Ideal S1024x1024 .bf16)
    (r : Fin 256) (l : Fin 1024) :
    k0_pay13 (F := Ideal) g o h w (ix2 r l)
      = hrow (h (ix2 r l)) (fun k => o (ix2 r k)) (fun k => g (ix2 r k)) (fun k => w (ix2 k l)) := by
  pointwise [k0_pay13]
  simp only [exp2_neg]
  rfl

/-- The first half's normalised row. -/
theorem pay4_row (g o : Vec Ideal S256x1024 .bf16) (h : Vec Ideal S256x1024 .f32) (w : Vec Ideal S1024x1024 .bf16) (f : Vec Ideal S1x1024 .f32)
    (r : Fin 256) (l : Fin 1024) :
    k0_pay4 (F := Ideal) g o h w f (ix2 r l)
      = nrow (fun l => hrow (h (ix2 r l)) (fun k => o (ix2 r k)) (fun k => g (ix2 r k)) (fun k => w (ix2 k l))) (f (ix2 0 l)) l := by
  pointwise [k0_pay4]
  simp only [pay3_row]
  rfl

/-- The second half's normalised row. -/
theorem pay16_row (g o : Vec Ideal S256x1024 .bf16) (h : Vec Ideal S256x1024 .f32) (w : Vec Ideal S1024x1024 .bf16) (f : Vec Ideal S1x1024 .f32)
    (r : Fin 256) (l : Fin 1024) :
    k0_pay16 (F := Ideal) (k0_pay13 g o h w) (k0_pay14 f) (k0_pay15 g o h w) (Scalar.ofBits .f32 0x358637BD#32) (ix2 r l)
      = nrow (fun l => hrow (h (ix2 r l)) (fun k => o (ix2 r k)) (fun k => g (ix2 r k)) (fun k => w (ix2 k l))) (f (ix2 0 l)) l := by
  pointwise [k0_pay16, k0_pay14, k0_pay15]
  simp only [pay13_row]
  rfl

/-- The reference's residual sum. -/
theorem ref_h (h : Vec Ideal Cert.MidRefIdeal.S17408x1024 .f32) (o g : Vec Ideal Cert.MidRefIdeal.S17408x1024 .bf16)
    (w : Vec Ideal Cert.MidRefIdeal.S1024x1024 .f32) (r : Fin 17408) (l : Fin 1024) :
    val_main_v5 (F := Ideal) h o g w (ix2 r l)
      = hrow (h (ix2 r l)) (fun k => o (ix2 r k)) (fun k => g (ix2 r k)) (fun k => w (ix2 k l)) := by
  pointwise [val_main_v0, val_main_v1, val_main_call0_v0, val_main_call0_v1, val_main_call0_cst, val_main_call0_v2, val_main_call0_v3, val_main_call0_cst_0, val_main_call0_v4, val_main_call0_v5, val_main_v2, val_main_v3, val_main_v4, val_main_v5]
  rfl

/-- The reference's normalised row. -/
theorem ref_n (h : Vec Ideal Cert.MidRefIdeal.S17408x1024 .f32) (o g : Vec Ideal Cert.MidRefIdeal.S17408x1024 .bf16)
    (w : Vec Ideal Cert.MidRefIdeal.S1024x1024 .f32) (f : Vec Ideal Cert.MidRefIdeal.S1024 .f32) (r : Fin 17408) (l : Fin 1024) :
    val_main_v18 (F := Ideal) h o g w f (ix2 r l)
      = nrow (fun l => hrow (h (ix2 r l)) (fun k => o (ix2 r k)) (fun k => g (ix2 r k)) (fun k => w (ix2 k l))) (f (ix1 l)) l := by
  pointwise [val_main_v0, val_main_v1, val_main_call0_v0, val_main_call0_v1, val_main_call0_cst, val_main_call0_v2, val_main_call0_v3, val_main_call0_cst_0, val_main_call0_v4, val_main_call0_v5, val_main_v2, val_main_v3, val_main_v4, val_main_v5, val_main_v6, val_main_cst, val_main_v7, val_main_v8, val_main_cst_0, val_main_v9, val_main_v10, val_main_cst_1, val_main_v11, val_main_v12, val_main_v13, val_main_v14, val_main_v15, val_main_v16, val_main_v17, val_main_v18]
  rfl

end Cert.MidIdeal.RowValue

end
-- ==== Proof.MidValue.lean ====
/- The row-wise call between two layers: what its result arrays hold, and that the reference holds the same. -/
module

public import proofs.«01_k».proof.Defs
public import proofs.«01_k».proof.Proof.Gen.MidIdeal.Frame
public import proofs.«01_k».proof.Proof.Gen.MidRefIdeal.Run
public import proofs.«01_k».proof.Proof.Gen.MidRefIdeal.Read
public import proofs.«01_k».proof.Proof.MidRows
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MidIdeal.RowValue

open Cert.MidIdeal Cert.MidIdeal.Gen Cert.MidRefIdeal.Read Cert.Rows

variable (m : (ℓ : Loc nD τ sig) → Buf (Elt Ideal) ℓ)

/-- A row of the block of window 0. -/
theorem ld0a (c : Dev nD) (t : Fin cfg0.N) (r : Fin 256) (k : Fin 1024) (R : Fin 17408) (hR : (R : Nat) = t.val * 512 + r.val) :
    View.ld (iblk m c 0 t) r0_0 (ix2 r k) = m ((c : Thread nD τ).loc main_arg0) (ix2 R k) := by
  blk_point [iblk, V, idx t]

/-- A row of the block of window 1. -/
theorem ld1a (c : Dev nD) (t : Fin cfg0.N) (r : Fin 256) (k : Fin 1024) (R : Fin 17408) (hR : (R : Nat) = t.val * 512 + r.val) :
    View.ld (iblk m c 1 t) r0_0 (ix2 r k) = m ((c : Thread nD τ).loc main_arg1) (ix2 R k) := by
  blk_point [iblk, V, idx t]

/-- A row of the block of window 2. -/
theorem ld2a (c : Dev nD) (t : Fin cfg0.N) (r : Fin 256) (k : Fin 1024) (R : Fin 17408) (hR : (R : Nat) = t.val * 512 + r.val) :
    View.ld (iblk m c 2 t) r0_0 (ix2 r k) = m ((c : Thread nD τ).loc main_arg2) (ix2 R k) := by
  blk_point [iblk, V, idx t]

/-- A row of the block of window 0. -/
theorem ld0b (c : Dev nD) (t : Fin cfg0.N) (r : Fin 256) (k : Fin 1024) (R : Fin 17408) (hR : (R : Nat) = t.val * 512 + 256 + r.val) :
    View.ld (iblk m c 0 t) r0_12 (ix2 r k) = m ((c : Thread nD τ).loc main_arg0) (ix2 R k) := by
  blk_point [iblk, V, idx t]

/-- A row of the block of window 1. -/
theorem ld1b (c : Dev nD) (t : Fin cfg0.N) (r : Fin 256) (k : Fin 1024) (R : Fin 17408) (hR : (R : Nat) = t.val * 512 + 256 + r.val) :
    View.ld (iblk m c 1 t) r0_12 (ix2 r k) = m ((c : Thread nD τ).loc main_arg1) (ix2 R k) := by
  blk_point [iblk, V, idx t]

/-- A row of the block of window 2. -/
theorem ld2b (c : Dev nD) (t : Fin cfg0.N) (r : Fin 256) (k : Fin 1024) (R : Fin 17408) (hR : (R : Nat) = t.val * 512 + 256 + r.val) :
    View.ld (iblk m c 2 t) r0_12 (ix2 r k) = m ((c : Thread nD τ).loc main_arg2) (ix2 R k) := by
  blk_point [iblk, V, idx t]

/-- The output projection's entries. -/
theorem ld3 (c : Dev nD) (t : Fin cfg0.N) (k l : Fin 1024) :
    View.ld (iblk m c 3 t) r0_1 (ix2 k l) = m ((c : Thread nD τ).loc main_arg3) (ix2 k l) := by
  blk_point [iblk, V, idx t]

/-- The norm's row, entry by entry. -/
theorem w11 (c : Dev nD) (l : Fin 1024) :
    V m c main_v11 (ix2 0 l) = m ((c : Thread nD τ).loc main_arg4) (ix1 l) := by
  unfold V
  simp only [hostOps0, hostOps0_1, hostOps0_2, List.flatten_cons, List.flatten_nil, List.append_nil, List.cons_append, List.nil_append]
  entry_read
  pointwise

/-- The norm's entries. -/
theorem ld4 (c : Dev nD) (t : Fin cfg0.N) (l : Fin 1024) :
    View.ld (iblk m c 4 t) r0_2 (ix2 0 l) = m ((c : Thread nD τ).loc main_arg4) (ix1 l) := by
  refine Eq.trans (congrArg (V m c main_v11) ?_) (w11 m c l)
  blk_ext [idx t]
  exact (Rect.idx_unit_val _ _ _ _ _).trans (Nat.zero_add _)

/-- The first half of the residual sums. -/
theorem h_first (c : Dev nD) (t : Fin cfg0.N) (r : Fin 256) (l : Fin 1024) (R : Fin 17408) (hR : (R : Nat) = t.val * 512 + r.val) :
    k0_pay3 (F := Ideal) (View.ld (iblk m c 2 t) r0_0) (View.ld (iblk m c 1 t) r0_0) (View.ld (iblk m c 0 t) r0_0) (View.ld (iblk m c 3 t) r0_1) (ix2 r l)
      = val_main_v5 (F := Ideal) (m ((c : Thread nD τ).loc main_arg0)) (m ((c : Thread nD τ).loc main_arg1)) (m ((c : Thread nD τ).loc main_arg2)) (m ((c : Thread nD τ).loc main_arg3)) (ix2 R l) :=
  (pay3_row _ _ _ _ r l).trans ((hrow_eq (ld0a m c t r l R hR) (fun k => ld1a m c t r k R hR) (fun k => ld2a m c t r k R hR)
    (fun k => ld3 m c t k l)).trans (ref_h _ _ _ _ R l).symm)

/-- The first half of the normalised rows. -/
theorem n_first (c : Dev nD) (t : Fin cfg0.N) (r : Fin 256) (l : Fin 1024) (R : Fin 17408) (hR : (R : Nat) = t.val * 512 + r.val) :
    k0_pay22 (F := Ideal) (iblk m c 0 t) (iblk m c 1 t) (iblk m c 2 t) (iblk m c 3 t) (iblk m c 4 t) (iblk m c 5 t) (ix2 r l) = val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 R l) :=
  (pay4_row _ _ _ _ _ r l).trans ((nrow_eq (fun l => hrow_eq (ld0a m c t r l R hR) (fun k => ld1a m c t r k R hR) (fun k => ld2a m c t r k R hR)
    (fun k => ld3 m c t k l)) (ld4 m c t l) l).trans (ref_n _ _ _ _ _ R l).symm)

/-- The second half of the residual sums. -/
theorem h_second (c : Dev nD) (t : Fin cfg0.N) (r : Fin 256) (l : Fin 1024) (R : Fin 17408) (hR : (R : Nat) = t.val * 512 + 256 + r.val) :
    k0_pay13 (F := Ideal) (View.ld (iblk m c 2 t) r0_12) (View.ld (iblk m c 1 t) r0_12) (View.ld (iblk m c 0 t) r0_12) (View.ld (iblk m c 3 t) r0_1) (ix2 r l)
      = val_main_v5 (F := Ideal) (m ((c : Thread nD τ).loc main_arg0)) (m ((c : Thread nD τ).loc main_arg1)) (m ((c : Thread nD τ).loc main_arg2)) (m ((c : Thread nD τ).loc main_arg3)) (ix2 R l) :=
  (pay13_row _ _ _ _ r l).trans ((hrow_eq (ld0b m c t r l R hR) (fun k => ld1b m c t r k R hR) (fun k => ld2b m c t r k R hR)
    (fun k => ld3 m c t k l)).trans (ref_h _ _ _ _ R l).symm)

/-- The second half of the normalised rows. -/
theorem n_second (c : Dev nD) (t : Fin cfg0.N) (r : Fin 256) (l : Fin 1024) (R : Fin 17408) (hR : (R : Nat) = t.val * 512 + 256 + r.val) :
    k0_pay26 (F := Ideal) (iblk m c 0 t) (iblk m c 1 t) (iblk m c 2 t) (iblk m c 3 t) (iblk m c 4 t) (iblk m c 5 t) (ix2 r l) = val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 R l) :=
  (pay16_row _ _ _ _ _ r l).trans ((nrow_eq (fun l => hrow_eq (ld0b m c t r l R hR) (fun k => ld1b m c t r k R hR) (fun k => ld2b m c t r k R hR)
    (fun k => ld3 m c t k l)) (ld4 m c t l) l).trans (ref_n _ _ _ _ _ R l).symm)

end Cert.MidIdeal.RowValue

end
-- ==== Proof.MidOut.lean ====
/- The row-wise call between two layers: its eight result arrays. -/
module

public import proofs.«01_k».proof.Defs
public import proofs.«01_k».proof.Proof.Gen.MidIdeal.Frame
public import proofs.«01_k».proof.Proof.Gen.MidRefIdeal.Run
public import proofs.«01_k».proof.Proof.Gen.MidRefIdeal.Read
public import proofs.«01_k».proof.Proof.MidValue
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MidIdeal.RowValue

open Cert.MidIdeal Cert.MidIdeal.Gen Cert.MidRefIdeal.Read Cert.Rows

variable (m : (ℓ : Loc nD τ sig) → Buf (Elt Ideal) ℓ)

/-- The seven column blocks of the prepared weights, side by side. -/
def side (x : Vec Ideal S1024x5136 .f32) : Vec Ideal S1024x5248 .f32 :=
  concatenate S1024x5248 1 [⟨S1024x1024, extractStridedSlice S1024x1024 ![0, 0] x slices_S1024x5136_S1024x1024_0_0⟩,
    ⟨S1024x1024, extractStridedSlice S1024x1024 ![0, 1024] x slices_S1024x5136_S1024x1024_0_1024⟩,
    ⟨S1024x512, extractStridedSlice S1024x512 ![0, 2048] x slices_S1024x5136_S1024x512_0_2048⟩,
    ⟨S1024x512, extractStridedSlice S1024x512 ![0, 2560] x slices_S1024x5136_S1024x512_0_2560⟩,
    ⟨S1024x1024, extractStridedSlice S1024x1024 ![0, 3072] x slices_S1024x5136_S1024x1024_0_3072⟩,
    ⟨S1024x1024, extractStridedSlice S1024x1024 ![0, 4112] x slices_S1024x5136_S1024x1024_0_4112⟩,
    ⟨S1024x128, pad S1024x128 ![0, 0] ![0, 112] ![0, 0] (extractStridedSlice S1024x16 ![0, 4096] x slices_S1024x5136_S1024x16_0_4096)
      (sitofp (F := Ideal) .f32 (constantI S_ 32 0#32)) pads_S1024x16_S1024x128_000_01120 h_S_⟩]
    concatenates_S1024x1024_S1024x1024_S1024x512_S1024x512_S1024x1024_S1024x1024_S1024x128_S1024x5248_d1

/-- The prepared weights. -/
theorem w9 (c : Dev nD) : V m c main_v9 = (truncf (F := Ideal) .bf16 (side (m ((c : Thread nD τ).loc main_arg5))) bitsLt_bf16_f32 : Vec Ideal S1024x5248 .bf16) := by
  unfold V
  simp only [hostOps0, hostOps0_1, hostOps0_2, List.flatten_cons, List.flatten_nil, List.append_nil, List.cons_append, List.nil_append]
  generalize hf : (fun u : (k : Fin 7) → (![main_v0, main_v1, main_v2, main_v3, main_v4, main_v6, main_v7] k).ty.Contents (Elt Ideal) => (concatenate S1024x5248 1 [⟨S1024x1024, (u 0 : (⟨S1024x1024, .f32⟩ : BufTy).Contents (Elt Ideal))⟩, ⟨S1024x1024, (u 1 : (⟨S1024x1024, .f32⟩ : BufTy).Contents (Elt Ideal))⟩, ⟨S1024x512, (u 2 : (⟨S1024x512, .f32⟩ : BufTy).Contents (Elt Ideal))⟩, ⟨S1024x512, (u 3 : (⟨S1024x512, .f32⟩ : BufTy).Contents (Elt Ideal))⟩, ⟨S1024x1024, (u 4 : (⟨S1024x1024, .f32⟩ : BufTy).Contents (Elt Ideal))⟩, ⟨S1024x1024, (u 5 : (⟨S1024x1024, .f32⟩ : BufTy).Contents (Elt Ideal))⟩, ⟨S1024x128, (u 6 : (⟨S1024x128, .f32⟩ : BufTy).Contents (Elt Ideal))⟩] concatenates_S1024x1024_S1024x1024_S1024x512_S1024x512_S1024x1024_S1024x1024_S1024x128_S1024x5248_d1 : (⟨S1024x5248, .f32⟩ : BufTy).Contents (Elt Ideal))) = f
  entry_read
  subst hf
  rfl

/-- Column block 0 of the prepared weights. -/
theorem side0 (x : Vec Ideal S1024x5136 .f32) (k : Fin 1024) (l : Fin 1024) :
    side x (ix2 k ⟨0 + l.val, by omega⟩) = x (ix2 k ⟨0 + l.val, by omega⟩) := by
  unfold side
  refine Eq.trans (concatenate_apply_piece (t := S1024x5248) 1 _ _ _ 0 ?_ S1024x1024
    (extractStridedSlice S1024x1024 ![0, 0] x slices_S1024x5136_S1024x1024_0_0) ?_ rfl 0 ?_ (ix2 k l) ?_ ?_) ?_
  · exact (by decide : 0 < 7)
  · rfl
  · rfl
  · intro b hb
    match b with
    | ⟨0, _⟩ => rfl
    | ⟨1, _⟩ => exact absurd rfl hb
  · rfl
  · pointwise

/-- Column block 1 of the prepared weights. -/
theorem side1 (x : Vec Ideal S1024x5136 .f32) (k : Fin 1024) (l : Fin 1024) :
    side x (ix2 k ⟨1024 + l.val, by omega⟩) = x (ix2 k ⟨1024 + l.val, by omega⟩) := by
  unfold side
  refine Eq.trans (concatenate_apply_piece (t := S1024x5248) 1 _ _ _ 1 ?_ S1024x1024
    (extractStridedSlice S1024x1024 ![0, 1024] x slices_S1024x5136_S1024x1024_0_1024) ?_ rfl 1024 ?_ (ix2 k l) ?_ ?_) ?_
  · exact (by decide : 1 < 7)
  · rfl
  · rfl
  · intro b hb
    match b with
    | ⟨0, _⟩ => rfl
    | ⟨1, _⟩ => exact absurd rfl hb
  · rfl
  · pointwise

/-- Column block 2 of the prepared weights. -/
theorem side2 (x : Vec Ideal S1024x5136 .f32) (k : Fin 1024) (l : Fin 512) :
    side x (ix2 k ⟨2048 + l.val, by omega⟩) = x (ix2 k ⟨2048 + l.val, by omega⟩) := by
  unfold side
  refine Eq.trans (concatenate_apply_piece (t := S1024x5248) 1 _ _ _ 2 ?_ S1024x512
    (extractStridedSlice S1024x512 ![0, 2048] x slices_S1024x5136_S1024x512_0_2048) ?_ rfl 2048 ?_ (ix2 k l) ?_ ?_) ?_
  · exact (by decide : 2 < 7)
  · rfl
  · rfl
  · intro b hb
    match b with
    | ⟨0, _⟩ => rfl
    | ⟨1, _⟩ => exact absurd rfl hb
  · rfl
  · pointwise

/-- Column block 3 of the prepared weights. -/
theorem side3 (x : Vec Ideal S1024x5136 .f32) (k : Fin 1024) (l : Fin 512) :
    side x (ix2 k ⟨2560 + l.val, by omega⟩) = x (ix2 k ⟨2560 + l.val, by omega⟩) := by
  unfold side
  refine Eq.trans (concatenate_apply_piece (t := S1024x5248) 1 _ _ _ 3 ?_ S1024x512
    (extractStridedSlice S1024x512 ![0, 2560] x slices_S1024x5136_S1024x512_0_2560) ?_ rfl 2560 ?_ (ix2 k l) ?_ ?_) ?_
  · exact (by decide : 3 < 7)
  · rfl
  · rfl
  · intro b hb
    match b with
    | ⟨0, _⟩ => rfl
    | ⟨1, _⟩ => exact absurd rfl hb
  · rfl
  · pointwise

/-- Column block 4 of the prepared weights. -/
theorem side4 (x : Vec Ideal S1024x5136 .f32) (k : Fin 1024) (l : Fin 1024) :
    side x (ix2 k ⟨3072 + l.val, by omega⟩) = x (ix2 k ⟨3072 + l.val, by omega⟩) := by
  unfold side
  refine Eq.trans (concatenate_apply_piece (t := S1024x5248) 1 _ _ _ 4 ?_ S1024x1024
    (extractStridedSlice S1024x1024 ![0, 3072] x slices_S1024x5136_S1024x1024_0_3072) ?_ rfl 3072 ?_ (ix2 k l) ?_ ?_) ?_
  · exact (by decide : 4 < 7)
  · rfl
  · rfl
  · intro b hb
    match b with
    | ⟨0, _⟩ => rfl
    | ⟨1, _⟩ => exact absurd rfl hb
  · rfl
  · pointwise

/-- Column block 5 of the prepared weights. -/
theorem side5 (x : Vec Ideal S1024x5136 .f32) (k : Fin 1024) (l : Fin 1024) :
    side x (ix2 k ⟨4096 + l.val, by omega⟩) = x (ix2 k ⟨4112 + l.val, by omega⟩) := by
  unfold side
  refine Eq.trans (concatenate_apply_piece (t := S1024x5248) 1 _ _ _ 5 ?_ S1024x1024
    (extractStridedSlice S1024x1024 ![0, 4112] x slices_S1024x5136_S1024x1024_0_4112) ?_ rfl 4096 ?_ (ix2 k l) ?_ ?_) ?_
  · exact (by decide : 5 < 7)
  · rfl
  · rfl
  · intro b hb
    match b with
    | ⟨0, _⟩ => rfl
    | ⟨1, _⟩ => exact absurd rfl hb
  · rfl
  · pointwise

/-- The integer zero, as a real number. -/
theorem zero_cast : (FloatOps.sitofp .f32 0#32 : Ideal .f32) = 0 := by
  show ((((0#32 : BitVec 32).toInt : ℤ) : ℝ) : EReal) = 0
  simp

/-- The last column block of the prepared weights: sixteen columns, then zeros. -/
theorem side6 (x : Vec Ideal S1024x5136 .f32) (k : Fin 1024) (l : Fin 128) :
    side x (ix2 k ⟨5120 + l.val, by omega⟩) = if h : l.val < 16 then x (ix2 k ⟨4096 + l.val, by omega⟩) else 0 := by
  unfold side
  refine Eq.trans (concatenate_apply_piece (t := S1024x5248) 1 _ _ _ 6 ?_ S1024x128
    (pad S1024x128 ![0, 0] ![0, 112] ![0, 0] (extractStridedSlice S1024x16 ![0, 4096] x slices_S1024x5136_S1024x16_0_4096)
      (sitofp (F := Ideal) .f32 (constantI S_ 32 0#32)) pads_S1024x16_S1024x128_000_01120 h_S_) ?_ rfl 5120 ?_ (ix2 k l) ?_ ?_) ?_
  · exact (by decide : 6 < 7)
  · rfl
  · rfl
  · intro b hb
    match b with
    | ⟨0, _⟩ => rfl
    | ⟨1, _⟩ => exact absurd rfl hb
  · rfl
  · pointwise
    rw [zero_cast]

/-- A pair of coordinates is the index with these coordinates. -/
theorem idx_of {n0 n1 : Nat} (j : (⟨2, ![n0, n1]⟩ : Shape).Idx) (R : Fin n0) (l : Fin n1) (h0 : (j 0 : Nat) = R) (h1 : (j 1 : Nat) = l) : j = ix2 R l := by
  rw [Idealize.ShloMosaic.eq_ix2 j]
  exact congrArg₂ ix2 (Fin.ext h0) (Fin.ext h1)

/-- The first half of window 6's block. -/
theorem core6_first (c : Dev nD) (t : Fin cfg0.N) (r : Fin 256) (l : Fin 1024) (j : S17408x1024.Idx) (h0 : (j 0 : Nat) = t.val * 512 + r.val) (h1 : (j 1 : Nat) = l) :
    k0_pay3 (F := Ideal) (View.ld (iblk m c 2 t) r0_0) (View.ld (iblk m c 1 t) r0_0) (View.ld (iblk m c 0 t) r0_0) (View.ld (iblk m c 3 t) r0_1) (ix2 r l)
      = val_main_v5 (F := Ideal) (m ((c : Thread nD τ).loc main_arg0)) (m ((c : Thread nD τ).loc main_arg1)) (m ((c : Thread nD τ).loc main_arg2)) (m ((c : Thread nD τ).loc main_arg3)) j := by
  rw [idx_of j (j 0) l rfl h1]
  exact h_first m c t r l (j 0) h0

/-- The second half of window 6's block. -/
theorem core6_second (c : Dev nD) (t : Fin cfg0.N) (r : Fin 256) (l : Fin 1024) (j : S17408x1024.Idx) (h0 : (j 0 : Nat) = t.val * 512 + 256 + r.val) (h1 : (j 1 : Nat) = l) :
    k0_pay13 (F := Ideal) (View.ld (iblk m c 2 t) r0_12) (View.ld (iblk m c 1 t) r0_12) (View.ld (iblk m c 0 t) r0_12) (View.ld (iblk m c 3 t) r0_1) (ix2 r l)
      = val_main_v5 (F := Ideal) (m ((c : Thread nD τ).loc main_arg0)) (m ((c : Thread nD τ).loc main_arg1)) (m ((c : Thread nD τ).loc main_arg2)) (m ((c : Thread nD τ).loc main_arg3)) j := by
  rw [idx_of j (j 0) l rfl h1]
  exact h_second m c t r l (j 0) h0

/-- Where an element of window 6's block lands. -/
theorem lands6 (t : Fin cfg0.N) (y : S512x1024.Idx) :
    ((((cfg0.win 6).blk t).view.emb y 0 : Fin _) : Nat) = t.val * 512 + (y 0).val ∧ ((((cfg0.win 6).blk t).view.emb y 1 : Fin _) : Nat) = (y 1).val := by
  constructor <;> blk_simp [idx t]

/-- Window 6's block after a grid point. -/
theorem point6 (c : Dev nD) (t : Fin cfg0.N) (y : S512x1024.Idx) :
    out0_6 (F := Ideal) (iblk m c 0 t) (iblk m c 1 t) (iblk m c 2 t) (iblk m c 3 t) (iblk m c 4 t) (iblk m c 5 t) y = val_main_v5 (F := Ideal) (m ((c : Thread nD τ).loc main_arg0)) (m ((c : Thread nD τ).loc main_arg1)) (m ((c : Thread nD τ).loc main_arg2)) (m ((c : Thread nD τ).loc main_arg3)) (((cfg0.win 6).blk t).view.emb y) := by
  obtain ⟨e0, e1⟩ := lands6 t y
  unfold out0_6
  canon_tiles x h
  all_goals rw [Idealize.ShloMosaic.eq_ix2 x]
  · exact core6_second m c t (x 0) (x 1) _ (by omega) (by omega)
  · exact core6_first m c t (x 0) (x 1) _ (by omega) (by omega)

/-- Window 6's array after the run. -/
theorem final6 (c : Dev nD) : (dats m 0 c).arrAt 6 (cfgs 0).N = val_main_v5 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  exact point6 m c t y

/-- Window 7's first product, element by element. -/
theorem dot7_first (a : FVec Ideal S256x1024 .bf16) (b : Vec Ideal S1024x1024 .bf16) (r : Fin 256) (l : Fin 1024) :
    k0_pay6 (F := Ideal) a (k0_pay5 b) (ix2 r l) = ∑ k : Fin 1024, a (ix2 r k) * b (ix2 k l) := by
  pointwise [k0_pay6, k0_pay5]

/-- Window 7's second product, element by element. -/
theorem dot7_second (a1 : FVec Ideal S256x1024 .f32) (a2 : FVec Ideal S1x1024 .f32) (a3 : FVec Ideal S256x1 .f32) (a4 : Ideal .f32) (b : Vec Ideal S1024x1024 .bf16) (r : Fin 256) (l : Fin 1024) :
    (k0_pay17 a1 a2 a3 a4 b : FVec Ideal S256x1024 .bf16) (ix2 r l) = ∑ k : Fin 1024, (k0_pay16 a1 a2 a3 a4 : FVec Ideal S256x1024 .bf16) (ix2 r k) * b (ix2 k l) := by
  pointwise [k0_pay17]

/-- The reference's column block, element by element. -/
theorem ref7 (h : Vec Ideal Cert.MidRefIdeal.S17408x1024 .f32) (o g : Vec Ideal Cert.MidRefIdeal.S17408x1024 .bf16)
    (w : Vec Ideal Cert.MidRefIdeal.S1024x1024 .f32) (f : Vec Ideal Cert.MidRefIdeal.S1024 .f32) (x : Vec Ideal Cert.MidRefIdeal.S1024x5136 .f32) (r : Fin 17408) (l : Fin 1024) :
    val_main_v28 (F := Ideal) h o g w f x (ix2 r l) = ∑ k : Fin 1024, val_main_v18 (F := Ideal) h o g w f (ix2 r k) * x (ix2 k ⟨0 + l.val, by omega⟩) := by
  pointwise [val_main_v28, val_main_v20, val_main_v19]

/-- Window 7's weights. -/
theorem wt7 (c : Dev nD) (t : Fin cfg0.N) (k : Fin 1024) (l : Fin 1024) :
    View.ld (iblk m c 5 t) r0_3 (ix2 k l) = m ((c : Thread nD τ).loc main_arg5) (ix2 k ⟨0 + l.val, by omega⟩) := by
  refine Eq.trans (congrArg (V m c main_v9) (a₂ := ix2 k ⟨0 + l.val, by omega⟩) ?_) ((congrFun (w9 m c) _).trans (side0 _ k l))
  blk_ext [idx t]
  all_goals first | exact Rect.idx_unit_val _ _ _ _ _ | exact (Rect.idx_unit_val _ _ _ _ _).trans (Nat.zero_add _)

/-- The first half of window 7's block. -/
theorem core7_first (c : Dev nD) (t : Fin cfg0.N) (r : Fin 256) (l : Fin 1024) (j : S17408x1024.Idx) (h0 : (j 0 : Nat) = t.val * 512 + r.val) (h1 : (j 1 : Nat) = l) :
    k0_pay6 (F := Ideal) (k0_pay22 (iblk m c 0 t) (iblk m c 1 t) (iblk m c 2 t) (iblk m c 3 t) (iblk m c 4 t) (iblk m c 5 t)) (k0_pay5 (View.ld (iblk m c 5 t) r0_3)) (ix2 r l)
      = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  rw [idx_of j (j 0) l rfl h1]
  refine (dot7_first _ _ r l).trans (Eq.trans ?_ (ref7 _ _ _ _ _ _ (j 0) l).symm)
  exact Finset.sum_congr rfl fun k _ => congrArg₂ (· * ·) (n_first m c t r k (j 0) h0) (wt7 m c t k l)

/-- The second half of window 7's block. -/
theorem core7_second (c : Dev nD) (t : Fin cfg0.N) (r : Fin 256) (l : Fin 1024) (j : S17408x1024.Idx) (h0 : (j 0 : Nat) = t.val * 512 + 256 + r.val) (h1 : (j 1 : Nat) = l) :
    k0_pay17 (F := Ideal) (k0_pay23 (iblk m c 0 t) (iblk m c 1 t) (iblk m c 2 t) (iblk m c 3 t) (iblk m c 4 t) (iblk m c 5 t)) (k0_pay24 (iblk m c 0 t) (iblk m c 1 t) (iblk m c 2 t) (iblk m c 3 t) (iblk m c 4 t) (iblk m c 5 t)) (k0_pay25 (iblk m c 0 t) (iblk m c 1 t) (iblk m c 2 t) (iblk m c 3 t) (iblk m c 4 t) (iblk m c 5 t)) (Scalar.ofBits .f32 0x358637BD#32) (View.ld (iblk m c 5 t) r0_3) (ix2 r l)
      = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  rw [idx_of j (j 0) l rfl h1]
  refine (dot7_second _ _ _ _ _ r l).trans (Eq.trans ?_ (ref7 _ _ _ _ _ _ (j 0) l).symm)
  exact Finset.sum_congr rfl fun k _ => congrArg₂ (· * ·) (n_second m c t r k (j 0) h0) (wt7 m c t k l)

/-- Where an element of window 7's block lands. -/
theorem lands7 (t : Fin cfg0.N) (y : S512x1024.Idx) :
    ((((cfg0.win 7).blk t).view.emb y 0 : Fin _) : Nat) = t.val * 512 + (y 0).val ∧ ((((cfg0.win 7).blk t).view.emb y 1 : Fin _) : Nat) = (y 1).val := by
  constructor <;> blk_simp [idx t]

/-- Window 7's block after a grid point. -/
theorem point7 (c : Dev nD) (t : Fin cfg0.N) (y : S512x1024.Idx) :
    out0_7 (F := Ideal) (iblk m c 0 t) (iblk m c 1 t) (iblk m c 2 t) (iblk m c 3 t) (iblk m c 4 t) (iblk m c 5 t) y = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 7).blk t).view.emb y) := by
  obtain ⟨e0, e1⟩ := lands7 t y
  unfold out0_7
  canon_tiles x h
  all_goals rw [Idealize.ShloMosaic.eq_ix2 x]
  · exact core7_second m c t (x 0) (x 1) _ (by omega) (by omega)
  · exact core7_first m c t (x 0) (x 1) _ (by omega) (by omega)

/-- Window 7's array after the run. -/
theorem final7 (c : Dev nD) : (dats m 0 c).arrAt 7 (cfgs 0).N = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  exact point7 m c t y

/-- Window 8's first product, element by element. -/
theorem dot8_first (a : FVec Ideal S256x1024 .bf16) (b : Vec Ideal S1024x1024 .bf16) (r : Fin 256) (l : Fin 1024) :
    k0_pay7 (F := Ideal) a b (ix2 r l) = ∑ k : Fin 1024, a (ix2 r k) * b (ix2 k l) := by
  pointwise [k0_pay7, k0_pay5]

/-- Window 8's second product, element by element. -/
theorem dot8_second (a1 : FVec Ideal S256x1024 .f32) (a2 : FVec Ideal S1x1024 .f32) (a3 : FVec Ideal S256x1 .f32) (a4 : Ideal .f32) (b : Vec Ideal S1024x1024 .bf16) (r : Fin 256) (l : Fin 1024) :
    (k0_pay18 a1 a2 a3 a4 b : FVec Ideal S256x1024 .bf16) (ix2 r l) = ∑ k : Fin 1024, (k0_pay16 a1 a2 a3 a4 : FVec Ideal S256x1024 .bf16) (ix2 r k) * b (ix2 k l) := by
  pointwise [k0_pay18]

/-- The reference's column block, element by element. -/
theorem ref8 (h : Vec Ideal Cert.MidRefIdeal.S17408x1024 .f32) (o g : Vec Ideal Cert.MidRefIdeal.S17408x1024 .bf16)
    (w : Vec Ideal Cert.MidRefIdeal.S1024x1024 .f32) (f : Vec Ideal Cert.MidRefIdeal.S1024 .f32) (x : Vec Ideal Cert.MidRefIdeal.S1024x5136 .f32) (r : Fin 17408) (l : Fin 1024) :
    val_main_v29 (F := Ideal) h o g w f x (ix2 r l) = ∑ k : Fin 1024, val_main_v18 (F := Ideal) h o g w f (ix2 r k) * x (ix2 k ⟨1024 + l.val, by omega⟩) := by
  pointwise [val_main_v29, val_main_v21, val_main_v19]

/-- Window 8's weights. -/
theorem wt8 (c : Dev nD) (t : Fin cfg0.N) (k : Fin 1024) (l : Fin 1024) :
    View.ld (iblk m c 5 t) r0_4 (ix2 k l) = m ((c : Thread nD τ).loc main_arg5) (ix2 k ⟨1024 + l.val, by omega⟩) := by
  refine Eq.trans (congrArg (V m c main_v9) (a₂ := ix2 k ⟨1024 + l.val, by omega⟩) ?_) ((congrFun (w9 m c) _).trans (side1 _ k l))
  blk_ext [idx t]
  all_goals first | exact Rect.idx_unit_val _ _ _ _ _ | exact (Rect.idx_unit_val _ _ _ _ _).trans (Nat.zero_add _)

/-- The first half of window 8's block. -/
theorem core8_first (c : Dev nD) (t : Fin cfg0.N) (r : Fin 256) (l : Fin 1024) (j : S17408x1024.Idx) (h0 : (j 0 : Nat) = t.val * 512 + r.val) (h1 : (j 1 : Nat) = l) :
    k0_pay7 (F := Ideal) (k0_pay22 (iblk m c 0 t) (iblk m c 1 t) (iblk m c 2 t) (iblk m c 3 t) (iblk m c 4 t) (iblk m c 5 t)) (View.ld (iblk m c 5 t) r0_4) (ix2 r l)
      = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  rw [idx_of j (j 0) l rfl h1]
  refine (dot8_first _ _ r l).trans (Eq.trans ?_ (ref8 _ _ _ _ _ _ (j 0) l).symm)
  exact Finset.sum_congr rfl fun k _ => congrArg₂ (· * ·) (n_first m c t r k (j 0) h0) (wt8 m c t k l)

/-- The second half of window 8's block. -/
theorem core8_second (c : Dev nD) (t : Fin cfg0.N) (r : Fin 256) (l : Fin 1024) (j : S17408x1024.Idx) (h0 : (j 0 : Nat) = t.val * 512 + 256 + r.val) (h1 : (j 1 : Nat) = l) :
    k0_pay18 (F := Ideal) (k0_pay23 (iblk m c 0 t) (iblk m c 1 t) (iblk m c 2 t) (iblk m c 3 t) (iblk m c 4 t) (iblk m c 5 t)) (k0_pay24 (iblk m c 0 t) (iblk m c 1 t) (iblk m c 2 t) (iblk m c 3 t) (iblk m c 4 t) (iblk m c 5 t)) (k0_pay25 (iblk m c 0 t) (iblk m c 1 t) (iblk m c 2 t) (iblk m c 3 t) (iblk m c 4 t) (iblk m c 5 t)) (Scalar.ofBits .f32 0x358637BD#32) (View.ld (iblk m c 5 t) r0_4) (ix2 r l)
      = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  rw [idx_of j (j 0) l rfl h1]
  refine (dot8_second _ _ _ _ _ r l).trans (Eq.trans ?_ (ref8 _ _ _ _ _ _ (j 0) l).symm)
  exact Finset.sum_congr rfl fun k _ => congrArg₂ (· * ·) (n_second m c t r k (j 0) h0) (wt8 m c t k l)

/-- Where an element of window 8's block lands. -/
theorem lands8 (t : Fin cfg0.N) (y : S512x1024.Idx) :
    ((((cfg0.win 8).blk t).view.emb y 0 : Fin _) : Nat) = t.val * 512 + (y 0).val ∧ ((((cfg0.win 8).blk t).view.emb y 1 : Fin _) : Nat) = (y 1).val := by
  constructor <;> blk_simp [idx t]

/-- Window 8's block after a grid point. -/
theorem point8 (c : Dev nD) (t : Fin cfg0.N) (y : S512x1024.Idx) :
    out0_8 (F := Ideal) (iblk m c 0 t) (iblk m c 1 t) (iblk m c 2 t) (iblk m c 3 t) (iblk m c 4 t) (iblk m c 5 t) y = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 8).blk t).view.emb y) := by
  obtain ⟨e0, e1⟩ := lands8 t y
  unfold out0_8
  canon_tiles x h
  all_goals rw [Idealize.ShloMosaic.eq_ix2 x]
  · exact core8_second m c t (x 0) (x 1) _ (by omega) (by omega)
  · exact core8_first m c t (x 0) (x 1) _ (by omega) (by omega)

/-- Window 8's array after the run. -/
theorem final8 (c : Dev nD) : (dats m 0 c).arrAt 8 (cfgs 0).N = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  exact point8 m c t y

/-- Window 9's first product, element by element. -/
theorem dot9_first (a : FVec Ideal S256x1024 .bf16) (b : Vec Ideal S1024x512 .bf16) (r : Fin 256) (l : Fin 512) :
    k0_pay8 (F := Ideal) a b (ix2 r l) = ∑ k : Fin 1024, a (ix2 r k) * b (ix2 k l) := by
  pointwise [k0_pay8, k0_pay5]

/-- Window 9's second product, element by element. -/
theorem dot9_second (a1 : FVec Ideal S256x1024 .f32) (a2 : FVec Ideal S1x1024 .f32) (a3 : FVec Ideal S256x1 .f32) (a4 : Ideal .f32) (b : Vec Ideal S1024x512 .bf16) (r : Fin 256) (l : Fin 512) :
    (k0_pay19 a1 a2 a3 a4 b : FVec Ideal S256x512 .bf16) (ix2 r l) = ∑ k : Fin 1024, (k0_pay16 a1 a2 a3 a4 : FVec Ideal S256x1024 .bf16) (ix2 r k) * b (ix2 k l) := by
  pointwise [k0_pay19]

/-- The reference's column block, element by element. -/
theorem ref9 (h : Vec Ideal Cert.MidRefIdeal.S17408x1024 .f32) (o g : Vec Ideal Cert.MidRefIdeal.S17408x1024 .bf16)
    (w : Vec Ideal Cert.MidRefIdeal.S1024x1024 .f32) (f : Vec Ideal Cert.MidRefIdeal.S1024 .f32) (x : Vec Ideal Cert.MidRefIdeal.S1024x5136 .f32) (r : Fin 17408) (l : Fin 512) :
    val_main_v30 (F := Ideal) h o g w f x (ix2 r l) = ∑ k : Fin 1024, val_main_v18 (F := Ideal) h o g w f (ix2 r k) * x (ix2 k ⟨2048 + l.val, by omega⟩) := by
  pointwise [val_main_v30, val_main_v22, val_main_v19]

/-- Window 9's weights. -/
theorem wt9 (c : Dev nD) (t : Fin cfg0.N) (k : Fin 1024) (l : Fin 512) :
    View.ld (iblk m c 5 t) r0_5 (ix2 k l) = m ((c : Thread nD τ).loc main_arg5) (ix2 k ⟨2048 + l.val, by omega⟩) := by
  refine Eq.trans (congrArg (V m c main_v9) (a₂ := ix2 k ⟨2048 + l.val, by omega⟩) ?_) ((congrFun (w9 m c) _).trans (side2 _ k l))
  blk_ext [idx t]
  all_goals first | exact Rect.idx_unit_val _ _ _ _ _ | exact (Rect.idx_unit_val _ _ _ _ _).trans (Nat.zero_add _)

/-- The first half of window 9's block. -/
theorem core9_first (c : Dev nD) (t : Fin cfg0.N) (r : Fin 256) (l : Fin 512) (j : S17408x512.Idx) (h0 : (j 0 : Nat) = t.val * 512 + r.val) (h1 : (j 1 : Nat) = l) :
    k0_pay8 (F := Ideal) (k0_pay22 (iblk m c 0 t) (iblk m c 1 t) (iblk m c 2 t) (iblk m c 3 t) (iblk m c 4 t) (iblk m c 5 t)) (View.ld (iblk m c 5 t) r0_5) (ix2 r l)
      = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  rw [idx_of j (j 0) l rfl h1]
  refine (dot9_first _ _ r l).trans (Eq.trans ?_ (ref9 _ _ _ _ _ _ (j 0) l).symm)
  exact Finset.sum_congr rfl fun k _ => congrArg₂ (· * ·) (n_first m c t r k (j 0) h0) (wt9 m c t k l)

/-- The second half of window 9's block. -/
theorem core9_second (c : Dev nD) (t : Fin cfg0.N) (r : Fin 256) (l : Fin 512) (j : S17408x512.Idx) (h0 : (j 0 : Nat) = t.val * 512 + 256 + r.val) (h1 : (j 1 : Nat) = l) :
    k0_pay19 (F := Ideal) (k0_pay23 (iblk m c 0 t) (iblk m c 1 t) (iblk m c 2 t) (iblk m c 3 t) (iblk m c 4 t) (iblk m c 5 t)) (k0_pay24 (iblk m c 0 t) (iblk m c 1 t) (iblk m c 2 t) (iblk m c 3 t) (iblk m c 4 t) (iblk m c 5 t)) (k0_pay25 (iblk m c 0 t) (iblk m c 1 t) (iblk m c 2 t) (iblk m c 3 t) (iblk m c 4 t) (iblk m c 5 t)) (Scalar.ofBits .f32 0x358637BD#32) (View.ld (iblk m c 5 t) r0_5) (ix2 r l)
      = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  rw [idx_of j (j 0) l rfl h1]
  refine (dot9_second _ _ _ _ _ r l).trans (Eq.trans ?_ (ref9 _ _ _ _ _ _ (j 0) l).symm)
  exact Finset.sum_congr rfl fun k _ => congrArg₂ (· * ·) (n_second m c t r k (j 0) h0) (wt9 m c t k l)

/-- Where an element of window 9's block lands. -/
theorem lands9 (t : Fin cfg0.N) (y : S512x512.Idx) :
    ((((cfg0.win 9).blk t).view.emb y 0 : Fin _) : Nat) = t.val * 512 + (y 0).val ∧ ((((cfg0.win 9).blk t).view.emb y 1 : Fin _) : Nat) = (y 1).val := by
  constructor <;> blk_simp [idx t]

/-- Window 9's block after a grid point. -/
theorem point9 (c : Dev nD) (t : Fin cfg0.N) (y : S512x512.Idx) :
    out0_9 (F := Ideal) (iblk m c 0 t) (iblk m c 1 t) (iblk m c 2 t) (iblk m c 3 t) (iblk m c 4 t) (iblk m c 5 t) y = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 9).blk t).view.emb y) := by
  obtain ⟨e0, e1⟩ := lands9 t y
  unfold out0_9
  canon_tiles x h
  all_goals rw [Idealize.ShloMosaic.eq_ix2 x]
  · exact core9_second m c t (x 0) (x 1) _ (by omega) (by omega)
  · exact core9_first m c t (x 0) (x 1) _ (by omega) (by omega)

/-- Window 9's array after the run. -/
theorem final9 (c : Dev nD) : (dats m 0 c).arrAt 9 (cfgs 0).N = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]
  exact point9 m c t y

/-- Window 10's first product, element by element. -/
theorem dot10_first (a : FVec Ideal S256x1024 .bf16) (b : Vec Ideal S1024x512 .bf16) (r : Fin 256) (l : Fin 512) :
    k0_pay9 (F := Ideal) a b (ix2 r l) = ∑ k : Fin 1024, a (ix2 r k) * b (ix2 k l) := by
  pointwise [k0_pay9, k0_pay5]

/-- Window 10's second product, element by element. -/
theorem dot10_second (a1 : FVec Ideal S256x1024 .f32) (a2 : FVec Ideal S1x1024 .f32) (a3 : FVec Ideal S256x1 .f32) (a4 : Ideal .f32) (b : Vec Ideal S1024x512 .bf16) (r : Fin 256) (l : Fin 512) :
    (k0_pay20 a1 a2 a3 a4 b : FVec Ideal S256x512 .bf16) (ix2 r l) = ∑ k : Fin 1024, (k0_pay16 a1 a2 a3 a4 : FVec Ideal S256x1024 .bf16) (ix2 r k) * b (ix2 k l) := by
  pointwise [k0_pay20]

/-- The reference's column block, element by element. -/
theorem ref10 (h : Vec Ideal Cert.MidRefIdeal.S17408x1024 .f32) (o g : Vec Ideal Cert.MidRefIdeal.S17408x1024 .bf16)
    (w : Vec Ideal Cert.MidRefIdeal.S1024x1024 .f32) (f : Vec Ideal Cert.MidRefIdeal.S1024 .f32) (x : Vec Ideal Cert.MidRefIdeal.S1024x5136 .f32) (r : Fin 17408) (l : Fin 512) :
    val_main_v31 (F := Ideal) h o g w f x (ix2 r l) = ∑ k : Fin 1024, val_main_v18 (F := Ideal) h o g w f (ix2 r k) * x (ix2 k ⟨2560 + l.val, by omega⟩) := by
  pointwise [val_main_v31, val_main_v23, val_main_v19]

/-- Window 10's weights. -/
theorem wt10 (c : Dev nD) (t : Fin cfg0.N) (k : Fin 1024) (l : Fin 512) :
    View.ld (iblk m c 5 t) r0_7 (ix2 k l) = m ((c : Thread nD τ).loc main_arg5) (ix2 k ⟨2560 + l.val, by omega⟩) := by
  refine Eq.trans (congrArg (V m c main_v9) (a₂ := ix2 k ⟨2560 + l.val, by omega⟩) ?_) ((congrFun (w9 m c) _).trans (side3 _ k l))
  blk_ext [idx t]
  all_goals first | exact Rect.idx_unit_val _ _ _ _ _ | exact (Rect.idx_unit_val _ _ _ _ _).trans (Nat.zero_add _)

/-- The first half of window 10's block. -/
theorem core10_first (c : Dev nD) (t : Fin cfg0.N) (r : Fin 256) (l : Fin 512) (j : S17408x512.Idx) (h0 : (j 0 : Nat) = t.val * 512 + r.val) (h1 : (j 1 : Nat) = l) :
    k0_pay9 (F := Ideal) (k0_pay22 (iblk m c 0 t) (iblk m c 1 t) (iblk m c 2 t) (iblk m c 3 t) (iblk m c 4 t) (iblk m c 5 t)) (View.ld (iblk m c 5 t) r0_7) (ix2 r l)
      = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  rw [idx_of j (j 0) l rfl h1]
  refine (dot10_first _ _ r l).trans (Eq.trans ?_ (ref10 _ _ _ _ _ _ (j 0) l).symm)
  exact Finset.sum_congr rfl fun k _ => congrArg₂ (· * ·) (n_first m c t r k (j 0) h0) (wt10 m c t k l)

/-- The second half of window 10's block. -/
theorem core10_second (c : Dev nD) (t : Fin cfg0.N) (r : Fin 256) (l : Fin 512) (j : S17408x512.Idx) (h0 : (j 0 : Nat) = t.val * 512 + 256 + r.val) (h1 : (j 1 : Nat) = l) :
    k0_pay20 (F := Ideal) (k0_pay23 (iblk m c 0 t) (iblk m c 1 t) (iblk m c 2 t) (iblk m c 3 t) (iblk m c 4 t) (iblk m c 5 t)) (k0_pay24 (iblk m c 0 t) (iblk m c 1 t) (iblk m c 2 t) (iblk m c 3 t) (iblk m c 4 t) (iblk m c 5 t)) (k0_pay25 (iblk m c 0 t) (iblk m c 1 t) (iblk m c 2 t) (iblk m c 3 t) (iblk m c 4 t) (iblk m c 5 t)) (Scalar.ofBits .f32 0x358637BD#32) (View.ld (iblk m c 5 t) r0_7) (ix2 r l)
      = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  rw [idx_of j (j 0) l rfl h1]
  refine (dot10_second _ _ _ _ _ r l).trans (Eq.trans ?_ (ref10 _ _ _ _ _ _ (j 0) l).symm)
  exact Finset.sum_congr rfl fun k _ => congrArg₂ (· * ·) (n_second m c t r k (j 0) h0) (wt10 m c t k l)

/-- Where an element of window 10's block lands. -/
theorem lands10 (t : Fin cfg0.N) (y : S512x512.Idx) :
    ((((cfg0.win 10).blk t).view.emb y 0 : Fin _) : Nat) = t.val * 512 + (y 0).val ∧ ((((cfg0.win 10).blk t).view.emb y 1 : Fin _) : Nat) = (y 1).val := by
  constructor <;> blk_simp [idx t]

/-- Window 10's block after a grid point. -/
theorem point10 (c : Dev nD) (t : Fin cfg0.N) (y : S512x512.Idx) :
    out0_10 (F := Ideal) (iblk m c 0 t) (iblk m c 1 t) (iblk m c 2 t) (iblk m c 3 t) (iblk m c 4 t) (iblk m c 5 t) y = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 10).blk t).view.emb y) := by
  obtain ⟨e0, e1⟩ := lands10 t y
  unfold out0_10
  canon_tiles x h
  all_goals rw [Idealize.ShloMosaic.eq_ix2 x]
  · exact core10_second m c t (x 0) (x 1) _ (by omega) (by omega)
  · exact core10_first m c t (x 0) (x 1) _ (by omega) (by omega)

/-- Window 10's array after the run. -/
theorem final10 (c : Dev nD) : (dats m 0 c).arrAt 10 (cfgs 0).N = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t _ y => ?_
  blk_simp
  rw [after0_10]
  exact point10 m c t y

/-- Window 11's first product, element by element. -/
theorem dot11_first (a : FVec Ideal S256x1024 .bf16) (b : Vec Ideal S1024x1024 .bf16) (r : Fin 256) (l : Fin 1024) :
    k0_pay10 (F := Ideal) a b (ix2 r l) = ∑ k : Fin 1024, a (ix2 r k) * b (ix2 k l) := by
  pointwise [k0_pay10, k0_pay5]

/-- Window 11's second product, element by element. -/
theorem dot11_second (a1 : FVec Ideal S256x1024 .f32) (a2 : FVec Ideal S1x1024 .f32) (a3 : FVec Ideal S256x1 .f32) (a4 : Ideal .f32) (b : Vec Ideal S1024x1024 .bf16) (r : Fin 256) (l : Fin 1024) :
    (k0_pay21 a1 a2 a3 a4 b : FVec Ideal S256x1024 .bf16) (ix2 r l) = ∑ k : Fin 1024, (k0_pay16 a1 a2 a3 a4 : FVec Ideal S256x1024 .bf16) (ix2 r k) * b (ix2 k l) := by
  pointwise [k0_pay21]

/-- The reference's column block, element by element. -/
theorem ref11 (h : Vec Ideal Cert.MidRefIdeal.S17408x1024 .f32) (o g : Vec Ideal Cert.MidRefIdeal.S17408x1024 .bf16)
    (w : Vec Ideal Cert.MidRefIdeal.S1024x1024 .f32) (f : Vec Ideal Cert.MidRefIdeal.S1024 .f32) (x : Vec Ideal Cert.MidRefIdeal.S1024x5136 .f32) (r : Fin 17408) (l : Fin 1024) :
    val_main_v32 (F := Ideal) h o g w f x (ix2 r l) = ∑ k : Fin 1024, val_main_v18 (F := Ideal) h o g w f (ix2 r k) * x (ix2 k ⟨3072 + l.val, by omega⟩) := by
  pointwise [val_main_v32, val_main_v24, val_main_v19]

/-- Window 11's weights. -/
theorem wt11 (c : Dev nD) (t : Fin cfg0.N) (k : Fin 1024) (l : Fin 1024) :
    View.ld (iblk m c 5 t) r0_8 (ix2 k l) = m ((c : Thread nD τ).loc main_arg5) (ix2 k ⟨3072 + l.val, by omega⟩) := by
  refine Eq.trans (congrArg (V m c main_v9) (a₂ := ix2 k ⟨3072 + l.val, by omega⟩) ?_) ((congrFun (w9 m c) _).trans (side4 _ k l))
  blk_ext [idx t]
  all_goals first | exact Rect.idx_unit_val _ _ _ _ _ | exact (Rect.idx_unit_val _ _ _ _ _).trans (Nat.zero_add _)

/-- The first half of window 11's block. -/
theorem core11_first (c : Dev nD) (t : Fin cfg0.N) (r : Fin 256) (l : Fin 1024) (j : S17408x1024.Idx) (h0 : (j 0 : Nat) = t.val * 512 + r.val) (h1 : (j 1 : Nat) = l) :
    k0_pay10 (F := Ideal) (k0_pay22 (iblk m c 0 t) (iblk m c 1 t) (iblk m c 2 t) (iblk m c 3 t) (iblk m c 4 t) (iblk m c 5 t)) (View.ld (iblk m c 5 t) r0_8) (ix2 r l)
      = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  rw [idx_of j (j 0) l rfl h1]
  refine (dot11_first _ _ r l).trans (Eq.trans ?_ (ref11 _ _ _ _ _ _ (j 0) l).symm)
  exact Finset.sum_congr rfl fun k _ => congrArg₂ (· * ·) (n_first m c t r k (j 0) h0) (wt11 m c t k l)

/-- The second half of window 11's block. -/
theorem core11_second (c : Dev nD) (t : Fin cfg0.N) (r : Fin 256) (l : Fin 1024) (j : S17408x1024.Idx) (h0 : (j 0 : Nat) = t.val * 512 + 256 + r.val) (h1 : (j 1 : Nat) = l) :
    k0_pay21 (F := Ideal) (k0_pay23 (iblk m c 0 t) (iblk m c 1 t) (iblk m c 2 t) (iblk m c 3 t) (iblk m c 4 t) (iblk m c 5 t)) (k0_pay24 (iblk m c 0 t) (iblk m c 1 t) (iblk m c 2 t) (iblk m c 3 t) (iblk m c 4 t) (iblk m c 5 t)) (k0_pay25 (iblk m c 0 t) (iblk m c 1 t) (iblk m c 2 t) (iblk m c 3 t) (iblk m c 4 t) (iblk m c 5 t)) (Scalar.ofBits .f32 0x358637BD#32) (View.ld (iblk m c 5 t) r0_8) (ix2 r l)
      = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  rw [idx_of j (j 0) l rfl h1]
  refine (dot11_second _ _ _ _ _ r l).trans (Eq.trans ?_ (ref11 _ _ _ _ _ _ (j 0) l).symm)
  exact Finset.sum_congr rfl fun k _ => congrArg₂ (· * ·) (n_second m c t r k (j 0) h0) (wt11 m c t k l)

/-- Where an element of window 11's block lands. -/
theorem lands11 (t : Fin cfg0.N) (y : S512x1024.Idx) :
    ((((cfg0.win 11).blk t).view.emb y 0 : Fin _) : Nat) = t.val * 512 + (y 0).val ∧ ((((cfg0.win 11).blk t).view.emb y 1 : Fin _) : Nat) = (y 1).val := by
  constructor <;> blk_simp [idx t]

/-- Window 11's block after a grid point. -/
theorem point11 (c : Dev nD) (t : Fin cfg0.N) (y : S512x1024.Idx) :
    out0_11 (F := Ideal) (iblk m c 0 t) (iblk m c 1 t) (iblk m c 2 t) (iblk m c 3 t) (iblk m c 4 t) (iblk m c 5 t) y = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 11).blk t).view.emb y) := by
  obtain ⟨e0, e1⟩ := lands11 t y
  unfold out0_11
  canon_tiles x h
  all_goals rw [Idealize.ShloMosaic.eq_ix2 x]
  · exact core11_second m c t (x 0) (x 1) _ (by omega) (by omega)
  · exact core11_first m c t (x 0) (x 1) _ (by omega) (by omega)

/-- Window 11's array after the run. -/
theorem final11 (c : Dev nD) : (dats m 0 c).arrAt 11 (cfgs 0).N = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t _ y => ?_
  blk_simp
  rw [after0_11]
  exact point11 m c t y

/-- Window 12's first product, element by element. -/
theorem dot12_first (a : FVec Ideal S256x1024 .bf16) (b : Vec Ideal S1024x1024 .bf16) (r : Fin 256) (l : Fin 1024) :
    k0_pay11 (F := Ideal) a b (ix2 r l) = ∑ k : Fin 1024, a (ix2 r k) * b (ix2 k l) := by
  pointwise [k0_pay11, k0_pay5]

/-- Window 12's second product, element by element. -/
theorem dot12_second (a : FVec Ideal S256x1024 .bf16) (b : Vec Ideal S1024x1024 .bf16) (r : Fin 256) (l : Fin 1024) :
    (k0_pay1 a b : FVec Ideal S256x1024 .bf16) (ix2 r l) = ∑ k : Fin 1024, (a : FVec Ideal S256x1024 .bf16) (ix2 r k) * b (ix2 k l) := by
  pointwise [k0_pay1]

/-- The reference's column block, element by element. -/
theorem ref12 (h : Vec Ideal Cert.MidRefIdeal.S17408x1024 .f32) (o g : Vec Ideal Cert.MidRefIdeal.S17408x1024 .bf16)
    (w : Vec Ideal Cert.MidRefIdeal.S1024x1024 .f32) (f : Vec Ideal Cert.MidRefIdeal.S1024 .f32) (x : Vec Ideal Cert.MidRefIdeal.S1024x5136 .f32) (r : Fin 17408) (l : Fin 1024) :
    val_main_v33 (F := Ideal) h o g w f x (ix2 r l) = ∑ k : Fin 1024, val_main_v18 (F := Ideal) h o g w f (ix2 r k) * x (ix2 k ⟨4112 + l.val, by omega⟩) := by
  pointwise [val_main_v33, val_main_v26, val_main_v19]

/-- Window 12's weights. -/
theorem wt12 (c : Dev nD) (t : Fin cfg0.N) (k : Fin 1024) (l : Fin 1024) :
    View.ld (iblk m c 5 t) r0_9 (ix2 k l) = m ((c : Thread nD τ).loc main_arg5) (ix2 k ⟨4112 + l.val, by omega⟩) := by
  refine Eq.trans (congrArg (V m c main_v9) (a₂ := ix2 k ⟨4096 + l.val, by omega⟩) ?_) ((congrFun (w9 m c) _).trans (side5 _ k l))
  blk_ext [idx t]
  all_goals first | exact Rect.idx_unit_val _ _ _ _ _ | exact (Rect.idx_unit_val _ _ _ _ _).trans (Nat.zero_add _)

/-- The first half of window 12's block. -/
theorem core12_first (c : Dev nD) (t : Fin cfg0.N) (r : Fin 256) (l : Fin 1024) (j : S17408x1024.Idx) (h0 : (j 0 : Nat) = t.val * 512 + r.val) (h1 : (j 1 : Nat) = l) :
    k0_pay11 (F := Ideal) (k0_pay22 (iblk m c 0 t) (iblk m c 1 t) (iblk m c 2 t) (iblk m c 3 t) (iblk m c 4 t) (iblk m c 5 t)) (View.ld (iblk m c 5 t) r0_9) (ix2 r l)
      = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  rw [idx_of j (j 0) l rfl h1]
  refine (dot12_first _ _ r l).trans (Eq.trans ?_ (ref12 _ _ _ _ _ _ (j 0) l).symm)
  exact Finset.sum_congr rfl fun k _ => congrArg₂ (· * ·) (n_first m c t r k (j 0) h0) (wt12 m c t k l)

/-- The second half of window 12's block. -/
theorem core12_second (c : Dev nD) (t : Fin cfg0.N) (r : Fin 256) (l : Fin 1024) (j : S17408x1024.Idx) (h0 : (j 0 : Nat) = t.val * 512 + 256 + r.val) (h1 : (j 1 : Nat) = l) :
    k0_pay1 (F := Ideal) (k0_pay26 (iblk m c 0 t) (iblk m c 1 t) (iblk m c 2 t) (iblk m c 3 t) (iblk m c 4 t) (iblk m c 5 t)) (View.ld (iblk m c 5 t) r0_9) (ix2 r l)
      = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  rw [idx_of j (j 0) l rfl h1]
  refine (dot12_second _ _ r l).trans (Eq.trans ?_ (ref12 _ _ _ _ _ _ (j 0) l).symm)
  exact Finset.sum_congr rfl fun k _ => congrArg₂ (· * ·) (n_second m c t r k (j 0) h0) (wt12 m c t k l)

/-- Where an element of window 12's block lands. -/
theorem lands12 (t : Fin cfg0.N) (y : S512x1024.Idx) :
    ((((cfg0.win 12).blk t).view.emb y 0 : Fin _) : Nat) = t.val * 512 + (y 0).val ∧ ((((cfg0.win 12).blk t).view.emb y 1 : Fin _) : Nat) = (y 1).val := by
  constructor <;> blk_simp [idx t]

/-- Window 12's block after a grid point. -/
theorem point12 (c : Dev nD) (t : Fin cfg0.N) (y : S512x1024.Idx) :
    out0_12 (F := Ideal) (iblk m c 0 t) (iblk m c 1 t) (iblk m c 2 t) (iblk m c 3 t) (iblk m c 4 t) (iblk m c 5 t) y = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 12).blk t).view.emb y) := by
  obtain ⟨e0, e1⟩ := lands12 t y
  unfold out0_12
  canon_tiles x h
  all_goals rw [Idealize.ShloMosaic.eq_ix2 x]
  · exact core12_second m c t (x 0) (x 1) _ (by omega) (by omega)
  · exact core12_first m c t (x 0) (x 1) _ (by omega) (by omega)

/-- Window 12's array after the run. -/
theorem final12 (c : Dev nD) : (dats m 0 c).arrAt 12 (cfgs 0).N = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 12 _ (by decide +kernel) fun t _ y => ?_
  blk_simp
  rw [after0_12]
  exact point12 m c t y

/-- Window 13's first product, element by element. -/
theorem dot13_first (a : FVec Ideal S256x1024 .bf16) (b : Vec Ideal S1024x128 .bf16) (r : Fin 256) (l : Fin 128) :
    k0_pay12 (F := Ideal) a b (ix2 r l) = ∑ k : Fin 1024, a (ix2 r k) * b (ix2 k l) := by
  pointwise [k0_pay12]

/-- Window 13's second product, element by element. -/
theorem dot13_second (a : FVec Ideal S256x1024 .bf16) (b : Vec Ideal S1024x128 .bf16) (r : Fin 256) (l : Fin 128) :
    k0_pay2 (F := Ideal) a b (ix2 r l) = ∑ k : Fin 1024, a (ix2 r k) * b (ix2 k l) := by
  pointwise [k0_pay2]

/-- The reference's padded column block, element by element. -/
theorem ref13 (h : Vec Ideal Cert.MidRefIdeal.S17408x1024 .f32) (o g : Vec Ideal Cert.MidRefIdeal.S17408x1024 .bf16)
    (w : Vec Ideal Cert.MidRefIdeal.S1024x1024 .f32) (f : Vec Ideal Cert.MidRefIdeal.S1024 .f32) (x : Vec Ideal Cert.MidRefIdeal.S1024x5136 .f32) (r : Fin 17408) (l : Fin 128) :
    val_main_v34 (F := Ideal) h o g w f x (ix2 r l)
      = ∑ k : Fin 1024, val_main_v18 (F := Ideal) h o g w f (ix2 r k) * (if hl : l.val < 16 then x (ix2 k ⟨4096 + l.val, by omega⟩) else 0) := by
  pointwise [val_main_v34, val_main_v27, val_main_v25, val_main_v19, val_main_call1_v0, val_main_c]
  by_cases hl : l.val < 16
  · simp only [dif_pos hl]
  · simp only [dif_neg hl, zero_cast, mul_zero, Finset.sum_const_zero]

/-- Window 13's weights. -/
theorem wt13 (c : Dev nD) (t : Fin cfg0.N) (k : Fin 1024) (l : Fin 128) :
    View.ld (iblk m c 5 t) r0_10 (ix2 k l) = if hl : l.val < 16 then (m ((c : Thread nD τ).loc main_arg5) (ix2 k ⟨4096 + l.val, by omega⟩) : EReal) else (0 : EReal) := by
  refine Eq.trans (congrArg (V m c main_v9) (a₂ := ix2 k ⟨5120 + l.val, by omega⟩) ?_) ((congrFun (w9 m c) _).trans (side6 _ k l))
  blk_ext [idx t]
  all_goals first | exact Rect.idx_unit_val _ _ _ _ _ | exact (Rect.idx_unit_val _ _ _ _ _).trans (Nat.zero_add _)

/-- The first half of window 13's block. -/
theorem core13_first (c : Dev nD) (t : Fin cfg0.N) (r : Fin 256) (l : Fin 128) (j : S17408x128.Idx) (h0 : (j 0 : Nat) = t.val * 512 + r.val) (h1 : (j 1 : Nat) = l) :
    k0_pay12 (F := Ideal) (k0_pay22 (iblk m c 0 t) (iblk m c 1 t) (iblk m c 2 t) (iblk m c 3 t) (iblk m c 4 t) (iblk m c 5 t)) (View.ld (iblk m c 5 t) r0_10) (ix2 r l)
      = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  rw [idx_of j (j 0) l rfl h1]
  refine (dot13_first _ _ r l).trans (Eq.trans ?_ (ref13 _ _ _ _ _ _ (j 0) l).symm)
  exact Finset.sum_congr rfl fun k _ => congrArg₂ (· * ·) (n_first m c t r k (j 0) h0) (wt13 m c t k l)

/-- The second half of window 13's block. -/
theorem core13_second (c : Dev nD) (t : Fin cfg0.N) (r : Fin 256) (l : Fin 128) (j : S17408x128.Idx) (h0 : (j 0 : Nat) = t.val * 512 + 256 + r.val) (h1 : (j 1 : Nat) = l) :
    k0_pay2 (F := Ideal) (k0_pay26 (iblk m c 0 t) (iblk m c 1 t) (iblk m c 2 t) (iblk m c 3 t) (iblk m c 4 t) (iblk m c 5 t)) (View.ld (iblk m c 5 t) r0_10) (ix2 r l)
      = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  rw [idx_of j (j 0) l rfl h1]
  refine (dot13_second _ _ r l).trans (Eq.trans ?_ (ref13 _ _ _ _ _ _ (j 0) l).symm)
  exact Finset.sum_congr rfl fun k _ => congrArg₂ (· * ·) (n_second m c t r k (j 0) h0) (wt13 m c t k l)

/-- Where an element of window 13's block lands. -/
theorem lands13 (t : Fin cfg0.N) (y : S512x128.Idx) :
    ((((cfg0.win 13).blk t).view.emb y 0 : Fin _) : Nat) = t.val * 512 + (y 0).val ∧ ((((cfg0.win 13).blk t).view.emb y 1 : Fin _) : Nat) = (y 1).val := by
  constructor <;> blk_simp [idx t]

/-- Window 13's block after a grid point. -/
theorem point13 (c : Dev nD) (t : Fin cfg0.N) (y : S512x128.Idx) :
    out0_13 (F := Ideal) (iblk m c 0 t) (iblk m c 1 t) (iblk m c 2 t) (iblk m c 3 t) (iblk m c 4 t) (iblk m c 5 t) y = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 13).blk t).view.emb y) := by
  obtain ⟨e0, e1⟩ := lands13 t y
  unfold out0_13
  canon_tiles x h
  all_goals rw [Idealize.ShloMosaic.eq_ix2 x]
  · exact core13_second m c t (x 0) (x 1) _ (by omega) (by omega)
  · exact core13_first m c t (x 0) (x 1) _ (by omega) (by omega)

/-- Window 13's array after the run. -/
theorem final13 (c : Dev nD) : (dats m 0 c).arrAt 13 (cfgs 0).N = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 13 _ (by decide +kernel) fun t _ y => ?_
  blk_simp
  rw [after0_13]
  exact point13 m c t y

end Cert.MidIdeal.RowValue

end
-- ==== Proof.MidClaim.lean ====
/- The row-wise call between two layers: the claim about it. -/
module

public import proofs.«01_k».proof.Defs
public import proofs.«01_k».proof.Proof.Gen.MidIdeal.Frame
public import proofs.«01_k».proof.Proof.Gen.MidRefIdeal.Run
public import proofs.«01_k».proof.Proof.Gen.MidRefIdeal.Read
public import proofs.«01_k».proof.Proof.MidOut
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof

set_option maxHeartbeats 2000000 in
theorem algebraic_mid : Cert.algebraic_MidIdeal_MidRefIdeal (hMidIdeal := Cert.MidIdeal.Gen.facts) (hMidRefIdeal := Cert.MidRefIdeal.Gen.facts) := by
  pair_intro
  · run_from Cert.MidIdeal.Gen.run_main m g
    · exact Cert.MidIdeal.Gen.V_main_arg3 m c
    · exact Cert.MidIdeal.Gen.V_main_arg4 m c
    · exact Cert.MidIdeal.Gen.V_main_arg5 m c
  · run_from Cert.MidRefIdeal.Value.run m' g'
    · exact (Cert.MidIdeal.RowValue.final6 m c).symm
    · exact (Cert.MidIdeal.RowValue.final7 m c).symm
    · exact (Cert.MidIdeal.RowValue.final8 m c).symm
    · exact (Cert.MidIdeal.RowValue.final9 m c).symm
    · exact (Cert.MidIdeal.RowValue.final10 m c).symm
    · exact (Cert.MidIdeal.RowValue.final11 m c).symm
    · exact (Cert.MidIdeal.RowValue.final12 m c).symm
    · exact (Cert.MidIdeal.RowValue.final13 m c).symm

end Cert.Proof

end
-- ==== Proof.HeadLanes.lean ====
/- The lanes of a head: where the rotary and the plain coordinates of queries and keys lie, and the rotation of them. -/
module

public import Idealize.ShloMosaic.PureOps.Ideal
public import Mathlib.Data.EReal.Operations

@[expose] public section

noncomputable section

namespace Cert.Heads

open Idealize.ShloMosaic

/-- One element of a normalised row: the row divided by the root of its mean square (over `cnt` elements), scaled by `f`. -/
def rms {n : Nat} (cnt : EReal) (a : Fin n → EReal) (f : EReal) (l : Fin n) : EReal :=
  a l * Ideal.rsqrt (Ideal.div (∑ k, a k * a k) cnt + Ideal.ofBits .f32 0x358637BD#32) * f

/-- Normalised rows with the same entries agree. -/
theorem rms_eq {n : Nat} (cnt : EReal) {a b : Fin n → EReal} {f g : EReal} (ea : ∀ k, a k = b k) (ef : f = g) (l : Fin n) :
    rms cnt a f l = rms cnt b g l := by
  rw [ef, funext ea]

/-- A head's 128 lanes: the first half of the rotary coordinates `r`, 48 of the plain ones `n`, the second half of `r`,
    the remaining 16 of `n`, and 32 lanes of zero. -/
def lanes (r : Fin 32 → EReal) (n : Fin 64 → EReal) (l : Fin 128) : EReal :=
  if h : l.val < 16 then r ⟨l.val, by omega⟩
  else if h : l.val < 64 then n ⟨l.val - 16, by omega⟩
  else if h : l.val < 80 then r ⟨l.val - 48, by omega⟩
  else if h : l.val < 96 then n ⟨l.val - 32, by omega⟩
  else 0

/-- The rotation of the 32 rotary coordinates, whose pairs lie 16 apart. -/
def rope (x : Fin 32 → EReal) (c s : Fin 16 → EReal) (d : Fin 32) : EReal :=
  if h : d.val < 16 then x d * c ⟨d.val, h⟩ - x ⟨d.val + 16, by omega⟩ * s ⟨d.val, h⟩
  else x d * c ⟨d.val - 16, by omega⟩ + x ⟨d.val - 16, by omega⟩ * s ⟨d.val - 16, by omega⟩

/-- The cosines over a head's lanes: one where nothing is rotated. -/
def cosLane (c : Fin 16 → EReal) (l : Fin 128) : EReal :=
  if h : l.val < 16 then c ⟨l.val, h⟩
  else if h : l.val < 64 then 1
  else if h : l.val < 80 then c ⟨l.val - 64, by omega⟩
  else 1

/-- The signed sines over a head's lanes: zero where nothing is rotated. -/
def sinLane (s : Fin 16 → EReal) (l : Fin 128) : EReal :=
  if h : l.val < 16 then -s ⟨l.val, h⟩
  else if h : l.val < 64 then 0
  else if h : l.val < 80 then s ⟨l.val - 64, by omega⟩
  else 0

/-- The lane half a head away. -/
def half (l : Fin 128) : Fin 128 := ⟨(l.val + 64) % 128, Nat.mod_lt _ (by norm_num)⟩

/-- In which of the five pieces a lane lies. -/
theorem lane_cases (l : Fin 128) :
    l.val < 16 ∨ (¬ l.val < 16 ∧ l.val < 64) ∨ (¬ l.val < 16 ∧ ¬ l.val < 64 ∧ l.val < 80)
      ∨ (¬ l.val < 16 ∧ ¬ l.val < 64 ∧ ¬ l.val < 80 ∧ l.val < 96)
      ∨ (¬ l.val < 16 ∧ ¬ l.val < 64 ∧ ¬ l.val < 80 ∧ ¬ l.val < 96) := by omega

/-- Five pieces set side by side are a head's lanes when each piece holds what the lanes hold. -/
theorem lanes_of (r : Fin 32 → EReal) (n : Fin 64 → EReal) (l : Fin 128) (a : l.val < 16 → EReal) (b : l.val - 16 < 48 → EReal)
    (c : l.val - 16 - 48 < 16 → EReal) (d : l.val - 16 - 48 - 16 < 16 → EReal)
    (ha : ∀ h, a h = r ⟨l.val, by omega⟩) (hb : ∀ (_ : ¬ l.val < 16) h, b h = n ⟨l.val - 16, by omega⟩)
    (hc : ∀ (_ : ¬ l.val < 64) (h' : l.val < 80) h, c h = r ⟨l.val - 48, by omega⟩)
    (hd : ∀ (_ : ¬ l.val < 80) (h' : l.val < 96) h, d h = n ⟨l.val - 32, by omega⟩) :
    (if h : l.val < 16 then a h else if h : l.val - 16 < 48 then b h else if h : l.val - 16 - 48 < 16 then c h
      else if h : l.val - 16 - 48 - 16 < 16 then d h else 0) = lanes r n l := by
  unfold lanes
  rcases lane_cases l with h | ⟨h0, h1⟩ | ⟨h0, h1, h2⟩ | ⟨h0, h1, h2, h3⟩ | ⟨h0, h1, h2, h3⟩
  · rw [dif_pos h, dif_pos h, ha]
  · rw [dif_neg h0, dif_pos (by omega), dif_neg h0, dif_pos h1, hb h0]
  · rw [dif_neg h0, dif_neg (by omega), dif_pos (by omega), dif_neg h0, dif_neg h1, dif_pos h2, hc h1 h2]
  · rw [dif_neg h0, dif_neg (by omega), dif_neg (by omega), dif_pos (by omega), dif_neg h0, dif_neg h1, dif_neg h2, dif_pos h3, hd h2 h3]
  · rw [dif_neg h0, dif_neg (by omega), dif_neg (by omega), dif_neg (by omega), dif_neg h0, dif_neg h1, dif_neg h2, dif_neg h3]

/-- Four pieces set side by side are the cosines' lanes. -/
theorem cosLane_of (r : Fin 16 → EReal) (l : Fin 128) (a : l.val < 16 → EReal) (c : l.val - 16 - 48 < 16 → EReal)
    (ha : ∀ h, a h = r ⟨l.val, by omega⟩) (hc : ∀ (_ : ¬ l.val < 64) (h' : l.val < 80) h, c h = r ⟨l.val - 64, by omega⟩) :
    (if h : l.val < 16 then a h else if h : l.val - 16 < 48 then 1 else if h : l.val - 16 - 48 < 16 then c h else 1) = cosLane r l := by
  unfold cosLane
  rcases lane_cases l with h | ⟨h0, h1⟩ | ⟨h0, h1, h2⟩ | ⟨h0, h1, h2, h3⟩ | ⟨h0, h1, h2, h3⟩
  · rw [dif_pos h, dif_pos h, ha]
  · rw [dif_neg h0, dif_pos (by omega), dif_neg h0, dif_pos h1]
  · rw [dif_neg h0, dif_neg (by omega), dif_pos (by omega), dif_neg h0, dif_neg h1, dif_pos h2, hc h1 h2]
  · rw [dif_neg h0, dif_neg (by omega), dif_neg (by omega), dif_neg h0, dif_neg h1, dif_neg h2]
  · rw [dif_neg h0, dif_neg (by omega), dif_neg (by omega), dif_neg h0, dif_neg h1, dif_neg h2]

/-- Four pieces set side by side are the signed sines' lanes. -/
theorem sinLane_of (r : Fin 16 → EReal) (l : Fin 128) (a : l.val < 16 → EReal) (c : l.val - 16 - 48 < 16 → EReal)
    (ha : ∀ h, a h = -r ⟨l.val, by omega⟩) (hc : ∀ (_ : ¬ l.val < 64) (h' : l.val < 80) h, c h = r ⟨l.val - 64, by omega⟩) :
    (if h : l.val < 16 then a h else if h : l.val - 16 < 48 then 0 else if h : l.val - 16 - 48 < 16 then c h else 0) = sinLane r l := by
  unfold sinLane
  rcases lane_cases l with h | ⟨h0, h1⟩ | ⟨h0, h1, h2⟩ | ⟨h0, h1, h2, h3⟩ | ⟨h0, h1, h2, h3⟩
  · rw [dif_pos h, dif_pos h, ha]
  · rw [dif_neg h0, dif_pos (by omega), dif_neg h0, dif_pos h1]
  · rw [dif_neg h0, dif_neg (by omega), dif_pos (by omega), dif_neg h0, dif_neg h1, dif_pos h2, hc h1 h2]
  · rw [dif_neg h0, dif_neg (by omega), dif_neg (by omega), dif_neg h0, dif_neg h1, dif_neg h2]
  · rw [dif_neg h0, dif_neg (by omega), dif_neg (by omega), dif_neg h0, dif_neg h1, dif_neg h2]

/-- A sum of products over head lanes is the lanes of the sums. -/
theorem lanes_sum {K : Nat} (x : Fin K → EReal) (r : Fin K → Fin 32 → EReal) (n : Fin K → Fin 64 → EReal) (l : Fin 128) :
    ∑ k, x k * lanes (r k) (n k) l = lanes (fun d => ∑ k, x k * r k d) (fun d => ∑ k, x k * n k d) l := by
  unfold lanes
  split_ifs <;> simp

/-- The plain and the rotary lanes add up to a head. -/
theorem lanes_add (r : Fin 32 → EReal) (n : Fin 64 → EReal) (l : Fin 128) :
    lanes (fun _ => 0) n l + lanes r (fun _ => 0) l = lanes r n l := by
  unfold lanes
  split_ifs <;> simp

/-- Scaling a head scales its coordinates. -/
theorem lanes_mul (r : Fin 32 → EReal) (n : Fin 64 → EReal) (s : EReal) (l : Fin 128) :
    lanes r n l * s = lanes (fun d => r d * s) (fun d => n d * s) l := by
  unfold lanes
  split_ifs <;> simp

/-- The kernel's rotation, over all lanes of a head at once, rotates the rotary coordinates and keeps the others. -/
theorem lanes_rope (r : Fin 32 → EReal) (n : Fin 64 → EReal) (c s : Fin 16 → EReal) (l : Fin 128) :
    lanes r n l * cosLane c l + lanes r n (half l) * sinLane s l = lanes (rope r c s) n l := by
  rcases lane_cases l with h | ⟨h0, h1⟩ | ⟨h0, h1, h2⟩ | ⟨h0, h1, h2, h3⟩ | ⟨h0, h1, h2, h3⟩
  · have e : (half l).val = l.val + 64 := Nat.mod_eq_of_lt (by omega)
    have e' : half l = ⟨l.val + 64, by omega⟩ := Fin.ext e
    have g0 : ¬ l.val + 64 < 16 := by omega
    have g1 : ¬ l.val + 64 < 64 := by omega
    have g2 : l.val + 64 < 80 := by omega
    rw [e']
    simp only [lanes, cosLane, sinLane, rope, h, g0, g1, g2, dif_pos, dif_neg, not_false_eq_true]
    rw [mul_neg, sub_eq_add_neg]
    rfl
  · simp only [lanes, cosLane, sinLane, h0, h1, dif_pos, dif_neg, not_false_eq_true]
    rw [mul_one, mul_zero, add_zero]
  · have e : (half l).val = l.val - 64 := by show (l.val + 64) % 128 = _; omega
    have e' : half l = ⟨l.val - 64, by omega⟩ := Fin.ext e
    have g0 : l.val - 64 < 16 := by omega
    have g1 : ¬ l.val - 48 < 16 := by omega
    rw [e']
    simp only [lanes, cosLane, sinLane, rope, h0, h1, h2, g0, g1, dif_pos, dif_neg, not_false_eq_true]
    have a : l.val - 48 - 16 = l.val - 64 := by omega
    simp only [a]
  · simp only [lanes, cosLane, sinLane, h0, h1, h2, h3, dif_pos, dif_neg, not_false_eq_true]
    rw [mul_one, mul_zero, add_zero]
  · simp only [lanes, cosLane, sinLane, h0, h1, h2, h3, dif_neg, not_false_eq_true]
    rw [mul_zero, add_zero, zero_mul]

/-- A positive real factor distributes over a sum of extended reals. -/
theorem add_mul_pos (a b : EReal) (s : ℝ) (hs : 0 < s) : a * s + b * s = (a + b) * s := by
  induction a using EReal.rec with
  | bot => rw [EReal.bot_mul_coe_of_pos hs, EReal.bot_add, EReal.bot_add, EReal.bot_mul_coe_of_pos hs]
  | top =>
    induction b using EReal.rec with
    | bot => rw [EReal.bot_mul_coe_of_pos hs, EReal.add_bot, EReal.add_bot, EReal.bot_mul_coe_of_pos hs]
    | top => rw [EReal.top_mul_coe_of_pos hs, EReal.top_add_top, EReal.top_mul_coe_of_pos hs]
    | coe y => rw [EReal.top_mul_coe_of_pos hs, ← EReal.coe_mul, EReal.top_add_coe, EReal.top_add_coe, EReal.top_mul_coe_of_pos hs]
  | coe x =>
    induction b using EReal.rec with
    | bot => rw [EReal.bot_mul_coe_of_pos hs, EReal.add_bot, EReal.add_bot, EReal.bot_mul_coe_of_pos hs]
    | top => rw [EReal.top_mul_coe_of_pos hs, ← EReal.coe_mul, EReal.coe_add_top, EReal.coe_add_top, EReal.top_mul_coe_of_pos hs]
    | coe y => rw [← EReal.coe_mul, ← EReal.coe_mul, ← EReal.coe_add, ← EReal.coe_add, ← EReal.coe_mul, add_mul]

/-- The kernel's rotation with the scale folded into its tables. -/
theorem lanes_rope_scaled (r : Fin 32 → EReal) (n : Fin 64 → EReal) (c s : Fin 16 → EReal) (q : ℝ) (hq : 0 < q) (l : Fin 128) :
    lanes r n l * (cosLane c l * q) + lanes r n (half l) * (sinLane s l * q)
      = lanes (fun d => rope r c s d * q) (fun d => n d * q) l := by
  rw [← mul_assoc, ← mul_assoc, add_mul_pos _ _ _ hq, lanes_rope, lanes_mul]

/-- Dividing by a positive real is multiplying by its inverse. -/
theorem div_pos (x : EReal) (r : ℝ) (hr : 0 < r) : Ideal.div x (r : EReal) = x * ((r⁻¹ : ℝ) : EReal) := by
  unfold Ideal.div
  rw [if_neg (by exact_mod_cast hr.ne'), EReal.coe_inv]

/-- The query scale: one over the root of the head width, and one over the logarithm of two. -/
theorem scaled (x : EReal) :
    Ideal.div (Ideal.div x (Ideal.sqrt (Ideal.ofBits .f32 0x42C00000#32))) (Ideal.log (Ideal.ofBits .f32 0x40000000#32))
      = x * (((Real.log 2)⁻¹ * (Real.sqrt 96)⁻¹ : ℝ) : EReal) := by
  have h96 : Ideal.ofBits .f32 0x42C00000#32 = ((96 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  rw [h96, h2, Ideal.sqrt_coe, Ideal.log_coe, if_neg (by norm_num), if_neg (by norm_num),
    div_pos _ _ (Real.sqrt_pos.mpr (by norm_num)), div_pos _ _ (Real.log_pos (by norm_num)), mul_assoc, ← EReal.coe_mul, mul_comm (Real.sqrt 96)⁻¹]

/-- The query scale is positive. -/
theorem scale_pos : 0 < (Real.log 2)⁻¹ * (Real.sqrt 96)⁻¹ :=
  mul_pos (inv_pos.mpr (Real.log_pos (by norm_num))) (inv_pos.mpr (Real.sqrt_pos.mpr (by norm_num)))

end Cert.Heads

end
-- ==== Proof.EvenOddRows.lean ====
/- The call from a pair of layers' output projection to the next layer's inputs: its payloads, row by row. -/
module

public import proofs.«01_k».proof.Defs
public import proofs.«01_k».proof.Proof.Gen.EvenOddIdeal.Frame
public import proofs.«01_k».proof.Proof.HeadLanes
public import Idealize.ShloMosaic.Lib.Pipeline.ValueKit
public import Idealize.ShloMosaic.Lib.KernelVsHost
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.EvenOddIdeal.RowValue

open Cert.EvenOddIdeal Cert.EvenOddIdeal.Gen Cert.Heads

/-- The residual sum. -/
theorem pay1_row (h : Vec Ideal S512x1024 .f32) (y : Vec Ideal S512x1024 .bf16) (w : Vec Ideal S1024x1024 .bf16)
    (o : Vec Ideal S512x1024 .bf16) (w' : Vec Ideal S1024x1024 .bf16) (r : Fin 512) (l : Fin 1024) :
    k0_pay1 (F := Ideal) h y w o w' (ix2 r l)
      = h (ix2 r l) + (∑ k, y (ix2 r k) * w (ix2 k l)) + ∑ k, o (ix2 r k) * w' (ix2 k l) := by
  pointwise [k0_pay1]

/-- The normalised row. -/
theorem pay2_row (h : Vec Ideal S512x1024 .f32) (y : Vec Ideal S512x1024 .bf16) (w : Vec Ideal S1024x1024 .bf16)
    (o : Vec Ideal S512x1024 .bf16) (w' : Vec Ideal S1024x1024 .bf16) (f : Vec Ideal S1x1024 .f32) (r : Fin 512) (l : Fin 1024) :
    k0_pay2 (F := Ideal) h y w o w' f (ix2 r l)
      = rms (Ideal.ofBits .f32 0x44800000#32) (fun l => k0_pay1 (F := Ideal) h y w o w' (ix2 r l)) (f (ix2 0 l)) l := by
  pointwise [k0_pay2]
  rfl

/-- The gate's projection. -/
theorem pay3_row (h : Vec Ideal S512x1024 .f32) (y : Vec Ideal S512x1024 .bf16) (w : Vec Ideal S1024x1024 .bf16)
    (o : Vec Ideal S512x1024 .bf16) (w' : Vec Ideal S1024x1024 .bf16) (f : Vec Ideal S1x1024 .f32) (g : Vec Ideal S1024x1024 .bf16)
    (r : Fin 512) (l : Fin 1024) :
    k0_pay3 (F := Ideal) h y w o w' f g (ix2 r l)
      = ∑ k, k0_pay2 (F := Ideal) h y w o w' f (ix2 r k) * g (ix2 k l) := by
  pointwise [k0_pay3]

/-- The query latents, normalised. -/
theorem pay8_row (x : FVec Ideal S512x1024 .bf16) (w : Vec Ideal S1024x512 .bf16) (f : Vec Ideal S1x512 .f32) (r : Fin 512) (l : Fin 512) :
    k0_pay8 (F := Ideal) x w f (ix2 r l)
      = rms (Ideal.ofBits .f32 0x44000000#32) (fun l => ∑ k, x (ix2 r k) * w (ix2 k l)) (f (ix2 0 l)) l := by
  pointwise [k0_pay8]
  rfl

/-- The key and value latents, normalised. -/
theorem pay12_row (x : FVec Ideal S512x1024 .bf16) (w : Vec Ideal S1024x256 .bf16) (f : Vec Ideal S1x256 .f32) (r : Fin 512) (l : Fin 256) :
    k0_pay12 (F := Ideal) (k0_pay4 x w) (k0_pay9 f) (k0_pay10 x w) k0_pay11 (ix2 r l)
      = rms (Ideal.ofBits .f32 0x43800000#32) (fun l => ∑ k, x (ix2 r k) * w (ix2 k l)) (f (ix2 0 l)) l := by
  pointwise [k0_pay12, k0_pay4, k0_pay9, k0_pay10, k0_pay11]
  rfl

/-- The values. -/
theorem pay13_row (a : FVec Ideal S512x256 .f32) (b : FVec Ideal S1x256 .f32) (c d : FVec Ideal S512x1 .f32) (w : Vec Ideal S256x1024 .bf16)
    (r : Fin 512) (l : Fin 1024) :
    k0_pay13 (F := Ideal) a b c d w (ix2 r l) = ∑ k, k0_pay12 (F := Ideal) a b c d (ix2 r k) * w (ix2 k l) := by
  pointwise [k0_pay13]

/-- The rotary key, rotated. -/
theorem pay7_row (x : FVec Ideal S512x1024 .bf16) (w : Vec Ideal S1024x128 .bf16) (c s : Vec Ideal S512x128 .f32) (r : Fin 512) (l : Fin 128) :
    k0_pay7 (F := Ideal) x w c s (ix2 r l)
      = (∑ k, x (ix2 r k) * w (ix2 k l)) * c (ix2 r l) + (∑ k, x (ix2 r k) * w (ix2 k (half l))) * s (ix2 r l) := by
  pointwise [k0_pay7, k0_pay5, k0_pay6]
  refine congrArg₂ (· + ·) rfl (congrArg₂ (· * ·) (Finset.sum_congr rfl fun k _ => congrArg (x (ix2 r k) * ·) (congrArg w ?_)) rfl)
  exact congrArg (ix2 k) (Fin.ext (by show (l.val + 128 - 64) % 128 = (l.val + 64) % 128; omega))

/-- The two heads of one piece of the queries, rotated and scaled. -/
theorem pay19_row (x : FVec Ideal S512x512 .bf16) (c s : FVec Ideal S512x256 .f32) (w : Vec Ideal S512x256 .bf16) (r : Fin 512)
    (hd : Nat) (hhd : hd < 2) (l : Fin 128) :
    k0_pay19 (F := Ideal) x c s w (ix2 r ⟨128 * hd + l.val, by omega⟩)
      = (∑ k, x (ix2 r k) * w (ix2 k ⟨128 * hd + l.val, by omega⟩)) * c (ix2 r ⟨128 * hd + l.val, by omega⟩)
        + (∑ k, x (ix2 r k) * w (ix2 k ⟨128 * hd + (half l).val, by omega⟩)) * s (ix2 r ⟨128 * hd + l.val, by omega⟩) := by
  pointwise [k0_pay19]
  refine congrArg₂ (· + ·) rfl (congrArg₂ (· * ·) ?_ rfl)
  obtain rfl | rfl : hd = 0 ∨ hd = 1 := by omega
  · rw [dif_pos (by omega)]
    refine Finset.sum_congr rfl fun k _ => congrArg (x (ix2 r k) * ·) (congrArg (fun i => w (ix2 k i)) (Fin.ext ?_))
    show (128 * 0 + l.val + 128 - 64) % 128 = 128 * 0 + (l.val + 64) % 128
    omega
  · rw [dif_neg (by omega)]
    refine Finset.sum_congr rfl fun k _ => congrArg (x (ix2 r k) * ·) (congrArg (fun i => w (ix2 k i)) (Fin.ext ?_))
    show 128 + (128 * 1 + l.val - 128 + 128 - 64) % 128 = 128 * 1 + (l.val + 64) % 128
    omega

/-- The two heads of one piece of the keys. -/
theorem pay20_row (x : FVec Ideal S512x256 .bf16) (a : FVec Ideal S512x256 .f32) (w : Vec Ideal S256x256 .bf16) (r : Fin 512) (l : Fin 256) :
    k0_pay20 (F := Ideal) x a w (ix2 r l) = (∑ k, x (ix2 r k) * w (ix2 k l)) + a (ix2 r l) := by
  pointwise [k0_pay20]

/-- A table of one head, set out for two heads. -/
theorem twice (a : FVec Ideal S512x128 .f32) (r : Fin 512) (hd : Nat) (hhd : hd < 2) (l : Fin 128) :
    (if h : 128 * hd + l.val < 128 then a (ix2 r ⟨128 * hd + l.val, h⟩) else a (ix2 r ⟨128 * hd + l.val - 128, by omega⟩))
      = a (ix2 r l) := by
  obtain rfl | rfl : hd = 0 ∨ hd = 1 := by omega
  · rw [dif_pos (by omega)]
    exact congrArg (fun i => a (ix2 r i)) (Fin.ext (by show 128 * 0 + l.val = l.val; omega))
  · rw [dif_neg (by omega)]
    exact congrArg (fun i => a (ix2 r i)) (Fin.ext (by show 128 * 1 + l.val - 128 = l.val; omega))

/-- The scaled cosines of one piece. -/
theorem pay14_row (a : FVec Ideal S512x128 .f32) (r : Fin 512) (hd : Nat) (hhd : hd < 2) (l : Fin 128) :
    k0_pay14 (F := Ideal) a (ix2 r ⟨128 * hd + l.val, by omega⟩) = a (ix2 r l) * (((Real.log 2)⁻¹ * (Real.sqrt 96)⁻¹ : ℝ) : EReal) := by
  pointwise [k0_pay14]
  exact congrArg₂ (· * ·) (twice a r hd hhd l) rfl

/-- The scaled sines of one piece. -/
theorem pay15_row (a : FVec Ideal S512x128 .f32) (r : Fin 512) (hd : Nat) (hhd : hd < 2) (l : Fin 128) :
    k0_pay15 (F := Ideal) a (ix2 r ⟨128 * hd + l.val, by omega⟩) = a (ix2 r l) * (((Real.log 2)⁻¹ * (Real.sqrt 96)⁻¹ : ℝ) : EReal) := by
  pointwise [k0_pay15]
  exact congrArg₂ (· * ·) (twice a r hd hhd l) rfl

/-- The rotary key of one piece. -/
theorem pay16_row (a : FVec Ideal S512x128 .f32) (r : Fin 512) (hd : Nat) (hhd : hd < 2) (l : Fin 128) :
    k0_pay16 (F := Ideal) a (ix2 r ⟨128 * hd + l.val, by omega⟩) = a (ix2 r l) := by
  pointwise [k0_pay16]
  exact twice a r hd hhd l

end Cert.EvenOddIdeal.RowValue

end
-- ==== Proof.EvenOddHost.lean ====
/- The call from a pair of layers' output projection to the next layer's inputs: the operands its caller prepares. -/
module

public import proofs.«01_k».proof.Defs
public import proofs.«01_k».proof.Proof.Gen.EvenOddIdeal.Frame
public import proofs.«01_k».proof.Proof.HeadLanes
public import Idealize.ShloMosaic.Lib.Pipeline.ValueKit
public import Idealize.ShloMosaic.Lib.KernelVsHost
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.EvenOddIdeal.RowValue

open Cert.EvenOddIdeal Cert.EvenOddIdeal.Gen Cert.Heads

variable (m : (ℓ : Loc nD τ sig) → Buf (Elt Ideal) ℓ)

/-- The cosines set out over a head's lanes. -/
def cosAll (c : Vec Ideal S17408x16 .f32) : Vec Ideal S17408x128 .f32 :=
  concatenate S17408x128 1 [⟨S17408x16, c⟩,
    ⟨S17408x48, (broadcastInDim S17408x48 ![] bcast_S_S17408x48 (constant (F := Ideal) S_ .f32 0x3F800000#32))⟩,
    ⟨S17408x16, c⟩,
    ⟨S17408x48, (broadcastInDim S17408x48 ![] bcast_S_S17408x48 (constant (F := Ideal) S_ .f32 0x3F800000#32))⟩]
    concatenates_S17408x16_S17408x48_S17408x16_S17408x48_S17408x128_d1

/-- The signed sines set out over a head's lanes. -/
def sinAll (s : Vec Ideal S17408x16 .f32) : Vec Ideal S17408x128 .f32 :=
  concatenate S17408x128 1 [⟨S17408x16, Host.negf (F := Ideal) (φ := .f32) s⟩,
    ⟨S17408x48, (broadcastInDim S17408x48 ![] bcast_S_S17408x48 (constant (F := Ideal) S_ .f32 0x00000000#32))⟩,
    ⟨S17408x16, s⟩,
    ⟨S17408x48, (broadcastInDim S17408x48 ![] bcast_S_S17408x48 (constant (F := Ideal) S_ .f32 0x00000000#32))⟩]
    concatenates_S17408x16_S17408x48_S17408x16_S17408x48_S17408x128_d1

/-- The rotary key's columns, set out over a head's lanes. -/
def keyCols (x : Vec Ideal S1024x1824 .f32) : Vec Ideal S1024x128 .f32 :=
  concatenate S1024x128 1 [
    ⟨S1024x16, extractStridedSlice S1024x16 ![0, 0] (extractStridedSlice S1024x32 ![0, 768] x slices_S1024x1824_S1024x32_0_768) slices_S1024x32_S1024x16_0_0⟩,
    ⟨S1024x48, extractStridedSlice S1024x48 ![0, 0] (broadcastInDim S1024x64 ![] bcast_S_S1024x64 (constant (F := Ideal) S_ .f32 0x00000000#32)) slices_S1024x64_S1024x48_0_0⟩,
    ⟨S1024x16, extractStridedSlice S1024x16 ![0, 16] (extractStridedSlice S1024x32 ![0, 768] x slices_S1024x1824_S1024x32_0_768) slices_S1024x32_S1024x16_0_16⟩,
    ⟨S1024x16, extractStridedSlice S1024x16 ![0, 48] (broadcastInDim S1024x64 ![] bcast_S_S1024x64 (constant (F := Ideal) S_ .f32 0x00000000#32)) slices_S1024x64_S1024x16_0_48⟩,
    ⟨S1024x32, broadcastInDim S1024x32 ![] bcast_S_S1024x32 (constant (F := Ideal) S_ .f32 0x00000000#32)⟩]
    concatenates_S1024x16_S1024x48_S1024x16_S1024x16_S1024x32_S1024x128_d1

/-- The first projection's prepared columns, side by side. -/
def inCols (x : Vec Ideal S1024x1824 .f32) : Vec Ideal S1024x1920 .f32 :=
  concatenate S1024x1920 1 [
    ⟨S1024x512, extractStridedSlice S1024x512 ![0, 0] x slices_S1024x1824_S1024x512_0_0⟩,
    ⟨S1024x256, extractStridedSlice S1024x256 ![0, 512] x slices_S1024x1824_S1024x256_0_512⟩,
    ⟨S1024x128, keyCols x⟩,
    ⟨S1024x1024, extractStridedSlice S1024x1024 ![0, 800] x slices_S1024x1824_S1024x1024_0_800⟩]
    concatenates_S1024x512_S1024x256_S1024x128_S1024x1024_S1024x1920_d1

/-- The query projection's columns, each head over its lanes. -/
def qCols (x : Vec Ideal S512x1536 .f32) : Vec Ideal S512x16x128 .f32 :=
  let y : Vec Ideal S512x16x96 .f32 := shapeCast _ x shapeCasts_S512x1536_S512x16x96
  let n : Vec Ideal S512x16x64 .f32 := extractStridedSlice S512x16x64 ![0, 0, 0] y slices_S512x16x96_S512x16x64_0_0_0
  let r : Vec Ideal S512x16x32 .f32 := extractStridedSlice S512x16x32 ![0, 0, 64] y slices_S512x16x96_S512x16x32_0_0_64
  concatenate S512x16x128 2 [
    ⟨S512x16x16, extractStridedSlice S512x16x16 ![0, 0, 0] r slices_S512x16x32_S512x16x16_0_0_0⟩,
    ⟨S512x16x48, extractStridedSlice S512x16x48 ![0, 0, 0] n slices_S512x16x64_S512x16x48_0_0_0⟩,
    ⟨S512x16x16, extractStridedSlice S512x16x16 ![0, 0, 16] r slices_S512x16x32_S512x16x16_0_0_16⟩,
    ⟨S512x16x16, extractStridedSlice S512x16x16 ![0, 0, 48] n slices_S512x16x64_S512x16x16_0_0_48⟩,
    ⟨S512x16x32, broadcastInDim S512x16x32 ![] bcast_S_S512x16x32 (constant (F := Ideal) S_ .f32 0x00000000#32)⟩]
    concatenates_S512x16x16_S512x16x48_S512x16x16_S512x16x16_S512x16x32_S512x16x128_d2

/-- The key projection's columns, each head over its lanes. -/
def kCols (x : Vec Ideal S256x2048 .f32) : Vec Ideal S256x16x128 .f32 :=
  let n : Vec Ideal S256x16x64 .f32 := extractStridedSlice S256x16x64 ![0, 0, 0]
    (shapeCast _ x shapeCasts_S256x2048_S256x16x128 : Vec Ideal S256x16x128 .f32) slices_S256x16x128_S256x16x64_0_0_0
  let r : Vec Ideal S256x16x32 .f32 := broadcastInDim S256x16x32 ![] bcast_S_S256x16x32 (constant (F := Ideal) S_ .f32 0x00000000#32)
  concatenate S256x16x128 2 [
    ⟨S256x16x16, extractStridedSlice S256x16x16 ![0, 0, 0] r slices_S256x16x32_S256x16x16_0_0_0⟩,
    ⟨S256x16x48, extractStridedSlice S256x16x48 ![0, 0, 0] n slices_S256x16x64_S256x16x48_0_0_0⟩,
    ⟨S256x16x16, extractStridedSlice S256x16x16 ![0, 0, 16] r slices_S256x16x32_S256x16x16_0_0_16⟩,
    ⟨S256x16x16, extractStridedSlice S256x16x16 ![0, 0, 48] n slices_S256x16x64_S256x16x16_0_0_48⟩,
    ⟨S256x16x32, broadcastInDim S256x16x32 ![] bcast_S_S256x16x32 (constant (F := Ideal) S_ .f32 0x00000000#32)⟩]
    concatenates_S256x16x16_S256x16x48_S256x16x16_S256x16x16_S256x16x32_S256x16x128_d2

/-- The cosines' lanes. -/
theorem cosAll_lane (c : Vec Ideal S17408x16 .f32) (R : Fin 17408) (l : Fin 128) :
    cosAll c (ix2 R l) = cosLane (fun d => c (ix2 R d)) l := by
  unfold cosAll
  pointwise
  refine cosLane_of _ l _ _ ?_ ?_
  all_goals intros
  all_goals first | rfl | exact congrArg _ (congrArg (ix2 R) (Fin.ext (by first | omega | (dsimp only; omega))))

/-- The sines' lanes. -/
theorem sinAll_lane (s : Vec Ideal S17408x16 .f32) (R : Fin 17408) (l : Fin 128) :
    sinAll s (ix2 R l) = sinLane (fun d => s (ix2 R d)) l := by
  unfold sinAll
  pointwise
  refine sinLane_of _ l _ _ ?_ ?_
  all_goals intros
  all_goals first | rfl | exact congrArg _ (congrArg (ix2 R) (Fin.ext (by first | omega | (dsimp only; omega))))

/-- The rotary key's lanes. -/
theorem keyCols_lane (x : Vec Ideal S1024x1824 .f32) (k : Fin 1024) (l : Fin 128) :
    keyCols x (ix2 k l) = lanes (fun d => x (ix2 k ⟨768 + d.val, by omega⟩)) (fun _ => 0) l := by
  unfold keyCols
  pointwise
  refine lanes_of _ _ l _ _ _ _ ?_ ?_ ?_ ?_
  all_goals intros
  all_goals first | rfl | exact congrArg _ (congrArg (ix2 k) (Fin.ext (by first | omega | (dsimp only; omega))))

/-- The first projection's columns: the query latents. -/
theorem inCols_q (x : Vec Ideal S1024x1824 .f32) (k : Fin 1024) (l : Fin 512) :
    inCols x (ix2 k ⟨l.val, by omega⟩) = x (ix2 k ⟨l.val, by omega⟩) := by
  unfold inCols
  pointwise

/-- The first projection's columns: the key and value latents. -/
theorem inCols_kv (x : Vec Ideal S1024x1824 .f32) (k : Fin 1024) (l : Fin 256) :
    inCols x (ix2 k ⟨512 + l.val, by omega⟩) = x (ix2 k ⟨512 + l.val, by omega⟩) := by
  unfold inCols
  pointwise

/-- The first projection's columns: the rotary key. -/
theorem inCols_r (x : Vec Ideal S1024x1824 .f32) (k : Fin 1024) (l : Fin 128) :
    inCols x (ix2 k ⟨768 + l.val, by omega⟩) = lanes (fun d => x (ix2 k ⟨768 + d.val, by omega⟩)) (fun _ => 0) l := by
  rw [← keyCols_lane]
  unfold inCols
  pointwise
  split_ifs
  all_goals first | omega | rfl | exact congrArg _ (congrArg (ix2 k) (Fin.ext (by first | omega | (dsimp only; omega))))

/-- The first projection's columns: the gate. -/
theorem inCols_g (x : Vec Ideal S1024x1824 .f32) (k : Fin 1024) (l : Fin 1024) :
    inCols x (ix2 k ⟨896 + l.val, by omega⟩) = x (ix2 k ⟨800 + l.val, by omega⟩) := by
  unfold inCols
  pointwise
  split_ifs
  all_goals first | omega | rfl | exact congrArg _ (congrArg (ix2 k) (Fin.ext (by first | omega | (dsimp only; omega))))

/-- The query lanes. -/
theorem qCols_lane (x : Vec Ideal S512x1536 .f32) (k : Fin 512) (hd : Fin 16) (l : Fin 128) :
    (shapeCast S512x2048 (qCols x) shapeCasts_S512x16x128_S512x2048 : Vec Ideal S512x2048 .f32) (ix2 k ⟨128 * hd.val + l.val, by omega⟩)
      = lanes (fun d => x (ix2 k ⟨96 * hd.val + 64 + d.val, by omega⟩)) (fun d => x (ix2 k ⟨96 * hd.val + d.val, by omega⟩)) l := by
  pointwise
  unfold qCols
  pointwise
  refine lanes_of _ _ l _ _ _ _ ?_ ?_ ?_ ?_
  all_goals intros
  all_goals first | rfl | exact congrArg _ (congrArg (ix2 k) (Fin.ext (by first | omega | (dsimp only; omega))))

/-- The key lanes. -/
theorem kCols_lane (x : Vec Ideal S256x2048 .f32) (k : Fin 256) (hd : Fin 16) (l : Fin 128) :
    (shapeCast S256x2048 (kCols x) shapeCasts_S256x16x128_S256x2048 : Vec Ideal S256x2048 .f32) (ix2 k ⟨128 * hd.val + l.val, by omega⟩)
      = lanes (fun _ => 0) (fun d => x (ix2 k ⟨128 * hd.val + d.val, by omega⟩)) l := by
  pointwise
  unfold kCols
  pointwise
  refine lanes_of _ _ l _ _ _ _ ?_ ?_ ?_ ?_
  all_goals intros
  all_goals first | rfl | exact congrArg _ (congrArg (ix2 k) (Fin.ext (by first | omega | (dsimp only; omega))))

/-- The cosine table, as the call gets it. -/
theorem w2 (c : Dev nD) : V m c main_v2 = (cosAll (m ((c : Thread nD τ).loc main_arg10)) : Vec Ideal S17408x128 .f32) := by
  unfold V
  simp only [hostOps0, List.flatten_cons, List.flatten_nil, List.append_nil, List.cons_append, List.nil_append]
  generalize hf0 : (fun u : (k : Fin 4) → (![main_arg10, main_v0, main_arg10, main_v0] k).ty.Contents (Elt Ideal) => (concatenate S17408x128 1 [⟨S17408x16, (u 0 : (⟨S17408x16, .f32⟩ : BufTy).Contents (Elt Ideal))⟩, ⟨S17408x48, (u 1 : (⟨S17408x48, .f32⟩ : BufTy).Contents (Elt Ideal))⟩, ⟨S17408x16, (u 2 : (⟨S17408x16, .f32⟩ : BufTy).Contents (Elt Ideal))⟩, ⟨S17408x48, (u 3 : (⟨S17408x48, .f32⟩ : BufTy).Contents (Elt Ideal))⟩] concatenates_S17408x16_S17408x48_S17408x16_S17408x48_S17408x128_d1 : (⟨S17408x128, .f32⟩ : BufTy).Contents (Elt Ideal))) = f0
  entry_read
  subst hf0
  rfl

/-- The sine table, as the call gets it. -/
theorem w4 (c : Dev nD) : V m c main_v4 = (sinAll (m ((c : Thread nD τ).loc main_arg11)) : Vec Ideal S17408x128 .f32) := by
  unfold V
  simp only [hostOps0, List.flatten_cons, List.flatten_nil, List.append_nil, List.cons_append, List.nil_append]
  generalize hf1 : (fun u : (k : Fin 4) → (![main_v3, main_v1, main_arg11, main_v1] k).ty.Contents (Elt Ideal) => (concatenate S17408x128 1 [⟨S17408x16, (u 0 : (⟨S17408x16, .f32⟩ : BufTy).Contents (Elt Ideal))⟩, ⟨S17408x48, (u 1 : (⟨S17408x48, .f32⟩ : BufTy).Contents (Elt Ideal))⟩, ⟨S17408x16, (u 2 : (⟨S17408x16, .f32⟩ : BufTy).Contents (Elt Ideal))⟩, ⟨S17408x48, (u 3 : (⟨S17408x48, .f32⟩ : BufTy).Contents (Elt Ideal))⟩] concatenates_S17408x16_S17408x48_S17408x16_S17408x48_S17408x128_d1 : (⟨S17408x128, .f32⟩ : BufTy).Contents (Elt Ideal))) = f1
  entry_read
  subst hf1
  rfl

/-- The first projection, as the call gets it. -/
theorem w17 (c : Dev nD) : V m c main_v17 = (truncf (F := Ideal) .bf16 (inCols (m ((c : Thread nD τ).loc main_arg5))) bitsLt_bf16_f32 : Vec Ideal S1024x1920 .bf16) := by
  unfold V
  simp only [hostOps0, List.flatten_cons, List.flatten_nil, List.append_nil, List.cons_append, List.nil_append]
  generalize hf2 : (fun u : (k : Fin 5) → (![main_v10, main_v11, main_v12, main_v13, main_v14] k).ty.Contents (Elt Ideal) => (concatenate S1024x128 1 [⟨S1024x16, (u 0 : (⟨S1024x16, .f32⟩ : BufTy).Contents (Elt Ideal))⟩, ⟨S1024x48, (u 1 : (⟨S1024x48, .f32⟩ : BufTy).Contents (Elt Ideal))⟩, ⟨S1024x16, (u 2 : (⟨S1024x16, .f32⟩ : BufTy).Contents (Elt Ideal))⟩, ⟨S1024x16, (u 3 : (⟨S1024x16, .f32⟩ : BufTy).Contents (Elt Ideal))⟩, ⟨S1024x32, (u 4 : (⟨S1024x32, .f32⟩ : BufTy).Contents (Elt Ideal))⟩] concatenates_S1024x16_S1024x48_S1024x16_S1024x16_S1024x32_S1024x128_d1 : (⟨S1024x128, .f32⟩ : BufTy).Contents (Elt Ideal))) = f2
  generalize hf3 : (fun u : (k : Fin 4) → (![main_v5, main_v6, main_v15, main_v8] k).ty.Contents (Elt Ideal) => (concatenate S1024x1920 1 [⟨S1024x512, (u 0 : (⟨S1024x512, .f32⟩ : BufTy).Contents (Elt Ideal))⟩, ⟨S1024x256, (u 1 : (⟨S1024x256, .f32⟩ : BufTy).Contents (Elt Ideal))⟩, ⟨S1024x128, (u 2 : (⟨S1024x128, .f32⟩ : BufTy).Contents (Elt Ideal))⟩, ⟨S1024x1024, (u 3 : (⟨S1024x1024, .f32⟩ : BufTy).Contents (Elt Ideal))⟩] concatenates_S1024x512_S1024x256_S1024x128_S1024x1024_S1024x1920_d1 : (⟨S1024x1920, .f32⟩ : BufTy).Contents (Elt Ideal))) = f3
  entry_read
  subst hf2
  subst hf3
  rfl

/-- The query projection, as the call gets it. -/
theorem w40 (c : Dev nD) : V m c main_v40 = (truncf (F := Ideal) .bf16 (shapeCast S512x2048 (qCols (m ((c : Thread nD τ).loc main_arg7))) shapeCasts_S512x16x128_S512x2048) bitsLt_bf16_f32 : Vec Ideal S512x2048 .bf16) := by
  unfold V
  simp only [hostOps0, List.flatten_cons, List.flatten_nil, List.append_nil, List.cons_append, List.nil_append]
  generalize hf4 : (fun u : (k : Fin 5) → (![main_v21, main_v22, main_v23, main_v24, main_v25] k).ty.Contents (Elt Ideal) => (concatenate S512x16x128 2 [⟨S512x16x16, (u 0 : (⟨S512x16x16, .f32⟩ : BufTy).Contents (Elt Ideal))⟩, ⟨S512x16x48, (u 1 : (⟨S512x16x48, .f32⟩ : BufTy).Contents (Elt Ideal))⟩, ⟨S512x16x16, (u 2 : (⟨S512x16x16, .f32⟩ : BufTy).Contents (Elt Ideal))⟩, ⟨S512x16x16, (u 3 : (⟨S512x16x16, .f32⟩ : BufTy).Contents (Elt Ideal))⟩, ⟨S512x16x32, (u 4 : (⟨S512x16x32, .f32⟩ : BufTy).Contents (Elt Ideal))⟩] concatenates_S512x16x16_S512x16x48_S512x16x16_S512x16x16_S512x16x32_S512x16x128_d2 : (⟨S512x16x128, .f32⟩ : BufTy).Contents (Elt Ideal))) = f4
  entry_read
  subst hf4
  rfl

/-- The key projection, as the call gets it. -/
theorem w41 (c : Dev nD) : V m c main_v41 = (truncf (F := Ideal) .bf16 (shapeCast S256x2048 (kCols (m ((c : Thread nD τ).loc main_arg9))) shapeCasts_S256x16x128_S256x2048) bitsLt_bf16_f32 : Vec Ideal S256x2048 .bf16) := by
  unfold V
  simp only [hostOps0, List.flatten_cons, List.flatten_nil, List.append_nil, List.cons_append, List.nil_append]
  generalize hf5 : (fun u : (k : Fin 5) → (![main_v31, main_v32, main_v33, main_v34, main_v35] k).ty.Contents (Elt Ideal) => (concatenate S256x16x128 2 [⟨S256x16x16, (u 0 : (⟨S256x16x16, .f32⟩ : BufTy).Contents (Elt Ideal))⟩, ⟨S256x16x48, (u 1 : (⟨S256x16x48, .f32⟩ : BufTy).Contents (Elt Ideal))⟩, ⟨S256x16x16, (u 2 : (⟨S256x16x16, .f32⟩ : BufTy).Contents (Elt Ideal))⟩, ⟨S256x16x16, (u 3 : (⟨S256x16x16, .f32⟩ : BufTy).Contents (Elt Ideal))⟩, ⟨S256x16x32, (u 4 : (⟨S256x16x32, .f32⟩ : BufTy).Contents (Elt Ideal))⟩] concatenates_S256x16x16_S256x16x48_S256x16x16_S256x16x16_S256x16x32_S256x16x128_d2 : (⟨S256x16x128, .f32⟩ : BufTy).Contents (Elt Ideal))) = f5
  entry_read
  subst hf5
  rfl

/-- The rows' norm, entry by entry. -/
theorem w43 (c : Dev nD) (l : Fin 1024) :
    V m c main_v43 (ix2 0 l) = m ((c : Thread nD τ).loc main_arg4) (ix1 l) := by
  unfold V
  simp only [hostOps0, List.flatten_cons, List.flatten_nil, List.append_nil, List.cons_append, List.nil_append]
  entry_read
  pointwise

/-- The query latents' norm, entry by entry. -/
theorem w44 (c : Dev nD) (l : Fin 512) :
    V m c main_v44 (ix2 0 l) = m ((c : Thread nD τ).loc main_arg6) (ix1 l) := by
  unfold V
  simp only [hostOps0, List.flatten_cons, List.flatten_nil, List.append_nil, List.cons_append, List.nil_append]
  entry_read
  pointwise

/-- The key and value latents' norm, entry by entry. -/
theorem w45 (c : Dev nD) (l : Fin 256) :
    V m c main_v45 (ix2 0 l) = m ((c : Thread nD τ).loc main_arg8) (ix1 l) := by
  unfold V
  simp only [hostOps0, List.flatten_cons, List.flatten_nil, List.append_nil, List.cons_append, List.nil_append]
  entry_read
  pointwise

/-- The output projection, entry by entry. -/
theorem w46 (c : Dev nD) (k : Fin 2048) (l : Fin 1024) :
    V m c main_v46 (ix2 k l) = m ((c : Thread nD τ).loc main_arg3) (ix2 k l) := by
  unfold V
  simp only [hostOps0, List.flatten_cons, List.flatten_nil, List.append_nil, List.cons_append, List.nil_append]
  entry_read
  pointwise

/-- The value projection, entry by entry. -/
theorem w42 (c : Dev nD) (k : Fin 256) (hd : Fin 16) (d : Fin 64) :
    V m c main_v42 (ix2 k ⟨64 * hd.val + d.val, by omega⟩) = m ((c : Thread nD τ).loc main_arg9) (ix2 k ⟨128 * hd.val + 64 + d.val, by omega⟩) := by
  unfold V
  simp only [hostOps0, List.flatten_cons, List.flatten_nil, List.append_nil, List.cons_append, List.nil_append]
  entry_read
  pointwise
  exact congrArg _ (congrArg (ix2 k) (Fin.ext (by dsimp only; omega)))

end Cert.EvenOddIdeal.RowValue

end
-- ==== Proof.EvenOddRef.lean ====
/- The call from a pair of layers' output projection to the next layer's inputs: its reference, entry by entry. -/
module

public import proofs.«01_k».proof.Defs
public import proofs.«01_k».proof.Proof.Gen.EvenOddRefIdeal.Run
public import proofs.«01_k».proof.Proof.Gen.EvenOddRefIdeal.Read
public import proofs.«01_k».proof.Proof.HeadLanes
public import Idealize.ShloMosaic.Lib.Pipeline.ValueKit
public import Idealize.ShloMosaic.Lib.KernelVsHost
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.EvenOddRefIdeal.RowValue

open Cert.EvenOddRefIdeal Cert.EvenOddRefIdeal.Read Cert.Heads

variable (x0 : Vec Ideal S17408x1024 .f32) (x1 x2 : Vec Ideal S17408x1024 .bf16) (x3 : Vec Ideal S2048x1024 .f32) (x4 : Vec Ideal S1024 .f32)
  (x5 : Vec Ideal S1024x1824 .f32) (x6 : Vec Ideal S512 .f32) (x7 : Vec Ideal S512x1536 .f32) (x8 : Vec Ideal S256 .f32) (x9 : Vec Ideal S256x2048 .f32)
  (x10 x11 : Vec Ideal S17408x16 .f32)

/-- The residual sum. -/
theorem ref_h (R : Fin 17408) (l : Fin 1024) :
    val_main_v4 (F := Ideal) x0 x1 x2 x3 (ix2 R l)
      = x0 (ix2 R l) + (∑ k, x1 (ix2 R k) * x3 (ix2 ⟨k.val, by omega⟩ l)) + ∑ k, x2 (ix2 R k) * x3 (ix2 ⟨1024 + k.val, by omega⟩ l) := by
  pointwise [val_main_v0, val_main_v1, val_main_v2, val_main_v3, val_main_v4]
  rw [add_assoc]

/-- The normalised row. -/
theorem ref_n (R : Fin 17408) (l : Fin 1024) :
    val_main_v17 (F := Ideal) x0 x1 x2 x3 x4 (ix2 R l)
      = rms (Ideal.ofBits .f32 0x44800000#32) (fun l => val_main_v4 (F := Ideal) x0 x1 x2 x3 (ix2 R l)) (x4 (ix1 l)) l := by
  pointwise [val_main_v5, val_main_cst, val_main_v6, val_main_v7, val_main_cst_0, val_main_v8, val_main_v9, val_main_cst_1, val_main_v10, val_main_v11, val_main_v12, val_main_v13, val_main_v14, val_main_v15, val_main_v16, val_main_v17]
  rfl

/-- The first projection. -/
theorem ref_p (R : Fin 17408) (l : Fin 1824) :
    val_main_v18 (F := Ideal) x0 x1 x2 x3 x4 x5 (ix2 R l)
      = ∑ k, val_main_v17 (F := Ideal) x0 x1 x2 x3 x4 (ix2 R k) * x5 (ix2 k l) := by
  pointwise [val_main_v18]

/-- The query latents, normalised. -/
theorem ref_cq (R : Fin 17408) (l : Fin 512) :
    val_main_v35 (F := Ideal) x0 x1 x2 x3 x4 x5 x6 (ix2 R l)
      = rms (Ideal.ofBits .f32 0x44000000#32) (fun l => val_main_v18 (F := Ideal) x0 x1 x2 x3 x4 x5 (ix2 R ⟨l.val, by omega⟩)) (x6 (ix1 l)) l := by
  pointwise [val_main_v19, val_main_v23, val_main_cst_2, val_main_v24, val_main_v25, val_main_cst_3, val_main_v26, val_main_v27, val_main_cst_4, val_main_v28, val_main_v29, val_main_v30, val_main_v31, val_main_v32, val_main_v33, val_main_v34, val_main_v35]
  rfl

/-- The key and value latents, normalised. -/
theorem ref_ckv (R : Fin 17408) (l : Fin 256) :
    val_main_v52 (F := Ideal) x0 x1 x2 x3 x4 x5 x8 (ix2 R l)
      = rms (Ideal.ofBits .f32 0x43800000#32) (fun l => val_main_v18 (F := Ideal) x0 x1 x2 x3 x4 x5 (ix2 R ⟨512 + l.val, by omega⟩)) (x8 (ix1 l)) l := by
  pointwise [val_main_v20, val_main_v40, val_main_cst_5, val_main_v41, val_main_v42, val_main_cst_6, val_main_v43, val_main_v44, val_main_cst_7, val_main_v45, val_main_v46, val_main_v47, val_main_v48, val_main_v49, val_main_v50, val_main_v51, val_main_v52]
  rfl

/-- The gate. -/
theorem ref_g (R : Fin 17408) (l : Fin 1024) :
    val_main_v112 (F := Ideal) x0 x1 x2 x3 x4 x5 (ix2 R l) = val_main_v18 (F := Ideal) x0 x1 x2 x3 x4 x5 (ix2 R ⟨800 + l.val, by omega⟩) := by
  pointwise [val_main_v22, val_main_v112]

/-- The values. -/
theorem ref_v (R : Fin 17408) (hd : Fin 16) (d : Fin 64) :
    val_main_v111 (F := Ideal) x0 x1 x2 x3 x4 x5 x8 x9 (ix2 R ⟨64 * hd.val + d.val, by omega⟩)
      = ∑ k, val_main_v52 (F := Ideal) x0 x1 x2 x3 x4 x5 x8 (ix2 R k) * x9 (ix2 k ⟨128 * hd.val + 64 + d.val, by omega⟩) := by
  pointwise [val_main_v53, val_main_v54, val_main_v56, val_main_v110, val_main_v111]
  have e : hd.val * 128 + (64 + d.val) = 128 * hd.val + 64 + d.val := by ring
  simp only [e]

/-- The plain query coordinates, scaled. -/
theorem ref_qn (R : Fin 17408) (hd : Fin 16) (d : Fin 64) :
    val_main_v88 (F := Ideal) x0 x1 x2 x3 x4 x5 x6 x7 (ix3 R hd d)
      = (∑ k, val_main_v35 (F := Ideal) x0 x1 x2 x3 x4 x5 x6 (ix2 R k) * x7 (ix2 k ⟨96 * hd.val + d.val, by omega⟩))
          * (((Real.log 2)⁻¹ * (Real.sqrt 96)⁻¹ : ℝ) : EReal) := by
  pointwise [val_main_v36, val_main_v37, val_main_v38, val_main_v88, val_main_v85, val_main_v84, val_main_v87, val_main_v83, val_main_v86, val_main_cst_8, val_main_cst_9]
  have e : hd.val * 96 + d.val = 96 * hd.val + d.val := by ring
  simp only [e]
  exact scaled _

/-- The rotary query coordinates, scaled. -/
theorem ref_qr (R : Fin 17408) (hd : Fin 16) (d : Fin 32) :
    val_main_v94 (F := Ideal) x0 x1 x2 x3 x4 x5 x6 x7 x10 x11 (ix3 R hd d)
      = rope (fun d => ∑ k, val_main_v35 (F := Ideal) x0 x1 x2 x3 x4 x5 x6 (ix2 R k) * x7 (ix2 k ⟨96 * hd.val + 64 + d.val, by omega⟩))
          (fun d => x10 (ix2 R d)) (fun d => x11 (ix2 R d)) d * (((Real.log 2)⁻¹ * (Real.sqrt 96)⁻¹ : ℝ) : EReal) := by
  pointwise [val_main_v89, val_main_v90, val_main_v91, val_main_v92, val_main_v93, val_main_v94, val_main_cst_10, val_main_cst_11]
  rw [scaled]
  refine congrArg (· * _) ?_
  pointwise [val_main_v36, val_main_v37, val_main_v39, val_main_v57, val_main_v58, val_main_v59, val_main_v60, val_main_v61, val_main_v62, val_main_v63, val_main_v64, val_main_v65, val_main_v66, val_main_v67, val_main_v68, val_main_v69, val_main_v70, val_main_v71]
  unfold rope
  by_cases h : d.val < 16
  · rw [dif_pos h, dif_pos h]
    have e : hd.val * 96 + (64 + d.val) = 96 * hd.val + 64 + d.val := by ring
    have e' : hd.val * 96 + (64 + (16 + d.val)) = 96 * hd.val + 64 + (d.val + 16) := by ring
    simp only [e, e']
  · rw [dif_neg h, dif_neg h]
    have e : hd.val * 96 + (64 + (16 + (d.val - 16))) = 96 * hd.val + 64 + d.val := by omega
    have e' : hd.val * 96 + (64 + (d.val - 16)) = 96 * hd.val + 64 + (d.val - 16) := by ring
    simp only [e, e']

/-- The rotary key coordinates. -/
theorem ref_kr (R : Fin 17408) (hd : Fin 16) (d : Fin 32) :
    val_main_v82 (F := Ideal) x0 x1 x2 x3 x4 x5 x10 x11 (ix3 R hd d)
      = rope (fun d => val_main_v18 (F := Ideal) x0 x1 x2 x3 x4 x5 (ix2 R ⟨768 + d.val, by omega⟩))
          (fun d => x10 (ix2 R d)) (fun d => x11 (ix2 R d)) d := by
  pointwise [val_main_v21, val_main_v72, val_main_v73, val_main_v74, val_main_v75, val_main_v76, val_main_v77, val_main_v78, val_main_v79, val_main_v80, val_main_v81, val_main_v82]
  unfold rope
  by_cases h : d.val < 16
  · rw [dif_pos h, dif_pos h]
    have e : 768 + (16 + d.val) = 768 + (d.val + 16) := by ring
    simp only [e]
  · rw [dif_neg h, dif_neg h]
    have e : 768 + (16 + (d.val - 16)) = 768 + d.val := by omega
    simp only [e]

/-- The plain key coordinates. -/
theorem ref_kn (R : Fin 17408) (hd : Fin 16) (d : Fin 64) :
    val_main_v55 (F := Ideal) x0 x1 x2 x3 x4 x5 x8 x9 (ix3 R hd d)
      = ∑ k, val_main_v52 (F := Ideal) x0 x1 x2 x3 x4 x5 x8 (ix2 R k) * x9 (ix2 k ⟨128 * hd.val + d.val, by omega⟩) := by
  pointwise [val_main_v53, val_main_v54, val_main_v55]
  have e : hd.val * 128 + d.val = 128 * hd.val + d.val := by ring
  simp only [e]

/-- The query lanes. -/
theorem ref_q (R : Fin 17408) (hd : Fin 16) (l : Fin 128) :
    val_main_v107 (F := Ideal) x0 x1 x2 x3 x4 x5 x6 x7 x10 x11 (ix2 R ⟨128 * hd.val + l.val, by omega⟩)
      = lanes (fun d => val_main_v94 (F := Ideal) x0 x1 x2 x3 x4 x5 x6 x7 x10 x11 (ix3 R hd d))
          (fun d => val_main_v88 (F := Ideal) x0 x1 x2 x3 x4 x5 x6 x7 (ix3 R hd d)) l := by
  pointwise [val_main_v95, val_main_cst_12, val_main_v96, val_main_v97, val_main_v98, val_main_v99, val_main_v100, val_main_v106, val_main_v107]
  refine lanes_of _ _ l _ _ _ _ ?_ ?_ ?_ ?_
  all_goals intros
  all_goals exact congrArg _ (congrArg (ix3 R hd) (Fin.ext (by first | omega | (dsimp only; omega))))

/-- The key lanes. -/
theorem ref_k (R : Fin 17408) (hd : Fin 16) (l : Fin 128) :
    val_main_v109 (F := Ideal) x0 x1 x2 x3 x4 x5 x8 x9 x10 x11 (ix2 R ⟨128 * hd.val + l.val, by omega⟩)
      = lanes (fun d => val_main_v82 (F := Ideal) x0 x1 x2 x3 x4 x5 x10 x11 (ix3 R hd d))
          (fun d => val_main_v55 (F := Ideal) x0 x1 x2 x3 x4 x5 x8 x9 (ix3 R hd d)) l := by
  pointwise [val_main_v95, val_main_cst_12, val_main_v101, val_main_v102, val_main_v103, val_main_v104, val_main_v105, val_main_v108, val_main_v109]
  refine lanes_of _ _ l _ _ _ _ ?_ ?_ ?_ ?_
  all_goals intros
  all_goals exact congrArg _ (congrArg (ix3 R hd) (Fin.ext (by first | omega | (dsimp only; omega))))

end Cert.EvenOddRefIdeal.RowValue

end
-- ==== Proof.EvenOddValue.lean ====
/- The call from a pair of layers' output projection to the next layer's inputs: its blocks and the rows it computes from them. -/
module

public import proofs.«01_k».proof.Defs
public import proofs.«01_k».proof.Proof.Gen.EvenOddIdeal.Frame
public import proofs.«01_k».proof.Proof.HeadLanes
public import proofs.«01_k».proof.Proof.EvenOddRows
public import proofs.«01_k».proof.Proof.EvenOddHost
public import proofs.«01_k».proof.Proof.EvenOddRef
public import Idealize.ShloMosaic.Lib.Pipeline.ValueKit
public import Idealize.ShloMosaic.Lib.KernelVsHost
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.EvenOddIdeal.RowValue

open Cert.EvenOddIdeal Cert.EvenOddIdeal.Gen Cert.EvenOddRefIdeal.Read Cert.EvenOddRefIdeal.RowValue Cert.Heads

/-- Where each window's block lies at a grid point. -/
theorem idx : ∀ t : Fin cfg0.N,
    win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] ∧ win0_12.index t = ![t.val, 0]
    ∧ win0_13.index t = ![t.val, 0] ∧ win0_14.index t = ![t.val, 0] ∧ win0_15.index t = ![t.val, 0]
    ∧ win0_16.index t = ![t.val, 0] ∧ win0_17.index t = ![t.val, 0] :=
  (by decide +kernel : ∀ t : Fin grid0.N, _)

variable (m : (ℓ : Loc nD τ sig) → Buf (Elt Ideal) ℓ)

/-- Operand 0: the residual stream. -/
abbrev A0 (c : Dev nD) : Vec Ideal S17408x1024 .f32 := m ((c : Thread nD τ).loc main_arg0)
/-- Operand 1: the first mixer's rows. -/
abbrev A1 (c : Dev nD) : Vec Ideal S17408x1024 .bf16 := m ((c : Thread nD τ).loc main_arg1)
/-- Operand 2: the second mixer's rows. -/
abbrev A2 (c : Dev nD) : Vec Ideal S17408x1024 .bf16 := m ((c : Thread nD τ).loc main_arg2)
/-- Operand 3: the output projection. -/
abbrev A3 (c : Dev nD) : Vec Ideal S2048x1024 .f32 := m ((c : Thread nD τ).loc main_arg3)
/-- Operand 4: the rows' norm. -/
abbrev A4 (c : Dev nD) : Vec Ideal S1024 .f32 := m ((c : Thread nD τ).loc main_arg4)
/-- Operand 5: the first projection. -/
abbrev A5 (c : Dev nD) : Vec Ideal S1024x1824 .f32 := m ((c : Thread nD τ).loc main_arg5)
/-- Operand 6: the query latents' norm. -/
abbrev A6 (c : Dev nD) : Vec Ideal S512 .f32 := m ((c : Thread nD τ).loc main_arg6)
/-- Operand 7: the query projection. -/
abbrev A7 (c : Dev nD) : Vec Ideal S512x1536 .f32 := m ((c : Thread nD τ).loc main_arg7)
/-- Operand 8: the key and value latents' norm. -/
abbrev A8 (c : Dev nD) : Vec Ideal S256 .f32 := m ((c : Thread nD τ).loc main_arg8)
/-- Operand 9: the key and value projection. -/
abbrev A9 (c : Dev nD) : Vec Ideal S256x2048 .f32 := m ((c : Thread nD τ).loc main_arg9)
/-- Operand 10: the cosines. -/
abbrev A10 (c : Dev nD) : Vec Ideal S17408x16 .f32 := m ((c : Thread nD τ).loc main_arg10)
/-- Operand 11: the sines. -/
abbrev A11 (c : Dev nD) : Vec Ideal S17408x16 .f32 := m ((c : Thread nD τ).loc main_arg11)

/-- A row of the block of window 0. -/
theorem ld0 (c : Dev nD) (t : Fin cfg0.N) (r : Fin 512) (k : Fin 1024) (R : Fin 17408) (hR : (R : Nat) = t.val * 512 + r.val) :
    View.ld (iblk m c 0 t) r0_0 (ix2 r k) = A0 m c (ix2 R k) := by
  blk_point [iblk, V, idx t]

/-- A row of the block of window 1. -/
theorem ld1 (c : Dev nD) (t : Fin cfg0.N) (r : Fin 512) (k : Fin 1024) (R : Fin 17408) (hR : (R : Nat) = t.val * 512 + r.val) :
    View.ld (iblk m c 1 t) r0_0 (ix2 r k) = A1 m c (ix2 R k) := by
  blk_point [iblk, V, idx t]

/-- A row of the block of window 2. -/
theorem ld2 (c : Dev nD) (t : Fin cfg0.N) (r : Fin 512) (k : Fin 1024) (R : Fin 17408) (hR : (R : Nat) = t.val * 512 + r.val) :
    View.ld (iblk m c 2 t) r0_0 (ix2 r k) = A2 m c (ix2 R k) := by
  blk_point [iblk, V, idx t]

/-- The first half of the output projection. -/
theorem ld3a (c : Dev nD) (t : Fin cfg0.N) (k l : Fin 1024) :
    View.ld (iblk m c 3 t) r0_1 (ix2 k l) = A3 m c (ix2 ⟨k.val, by omega⟩ l) := by
  refine Eq.trans (congrArg (V m c main_v46) (a₂ := ix2 ⟨k.val, by omega⟩ l) ?_) (w46 m c ⟨k.val, by omega⟩ l)
  blk_ext [idx t]
  all_goals first | exact Rect.idx_unit_val _ _ _ _ _ | exact (Rect.idx_unit_val _ _ _ _ _).trans (Nat.zero_add _)

/-- The second half of the output projection. -/
theorem ld3b (c : Dev nD) (t : Fin cfg0.N) (k l : Fin 1024) :
    View.ld (iblk m c 3 t) r0_2 (ix2 k l) = A3 m c (ix2 ⟨1024 + k.val, by omega⟩ l) := by
  refine Eq.trans (congrArg (V m c main_v46) (a₂ := ix2 ⟨1024 + k.val, by omega⟩ l) ?_) (w46 m c ⟨1024 + k.val, by omega⟩ l)
  blk_ext [idx t]
  all_goals first | exact Rect.idx_unit_val _ _ _ _ _ | exact (Rect.idx_unit_val _ _ _ _ _).trans (Nat.zero_add _)

/-- The rows' norm. -/
theorem ld4 (c : Dev nD) (t : Fin cfg0.N) (l : Fin 1024) :
    View.ld (iblk m c 4 t) r0_3 (ix2 0 l) = A4 m c (ix1 l) := by
  refine Eq.trans (congrArg (V m c main_v43) ?_) (w43 m c l)
  blk_ext [idx t]
  exact (Rect.idx_unit_val _ _ _ _ _).trans (Nat.zero_add _)

/-- The query latents' norm. -/
theorem ld6 (c : Dev nD) (t : Fin cfg0.N) (l : Fin 512) :
    View.ld (iblk m c 6 t) r0_9 (ix2 0 l) = A6 m c (ix1 l) := by
  refine Eq.trans (congrArg (V m c main_v44) ?_) (w44 m c l)
  blk_ext [idx t]
  exact (Rect.idx_unit_val _ _ _ _ _).trans (Nat.zero_add _)

/-- The key and value latents' norm. -/
theorem ld8 (c : Dev nD) (t : Fin cfg0.N) (l : Fin 256) :
    View.ld (iblk m c 8 t) r0_10 (ix2 0 l) = A8 m c (ix1 l) := by
  refine Eq.trans (congrArg (V m c main_v45) ?_) (w45 m c l)
  blk_ext [idx t]
  exact (Rect.idx_unit_val _ _ _ _ _).trans (Nat.zero_add _)

/-- The first projection's columns for the query latents. -/
theorem ld5q (c : Dev nD) (t : Fin cfg0.N) (k : Fin 1024) (l : Fin 512) :
    View.ld (iblk m c 5 t) r0_5 (ix2 k l) = A5 m c (ix2 k ⟨l.val, by omega⟩) := by
  refine Eq.trans (congrArg (V m c main_v17) (a₂ := ix2 k ⟨l.val, by omega⟩) ?_) ((congrFun (w17 m c) _).trans (inCols_q _ k l))
  blk_ext [idx t]
  all_goals first | exact Rect.idx_unit_val _ _ _ _ _ | exact (Rect.idx_unit_val _ _ _ _ _).trans (Nat.zero_add _)

/-- The first projection's columns for the key and value latents. -/
theorem ld5kv (c : Dev nD) (t : Fin cfg0.N) (k : Fin 1024) (l : Fin 256) :
    View.ld (iblk m c 5 t) r0_6 (ix2 k l) = A5 m c (ix2 k ⟨512 + l.val, by omega⟩) := by
  refine Eq.trans (congrArg (V m c main_v17) (a₂ := ix2 k ⟨512 + l.val, by omega⟩) ?_) ((congrFun (w17 m c) _).trans (inCols_kv _ k l))
  blk_ext [idx t]
  all_goals first | exact Rect.idx_unit_val _ _ _ _ _ | exact (Rect.idx_unit_val _ _ _ _ _).trans (Nat.zero_add _)

/-- The first projection's columns for the rotary key, over a head's lanes. -/
theorem ld5r (c : Dev nD) (t : Fin cfg0.N) (k : Fin 1024) (l : Fin 128) :
    View.ld (iblk m c 5 t) r0_7 (ix2 k l) = lanes (fun d => A5 m c (ix2 k ⟨768 + d.val, by omega⟩)) (fun _ => 0) l := by
  refine Eq.trans (congrArg (V m c main_v17) (a₂ := ix2 k ⟨768 + l.val, by omega⟩) ?_) ((congrFun (w17 m c) _).trans (inCols_r _ k l))
  blk_ext [idx t]
  all_goals first | exact Rect.idx_unit_val _ _ _ _ _ | exact (Rect.idx_unit_val _ _ _ _ _).trans (Nat.zero_add _)

/-- The first projection's columns for the gate. -/
theorem ld5g (c : Dev nD) (t : Fin cfg0.N) (k : Fin 1024) (l : Fin 1024) :
    View.ld (iblk m c 5 t) r0_4 (ix2 k l) = A5 m c (ix2 k ⟨800 + l.val, by omega⟩) := by
  refine Eq.trans (congrArg (V m c main_v17) (a₂ := ix2 k ⟨896 + l.val, by omega⟩) ?_) ((congrFun (w17 m c) _).trans (inCols_g _ k l))
  blk_ext [idx t]
  all_goals first | exact Rect.idx_unit_val _ _ _ _ _ | exact (Rect.idx_unit_val _ _ _ _ _).trans (Nat.zero_add _)

/-- One piece of the query projection: a head's lanes. -/
theorem ld7 (c : Dev nD) (t : Fin cfg0.N) (p e : Nat) (he : e < 2) (inb) (k : Fin 512) (l : Fin 128) (hd : Fin 16) (hh : hd.val = 2 * p + e) :
    View.ld (iblk m c 7 t) (Rect.unit (s := S512x2048) ![0, 256 * p] S512x256.size inb) (ix2 k (⟨128 * e + l.val, by omega⟩ : Fin 256))
      = lanes (fun d => A7 m c (ix2 k ⟨96 * hd.val + 64 + d.val, by omega⟩)) (fun d => A7 m c (ix2 k ⟨96 * hd.val + d.val, by omega⟩)) l := by
  refine Eq.trans (congrArg (V m c main_v40) (a₂ := ix2 k ⟨128 * hd.val + l.val, by omega⟩) ?_) ((congrFun (w40 m c) _).trans (qCols_lane _ k hd l))
  blk_ext [idx t]
  · exact (Rect.idx_unit_val _ _ _ _ _).trans (Nat.zero_add _)
  · refine (Rect.idx_unit_val _ _ _ _ _).trans ?_
    show 256 * p + (128 * e + l.val) = 128 * hd.val + l.val
    omega

/-- One piece of the key projection: a head's lanes. -/
theorem ld9 (c : Dev nD) (t : Fin cfg0.N) (p e : Nat) (he : e < 2) (inb) (k : Fin 256) (l : Fin 128) (hd : Fin 16) (hh : hd.val = 2 * p + e) :
    View.ld (iblk m c 9 t) (Rect.unit (s := S256x2048) ![0, 256 * p] S256x256.size inb) (ix2 k (⟨128 * e + l.val, by omega⟩ : Fin 256))
      = lanes (fun _ => 0) (fun d => A9 m c (ix2 k ⟨128 * hd.val + d.val, by omega⟩)) l := by
  refine Eq.trans (congrArg (V m c main_v41) (a₂ := ix2 k ⟨128 * hd.val + l.val, by omega⟩) ?_) ((congrFun (w41 m c) _).trans (kCols_lane _ k hd l))
  blk_ext [idx t]
  · exact (Rect.idx_unit_val _ _ _ _ _).trans (Nat.zero_add _)
  · refine (Rect.idx_unit_val _ _ _ _ _).trans ?_
    show 256 * p + (128 * e + l.val) = 128 * hd.val + l.val
    omega

/-- The value projection's columns. -/
theorem ld10 (c : Dev nD) (t : Fin cfg0.N) (k : Fin 256) (hd : Fin 16) (d : Fin 64) :
    View.ld (iblk m c 10 t) r0_11 (ix2 k (⟨64 * hd.val + d.val, by omega⟩ : Fin 1024)) = A9 m c (ix2 k ⟨128 * hd.val + 64 + d.val, by omega⟩) := by
  refine Eq.trans (congrArg (V m c main_v42) (a₂ := ix2 k ⟨64 * hd.val + d.val, by omega⟩) ?_) (w42 m c k hd d)
  blk_ext [idx t]
  all_goals first | exact Rect.idx_unit_val _ _ _ _ _ | exact (Rect.idx_unit_val _ _ _ _ _).trans (Nat.zero_add _)

/-- The cosines of a row. -/
theorem ld11 (c : Dev nD) (t : Fin cfg0.N) (r : Fin 512) (l : Fin 128) (R : Fin 17408) (hR : (R : Nat) = t.val * 512 + r.val) :
    View.ld (iblk m c 11 t) r0_8 (ix2 r l) = cosLane (fun d => A10 m c (ix2 R d)) l := by
  refine Eq.trans (congrArg (V m c main_v2) (a₂ := ix2 R l) ?_) ((congrFun (w2 m c) _).trans (cosAll_lane _ R l))
  blk_ext [idx t]
  · refine (congrArg (t.val * 512 + ·) (Rect.idx_unit_val _ _ _ _ _)).trans ?_
    show t.val * 512 + (0 + r.val) = R.val
    omega
  · exact (Rect.idx_unit_val _ _ _ _ _).trans (Nat.zero_add _)

/-- The sines of a row. -/
theorem ld12 (c : Dev nD) (t : Fin cfg0.N) (r : Fin 512) (l : Fin 128) (R : Fin 17408) (hR : (R : Nat) = t.val * 512 + r.val) :
    View.ld (iblk m c 12 t) r0_8 (ix2 r l) = sinLane (fun d => A11 m c (ix2 R d)) l := by
  refine Eq.trans (congrArg (V m c main_v4) (a₂ := ix2 R l) ?_) ((congrFun (w4 m c) _).trans (sinAll_lane _ R l))
  blk_ext [idx t]
  · refine (congrArg (t.val * 512 + ·) (Rect.idx_unit_val _ _ _ _ _)).trans ?_
    show t.val * 512 + (0 + r.val) = R.val
    omega
  · exact (Rect.idx_unit_val _ _ _ _ _).trans (Nat.zero_add _)

/-- The block of residual sums. -/
abbrev hBlk (c : Dev nD) (t : Fin cfg0.N) : FVec Ideal S512x1024 .f32 :=
  k0_pay1 (F := Ideal) (View.ld (iblk m c 0 t) r0_0) (View.ld (iblk m c 1 t) r0_0) (View.ld (iblk m c 3 t) r0_1) (View.ld (iblk m c 2 t) r0_0) (View.ld (iblk m c 3 t) r0_2)

/-- The block of normalised rows. -/
abbrev nBlk (c : Dev nD) (t : Fin cfg0.N) : FVec Ideal S512x1024 .bf16 :=
  k0_pay36 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- The block of query latents. -/
abbrev qBlk (c : Dev nD) (t : Fin cfg0.N) : FVec Ideal S512x512 .bf16 :=
  k0_pay41 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- The block of key and value latents. -/
abbrev kvBlk (c : Dev nD) (t : Fin cfg0.N) : FVec Ideal S512x256 .bf16 :=
  k0_pay45 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- The block of rotary keys. -/
abbrev krBlk (c : Dev nD) (t : Fin cfg0.N) : FVec Ideal S512x128 .f32 :=
  k0_pay40 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- The block of scaled cosines, for two heads. -/
abbrev cBlk (c : Dev nD) (t : Fin cfg0.N) : FVec Ideal S512x256 .f32 :=
  k0_pay46 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- The block of scaled sines, for two heads. -/
abbrev sBlk (c : Dev nD) (t : Fin cfg0.N) : FVec Ideal S512x256 .f32 :=
  k0_pay47 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- The block of rotary keys, for two heads. -/
abbrev krBlk2 (c : Dev nD) (t : Fin cfg0.N) : FVec Ideal S512x256 .f32 :=
  k0_pay48 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- The residual sums. -/
theorem h_row (c : Dev nD) (t : Fin cfg0.N) (r : Fin 512) (l : Fin 1024) (R : Fin 17408) (hR : (R : Nat) = t.val * 512 + r.val) :
    hBlk m c t (ix2 r l) = val_main_v4 (F := Ideal) (A0 m c) (A1 m c) (A2 m c) (A3 m c) (ix2 R l) := by
  refine (pay1_row _ _ _ _ _ r l).trans (Eq.trans ?_ (ref_h _ _ _ _ R l).symm)
  refine congrArg₂ (· + ·) (congrArg₂ (· + ·) (ld0 m c t r l R hR) ?_) ?_
  · exact Finset.sum_congr rfl fun k _ => congrArg₂ (· * ·) (ld1 m c t r k R hR) (ld3a m c t k l)
  · exact Finset.sum_congr rfl fun k _ => congrArg₂ (· * ·) (ld2 m c t r k R hR) (ld3b m c t k l)

/-- The normalised rows. -/
theorem n_row (c : Dev nD) (t : Fin cfg0.N) (r : Fin 512) (l : Fin 1024) (R : Fin 17408) (hR : (R : Nat) = t.val * 512 + r.val) :
    nBlk m c t (ix2 r l) = val_main_v17 (F := Ideal) (A0 m c) (A1 m c) (A2 m c) (A3 m c) (A4 m c) (ix2 R l) :=
  (pay2_row _ _ _ _ _ _ r l).trans ((rms_eq _ (fun l => h_row m c t r l R hR) (ld4 m c t l) l).trans (ref_n _ _ _ _ _ R l).symm)

/-- The query latents. -/
theorem q_row (c : Dev nD) (t : Fin cfg0.N) (r : Fin 512) (l : Fin 512) (R : Fin 17408) (hR : (R : Nat) = t.val * 512 + r.val) :
    qBlk m c t (ix2 r l) = val_main_v35 (F := Ideal) (A0 m c) (A1 m c) (A2 m c) (A3 m c) (A4 m c) (A5 m c) (A6 m c) (ix2 R l) := by
  refine (pay8_row _ _ _ r l).trans ((rms_eq _ (fun l => ?_) (ld6 m c t l) l).trans (ref_cq _ _ _ _ _ _ _ R l).symm)
  refine Eq.trans ?_ (ref_p _ _ _ _ _ _ R _).symm
  exact Finset.sum_congr rfl fun k _ => congrArg₂ (· * ·) (n_row m c t r k R hR) (ld5q m c t k l)

/-- The key and value latents. -/
theorem kv_row (c : Dev nD) (t : Fin cfg0.N) (r : Fin 512) (l : Fin 256) (R : Fin 17408) (hR : (R : Nat) = t.val * 512 + r.val) :
    kvBlk m c t (ix2 r l) = val_main_v52 (F := Ideal) (A0 m c) (A1 m c) (A2 m c) (A3 m c) (A4 m c) (A5 m c) (A8 m c) (ix2 R l) := by
  refine (pay12_row _ _ _ r l).trans ((rms_eq _ (fun l => ?_) (ld8 m c t l) l).trans (ref_ckv _ _ _ _ _ _ _ R l).symm)
  refine Eq.trans ?_ (ref_p _ _ _ _ _ _ R _).symm
  exact Finset.sum_congr rfl fun k _ => congrArg₂ (· * ·) (n_row m c t r k R hR) (ld5kv m c t k l)

/-- The rotary key's lanes before the rotation. -/
theorem kr_lane (c : Dev nD) (t : Fin cfg0.N) (r : Fin 512) (l : Fin 128) (R : Fin 17408) (hR : (R : Nat) = t.val * 512 + r.val) :
    (∑ k, nBlk m c t (ix2 r k) * View.ld (iblk m c 5 t) r0_7 (ix2 k l))
      = lanes (fun d => val_main_v18 (F := Ideal) (A0 m c) (A1 m c) (A2 m c) (A3 m c) (A4 m c) (A5 m c) (ix2 R ⟨768 + d.val, by omega⟩)) (fun _ => 0) l := by
  refine (Finset.sum_congr rfl fun k _ => congrArg₂ (· * ·) (n_row m c t r k R hR) (ld5r m c t k l)).trans ?_
  refine (lanes_sum _ _ _ l).trans (congrArg₂ (fun a b => lanes a b l) (funext fun d => (ref_p _ _ _ _ _ _ R _).symm) (funext fun d => ?_))
  simp only [mul_zero, Finset.sum_const_zero]

/-- The rotary keys. -/
theorem kr_row (c : Dev nD) (t : Fin cfg0.N) (r : Fin 512) (l : Fin 128) (R : Fin 17408) (hR : (R : Nat) = t.val * 512 + r.val) (hd : Fin 16) :
    krBlk m c t (ix2 r l) = lanes (fun d => val_main_v82 (F := Ideal) (A0 m c) (A1 m c) (A2 m c) (A3 m c) (A4 m c) (A5 m c) (A10 m c) (A11 m c) (ix3 R hd d)) (fun _ => 0) l := by
  refine (pay7_row _ _ _ _ r l).trans ?_
  refine (congrArg₂ (· + ·) (congrArg₂ (· * ·) (kr_lane m c t r l R hR) (ld11 m c t r l R hR))
    (congrArg₂ (· * ·) (kr_lane m c t r (half l) R hR) (ld12 m c t r l R hR))).trans ?_
  exact (lanes_rope _ _ _ _ l).trans (congrArg (fun a => lanes a _ l) (funext fun d => (ref_kr _ _ _ _ _ _ _ _ R hd d).symm))

/-- The scaled cosines. -/
theorem c_row (c : Dev nD) (t : Fin cfg0.N) (r : Fin 512) (e : Nat) (he : e < 2) (l : Fin 128) (R : Fin 17408) (hR : (R : Nat) = t.val * 512 + r.val) :
    cBlk m c t (ix2 r ⟨128 * e + l.val, by omega⟩)
      = cosLane (fun d => A10 m c (ix2 R d)) l * (((Real.log 2)⁻¹ * (Real.sqrt 96)⁻¹ : ℝ) : EReal) := by
  refine (pay14_row _ r e he l).trans (congrArg (· * _) (Eq.trans ?_ (ld11 m c t r l R hR)))
  unfold k0_pay38
  pointwise [k0_pay5]

/-- The scaled sines. -/
theorem s_row (c : Dev nD) (t : Fin cfg0.N) (r : Fin 512) (e : Nat) (he : e < 2) (l : Fin 128) (R : Fin 17408) (hR : (R : Nat) = t.val * 512 + r.val) :
    sBlk m c t (ix2 r ⟨128 * e + l.val, by omega⟩)
      = sinLane (fun d => A11 m c (ix2 R d)) l * (((Real.log 2)⁻¹ * (Real.sqrt 96)⁻¹ : ℝ) : EReal) := by
  refine (pay15_row _ r e he l).trans (congrArg (· * _) (Eq.trans ?_ (ld12 m c t r l R hR)))
  unfold k0_pay39
  pointwise [k0_pay6]

/-- A head's query lanes before the rotation. -/
theorem q_lane (c : Dev nD) (t : Fin cfg0.N) (r : Fin 512) (p e : Nat) (he : e < 2) (inb) (l : Fin 128) (R : Fin 17408) (hR : (R : Nat) = t.val * 512 + r.val) (hd : Fin 16) (hh : hd.val = 2 * p + e) :
    (∑ k, qBlk m c t (ix2 r k) * View.ld (iblk m c 7 t) (Rect.unit (s := S512x2048) ![0, 256 * p] S512x256.size inb) (ix2 k (⟨128 * e + l.val, by omega⟩ : Fin 256)))
      = lanes (fun d => ∑ k, val_main_v35 (F := Ideal) (A0 m c) (A1 m c) (A2 m c) (A3 m c) (A4 m c) (A5 m c) (A6 m c) (ix2 R k) * A7 m c (ix2 k ⟨96 * hd.val + 64 + d.val, by omega⟩))
          (fun d => ∑ k, val_main_v35 (F := Ideal) (A0 m c) (A1 m c) (A2 m c) (A3 m c) (A4 m c) (A5 m c) (A6 m c) (ix2 R k) * A7 m c (ix2 k ⟨96 * hd.val + d.val, by omega⟩)) l :=
  (Finset.sum_congr rfl fun k _ => congrArg₂ (· * ·) (q_row m c t r k R hR) (ld7 m c t p e he inb k l hd hh)).trans (lanes_sum _ _ _ l)

/-- A head's queries. -/
theorem q_head (c : Dev nD) (t : Fin cfg0.N) (r : Fin 512) (p e : Nat) (he : e < 2) (inb) (l : Fin 128) (R : Fin 17408) (hR : (R : Nat) = t.val * 512 + r.val) (hd : Fin 16) (hh : hd.val = 2 * p + e) :
    k0_pay19 (F := Ideal) (qBlk m c t) (cBlk m c t) (sBlk m c t) (View.ld (iblk m c 7 t) (Rect.unit (s := S512x2048) ![0, 256 * p] S512x256.size inb))
        (ix2 r ⟨128 * e + l.val, by omega⟩)
      = val_main_v107 (F := Ideal) (A0 m c) (A1 m c) (A2 m c) (A3 m c) (A4 m c) (A5 m c) (A6 m c) (A7 m c) (A10 m c) (A11 m c) (ix2 R ⟨128 * hd.val + l.val, by omega⟩) := by
  refine (pay19_row _ _ _ _ r e he l).trans ?_
  refine (congrArg₂ (· + ·) (congrArg₂ (· * ·) (q_lane m c t r p e he inb l R hR hd hh) (c_row m c t r e he l R hR))
    (congrArg₂ (· * ·) (q_lane m c t r p e he inb (half l) R hR hd hh) (s_row m c t r e he l R hR))).trans ?_
  refine (lanes_rope_scaled _ _ _ _ _ scale_pos l).trans (Eq.trans ?_ (ref_q _ _ _ _ _ _ _ _ _ _ R hd l).symm)
  exact congrArg₂ (fun a b => lanes a b l) (funext fun d => (ref_qr _ _ _ _ _ _ _ _ _ _ R hd d).symm) (funext fun d => (ref_qn _ _ _ _ _ _ _ _ R hd d).symm)

/-- A head's keys. -/
theorem k_head (c : Dev nD) (t : Fin cfg0.N) (r : Fin 512) (p e : Nat) (he : e < 2) (inb) (l : Fin 128) (R : Fin 17408) (hR : (R : Nat) = t.val * 512 + r.val) (hd : Fin 16) (hh : hd.val = 2 * p + e) :
    k0_pay20 (F := Ideal) (kvBlk m c t) (krBlk2 m c t) (View.ld (iblk m c 9 t) (Rect.unit (s := S256x2048) ![0, 256 * p] S256x256.size inb))
        (ix2 r ⟨128 * e + l.val, by omega⟩)
      = val_main_v109 (F := Ideal) (A0 m c) (A1 m c) (A2 m c) (A3 m c) (A4 m c) (A5 m c) (A8 m c) (A9 m c) (A10 m c) (A11 m c) (ix2 R ⟨128 * hd.val + l.val, by omega⟩) := by
  refine (pay20_row _ _ _ r _).trans ?_
  refine (congrArg₂ (· + ·) ((Finset.sum_congr rfl fun k _ => congrArg₂ (· * ·) (kv_row m c t r k R hR) (ld9 m c t p e he inb k l hd hh)).trans (lanes_sum _ _ _ l))
    ((pay16_row _ r e he l).trans (kr_row m c t r l R hR hd))).trans ?_
  refine Eq.trans ?_ (ref_k _ _ _ _ _ _ _ _ _ _ R hd l).symm
  refine Eq.trans ?_ (lanes_add _ _ l)
  refine congrArg₂ (· + ·) (congrArg₂ (fun a b => lanes a b l) (funext fun d => ?_) (funext fun d => (ref_kn _ _ _ _ _ _ _ _ R hd d).symm)) rfl
  simp only [mul_zero, Finset.sum_const_zero]

/-- A head's values. -/
theorem v_head (c : Dev nD) (t : Fin cfg0.N) (r : Fin 512) (hd : Fin 16) (d : Fin 64) (R : Fin 17408) (hR : (R : Nat) = t.val * 512 + r.val) :
    k0_pay13 (F := Ideal) (k0_pay37 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay42 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay43 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay44 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 10 t) r0_11) (ix2 r ⟨64 * hd.val + d.val, by omega⟩)
      = val_main_v111 (F := Ideal) (A0 m c) (A1 m c) (A2 m c) (A3 m c) (A4 m c) (A5 m c) (A8 m c) (A9 m c) (ix2 R ⟨64 * hd.val + d.val, by omega⟩) := by
  refine (pay13_row _ _ _ _ _ r _).trans (Eq.trans ?_ (ref_v _ _ _ _ _ _ _ _ R hd d).symm)
  exact Finset.sum_congr rfl fun k _ => congrArg₂ (· * ·) (kv_row m c t r k R hR) (ld10 m c t k hd d)

/-- The gate. -/
theorem g_row (c : Dev nD) (t : Fin cfg0.N) (r : Fin 512) (l : Fin 1024) (R : Fin 17408) (hR : (R : Nat) = t.val * 512 + r.val) :
    k0_pay3 (F := Ideal) (View.ld (iblk m c 0 t) r0_0) (View.ld (iblk m c 1 t) r0_0) (View.ld (iblk m c 3 t) r0_1) (View.ld (iblk m c 2 t) r0_0) (View.ld (iblk m c 3 t) r0_2)
        (View.ld (iblk m c 4 t) r0_3) (View.ld (iblk m c 5 t) r0_4) (ix2 r l)
      = val_main_v112 (F := Ideal) (A0 m c) (A1 m c) (A2 m c) (A3 m c) (A4 m c) (A5 m c) (ix2 R l) := by
  refine (pay3_row _ _ _ _ _ _ _ r l).trans (Eq.trans ?_ ((ref_p _ _ _ _ _ _ R _).symm.trans (ref_g _ _ _ _ _ _ R l).symm))
  exact Finset.sum_congr rfl fun k _ => congrArg₂ (· * ·) (n_row m c t r k R hR) (ld5g m c t k l)

end Cert.EvenOddIdeal.RowValue

end
-- ==== Proof.EvenOddOut.lean ====
/- The call from a pair of layers' output projection to the next layer's inputs: its five result arrays. -/
module

public import proofs.«01_k».proof.Defs
public import proofs.«01_k».proof.Proof.Gen.EvenOddIdeal.Frame
public import proofs.«01_k».proof.Proof.HeadLanes
public import proofs.«01_k».proof.Proof.EvenOddRows
public import proofs.«01_k».proof.Proof.EvenOddHost
public import proofs.«01_k».proof.Proof.EvenOddRef
public import proofs.«01_k».proof.Proof.EvenOddValue
public import Idealize.ShloMosaic.Lib.Pipeline.ValueKit
public import Idealize.ShloMosaic.Lib.KernelVsHost
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.EvenOddIdeal.RowValue

open Cert.EvenOddIdeal Cert.EvenOddIdeal.Gen Cert.EvenOddRefIdeal.Read Cert.EvenOddRefIdeal.RowValue Cert.Heads

variable (m : (ℓ : Loc nD τ sig) → Buf (Elt Ideal) ℓ)

/-- An index from its coordinates. -/
theorem idx_of {n0 n1 : Nat} (j : (⟨2, ![n0, n1]⟩ : Shape).Idx) (R : Fin n0) (l : Fin n1) (h0 : (j 0 : Nat) = R) (h1 : (j 1 : Nat) = l) : j = ix2 R l := by
  rw [Idealize.ShloMosaic.eq_ix2 j]
  exact congrArg₂ ix2 (Fin.ext h0) (Fin.ext h1)

/-- One piece of the queries. -/
theorem core14 (c : Dev nD) (t : Fin cfg0.N) (r : Fin 512) (q : Fin 256) (p : Nat) (inb) (j : S17408x2048.Idx) (h0 : (j 0 : Nat) = t.val * 512 + r.val) (h1 : (j 1 : Nat) = 256 * p + q.val) :
    k0_pay19 (F := Ideal) (qBlk m c t) (cBlk m c t) (sBlk m c t) (View.ld (iblk m c 7 t) (Rect.unit (s := S512x2048) ![0, 256 * p] S512x256.size inb)) (ix2 r q)
      = val_main_v107 (F := Ideal) (A0 m c) (A1 m c) (A2 m c) (A3 m c) (A4 m c) (A5 m c) (A6 m c) (A7 m c) (A10 m c) (A11 m c) j := by
  have hj : (j 1 : Nat) < 2048 := (j 1).isLt
  have hq : q = ⟨128 * (q.val / 128) + q.val % 128, by omega⟩ := Fin.ext (by dsimp only; omega)
  rw [hq, idx_of j (j 0) ⟨128 * (2 * p + q.val / 128) + q.val % 128, by omega⟩ rfl (by dsimp only; omega)]
  exact q_head m c t r p (q.val / 128) (by omega) inb ⟨q.val % 128, Nat.mod_lt _ (by norm_num)⟩ (j 0) h0 ⟨2 * p + q.val / 128, by omega⟩ rfl

/-- One piece of the keys. -/
theorem core15 (c : Dev nD) (t : Fin cfg0.N) (r : Fin 512) (q : Fin 256) (p : Nat) (inb) (j : S17408x2048.Idx) (h0 : (j 0 : Nat) = t.val * 512 + r.val) (h1 : (j 1 : Nat) = 256 * p + q.val) :
    k0_pay20 (F := Ideal) (kvBlk m c t) (krBlk2 m c t) (View.ld (iblk m c 9 t) (Rect.unit (s := S256x2048) ![0, 256 * p] S256x256.size inb)) (ix2 r q)
      = val_main_v109 (F := Ideal) (A0 m c) (A1 m c) (A2 m c) (A3 m c) (A4 m c) (A5 m c) (A8 m c) (A9 m c) (A10 m c) (A11 m c) j := by
  have hj : (j 1 : Nat) < 2048 := (j 1).isLt
  have hq : q = ⟨128 * (q.val / 128) + q.val % 128, by omega⟩ := Fin.ext (by dsimp only; omega)
  rw [hq, idx_of j (j 0) ⟨128 * (2 * p + q.val / 128) + q.val % 128, by omega⟩ rfl (by dsimp only; omega)]
  exact k_head m c t r p (q.val / 128) (by omega) inb ⟨q.val % 128, Nat.mod_lt _ (by norm_num)⟩ (j 0) h0 ⟨2 * p + q.val / 128, by omega⟩ rfl

/-- The values. -/
theorem core16 (c : Dev nD) (t : Fin cfg0.N) (r : Fin 512) (l : Fin 1024) (j : S17408x1024.Idx) (h0 : (j 0 : Nat) = t.val * 512 + r.val) (h1 : (j 1 : Nat) = l.val) :
    k0_pay13 (F := Ideal) (k0_pay37 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay42 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay43 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay44 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 10 t) r0_11) (ix2 r l)
      = val_main_v111 (F := Ideal) (A0 m c) (A1 m c) (A2 m c) (A3 m c) (A4 m c) (A5 m c) (A8 m c) (A9 m c) j := by
  have hl : l = ⟨64 * (l.val / 64) + l.val % 64, by omega⟩ := Fin.ext (by dsimp only; omega)
  rw [idx_of j (j 0) l rfl h1, hl]
  exact v_head m c t r ⟨l.val / 64, by omega⟩ ⟨l.val % 64, Nat.mod_lt _ (by norm_num)⟩ (j 0) h0

/-- The residual sums. -/
theorem core13 (c : Dev nD) (t : Fin cfg0.N) (r : Fin 512) (l : Fin 1024) (j : S17408x1024.Idx) (h0 : (j 0 : Nat) = t.val * 512 + r.val) (h1 : (j 1 : Nat) = l.val) :
    hBlk m c t (ix2 r l) = val_main_v4 (F := Ideal) (A0 m c) (A1 m c) (A2 m c) (A3 m c) j := by
  rw [idx_of j (j 0) l rfl h1]
  exact h_row m c t r l (j 0) h0

/-- The gate. -/
theorem core17 (c : Dev nD) (t : Fin cfg0.N) (r : Fin 512) (l : Fin 1024) (j : S17408x1024.Idx) (h0 : (j 0 : Nat) = t.val * 512 + r.val) (h1 : (j 1 : Nat) = l.val) :
    k0_pay3 (F := Ideal) (View.ld (iblk m c 0 t) r0_0) (View.ld (iblk m c 1 t) r0_0) (View.ld (iblk m c 3 t) r0_1) (View.ld (iblk m c 2 t) r0_0) (View.ld (iblk m c 3 t) r0_2)
        (View.ld (iblk m c 4 t) r0_3) (View.ld (iblk m c 5 t) r0_4) (ix2 r l)
      = val_main_v112 (F := Ideal) (A0 m c) (A1 m c) (A2 m c) (A3 m c) (A4 m c) (A5 m c) j := by
  rw [idx_of j (j 0) l rfl h1]
  exact g_row m c t r l (j 0) h0

/-- Where an element of window 13's block lands. -/
theorem lands13 (t : Fin cfg0.N) (y : S512x1024.Idx) :
    ((((cfg0.win 13).blk t).view.emb y 0 : Fin _) : Nat) = t.val * 512 + (y 0).val ∧ ((((cfg0.win 13).blk t).view.emb y 1 : Fin _) : Nat) = (y 1).val := by
  constructor <;> blk_simp [idx t]

/-- Window 13's block after a grid point. -/
theorem point13 (c : Dev nD) (t : Fin cfg0.N) (y : S512x1024.Idx) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = val_main_v4 (F := Ideal) (A0 m c) (A1 m c) (A2 m c) (A3 m c) (((cfg0.win 13).blk t).view.emb y) := by
  obtain ⟨e0, e1⟩ := lands13 t y
  unfold out0_13
  canon_tiles x h
  all_goals rw [Idealize.ShloMosaic.eq_ix2 x]
  exact core13 m c t (x 0) (x 1) _ (by omega) (by omega)

/-- Window 13's array after the run. -/
theorem final13 (c : Dev nD) : (dats m 0 c).arrAt 13 (cfgs 0).N = val_main_v4 (F := Ideal) (A0 m c) (A1 m c) (A2 m c) (A3 m c) := by
  refine (dats m 0 c).arrAt_eq_of_covers 13 _ (by decide +kernel) fun t _ y => ?_
  blk_simp
  rw [after0_13]
  exact point13 m c t y

/-- Where an element of window 14's block lands. -/
theorem lands14 (t : Fin cfg0.N) (y : S512x2048.Idx) :
    ((((cfg0.win 14).blk t).view.emb y 0 : Fin _) : Nat) = t.val * 512 + (y 0).val ∧ ((((cfg0.win 14).blk t).view.emb y 1 : Fin _) : Nat) = (y 1).val := by
  constructor <;> blk_simp [idx t]

/-- Window 14's block after a grid point. -/
theorem point14 (c : Dev nD) (t : Fin cfg0.N) (y : S512x2048.Idx) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = val_main_v107 (F := Ideal) (A0 m c) (A1 m c) (A2 m c) (A3 m c) (A4 m c) (A5 m c) (A6 m c) (A7 m c) (A10 m c) (A11 m c) (((cfg0.win 14).blk t).view.emb y) := by
  obtain ⟨e0, e1⟩ := lands14 t y
  unfold out0_14
  canon_tiles x h
  all_goals rw [Idealize.ShloMosaic.eq_ix2 x]
  · exact core14 m c t (x 0) (x 1) 7 _ _ (by omega) (by omega)
  · exact core14 m c t (x 0) (x 1) 6 _ _ (by omega) (by omega)
  · exact core14 m c t (x 0) (x 1) 5 _ _ (by omega) (by omega)
  · exact core14 m c t (x 0) (x 1) 4 _ _ (by omega) (by omega)
  · exact core14 m c t (x 0) (x 1) 3 _ _ (by omega) (by omega)
  · exact core14 m c t (x 0) (x 1) 2 _ _ (by omega) (by omega)
  · exact core14 m c t (x 0) (x 1) 1 _ _ (by omega) (by omega)
  · exact core14 m c t (x 0) (x 1) 0 _ _ (by omega) (by omega)

/-- Window 14's array after the run. -/
theorem final14 (c : Dev nD) : (dats m 0 c).arrAt 14 (cfgs 0).N = val_main_v107 (F := Ideal) (A0 m c) (A1 m c) (A2 m c) (A3 m c) (A4 m c) (A5 m c) (A6 m c) (A7 m c) (A10 m c) (A11 m c) := by
  refine (dats m 0 c).arrAt_eq_of_covers 14 _ (by decide +kernel) fun t _ y => ?_
  blk_simp
  rw [after0_14]
  exact point14 m c t y

/-- Where an element of window 15's block lands. -/
theorem lands15 (t : Fin cfg0.N) (y : S512x2048.Idx) :
    ((((cfg0.win 15).blk t).view.emb y 0 : Fin _) : Nat) = t.val * 512 + (y 0).val ∧ ((((cfg0.win 15).blk t).view.emb y 1 : Fin _) : Nat) = (y 1).val := by
  constructor <;> blk_simp [idx t]

/-- Window 15's block after a grid point. -/
theorem point15 (c : Dev nD) (t : Fin cfg0.N) (y : S512x2048.Idx) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = val_main_v109 (F := Ideal) (A0 m c) (A1 m c) (A2 m c) (A3 m c) (A4 m c) (A5 m c) (A8 m c) (A9 m c) (A10 m c) (A11 m c) (((cfg0.win 15).blk t).view.emb y) := by
  obtain ⟨e0, e1⟩ := lands15 t y
  unfold out0_15
  canon_tiles x h
  all_goals rw [Idealize.ShloMosaic.eq_ix2 x]
  · exact core15 m c t (x 0) (x 1) 7 _ _ (by omega) (by omega)
  · exact core15 m c t (x 0) (x 1) 6 _ _ (by omega) (by omega)
  · exact core15 m c t (x 0) (x 1) 5 _ _ (by omega) (by omega)
  · exact core15 m c t (x 0) (x 1) 4 _ _ (by omega) (by omega)
  · exact core15 m c t (x 0) (x 1) 3 _ _ (by omega) (by omega)
  · exact core15 m c t (x 0) (x 1) 2 _ _ (by omega) (by omega)
  · exact core15 m c t (x 0) (x 1) 1 _ _ (by omega) (by omega)
  · exact core15 m c t (x 0) (x 1) 0 _ _ (by omega) (by omega)

/-- Window 15's array after the run. -/
theorem final15 (c : Dev nD) : (dats m 0 c).arrAt 15 (cfgs 0).N = val_main_v109 (F := Ideal) (A0 m c) (A1 m c) (A2 m c) (A3 m c) (A4 m c) (A5 m c) (A8 m c) (A9 m c) (A10 m c) (A11 m c) := by
  refine (dats m 0 c).arrAt_eq_of_covers 15 _ (by decide +kernel) fun t _ y => ?_
  blk_simp
  rw [after0_15]
  exact point15 m c t y

/-- Where an element of window 16's block lands. -/
theorem lands16 (t : Fin cfg0.N) (y : S512x1024.Idx) :
    ((((cfg0.win 16).blk t).view.emb y 0 : Fin _) : Nat) = t.val * 512 + (y 0).val ∧ ((((cfg0.win 16).blk t).view.emb y 1 : Fin _) : Nat) = (y 1).val := by
  constructor <;> blk_simp [idx t]

/-- Window 16's block after a grid point. -/
theorem point16 (c : Dev nD) (t : Fin cfg0.N) (y : S512x1024.Idx) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = val_main_v111 (F := Ideal) (A0 m c) (A1 m c) (A2 m c) (A3 m c) (A4 m c) (A5 m c) (A8 m c) (A9 m c) (((cfg0.win 16).blk t).view.emb y) := by
  obtain ⟨e0, e1⟩ := lands16 t y
  unfold out0_16
  canon_tiles x h
  all_goals rw [Idealize.ShloMosaic.eq_ix2 x]
  exact core16 m c t (x 0) (x 1) _ (by omega) (by omega)

/-- Window 16's array after the run. -/
theorem final16 (c : Dev nD) : (dats m 0 c).arrAt 16 (cfgs 0).N = val_main_v111 (F := Ideal) (A0 m c) (A1 m c) (A2 m c) (A3 m c) (A4 m c) (A5 m c) (A8 m c) (A9 m c) := by
  refine (dats m 0 c).arrAt_eq_of_covers 16 _ (by decide +kernel) fun t _ y => ?_
  blk_simp
  rw [after0_16]
  exact point16 m c t y

/-- Where an element of window 17's block lands. -/
theorem lands17 (t : Fin cfg0.N) (y : S512x1024.Idx) :
    ((((cfg0.win 17).blk t).view.emb y 0 : Fin _) : Nat) = t.val * 512 + (y 0).val ∧ ((((cfg0.win 17).blk t).view.emb y 1 : Fin _) : Nat) = (y 1).val := by
  constructor <;> blk_simp [idx t]

/-- Window 17's block after a grid point. -/
theorem point17 (c : Dev nD) (t : Fin cfg0.N) (y : S512x1024.Idx) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = val_main_v112 (F := Ideal) (A0 m c) (A1 m c) (A2 m c) (A3 m c) (A4 m c) (A5 m c) (((cfg0.win 17).blk t).view.emb y) := by
  obtain ⟨e0, e1⟩ := lands17 t y
  unfold out0_17
  canon_tiles x h
  all_goals rw [Idealize.ShloMosaic.eq_ix2 x]
  exact core17 m c t (x 0) (x 1) _ (by omega) (by omega)

/-- Window 17's array after the run. -/
theorem final17 (c : Dev nD) : (dats m 0 c).arrAt 17 (cfgs 0).N = val_main_v112 (F := Ideal) (A0 m c) (A1 m c) (A2 m c) (A3 m c) (A4 m c) (A5 m c) := by
  refine (dats m 0 c).arrAt_eq_of_covers 17 _ (by decide +kernel) fun t _ y => ?_
  blk_simp
  rw [after0_17]
  exact point17 m c t y

/-- The run: every result array ends at the reference's value. -/
theorem ran (g : Dev nD → PrngReg) : θ_run (defs (F := Ideal)) (onTc (τ := τ) (main (F := Ideal))) ⟨m, fun _ => 0, g⟩ (fun r => ∀ c : Dev nD,
    r.2.mem ((c : Thread nD τ).loc main_v47_0) = val_main_v4 (F := Ideal) (A0 m c) (A1 m c) (A2 m c) (A3 m c)
    ∧ r.2.mem ((c : Thread nD τ).loc main_v47_1) = val_main_v107 (F := Ideal) (A0 m c) (A1 m c) (A2 m c) (A3 m c) (A4 m c) (A5 m c) (A6 m c) (A7 m c) (A10 m c) (A11 m c)
    ∧ r.2.mem ((c : Thread nD τ).loc main_v47_2) = val_main_v109 (F := Ideal) (A0 m c) (A1 m c) (A2 m c) (A3 m c) (A4 m c) (A5 m c) (A8 m c) (A9 m c) (A10 m c) (A11 m c)
    ∧ r.2.mem ((c : Thread nD τ).loc main_v47_3) = val_main_v111 (F := Ideal) (A0 m c) (A1 m c) (A2 m c) (A3 m c) (A4 m c) (A5 m c) (A8 m c) (A9 m c)
    ∧ r.2.mem ((c : Thread nD τ).loc main_v47_4) = val_main_v112 (F := Ideal) (A0 m c) (A1 m c) (A2 m c) (A3 m c) (A4 m c) (A5 m c)) := by
  refine Idealize.ShloMosaic.θ_run_mono (run_main m g) fun r h c => ?_
  exact ⟨((h c).1 13).trans (final13 m c), ((h c).1 14).trans (final14 m c), ((h c).1 15).trans (final15 m c),
    ((h c).1 16).trans (final16 m c), ((h c).1 17).trans (final17 m c)⟩

end Cert.EvenOddIdeal.RowValue

end
-- ==== Proof.EvenOddClaim.lean ====
/- The call from a pair of layers' output projection to the next layer's inputs: the claim about it. -/
module

public import proofs.«01_k».proof.Defs
public import proofs.«01_k».proof.Proof.Gen.EvenOddIdeal.Frame
public import proofs.«01_k».proof.Proof.Gen.EvenOddRefIdeal.Run
public import proofs.«01_k».proof.Proof.Gen.EvenOddRefIdeal.Read
public import proofs.«01_k».proof.Proof.EvenOddOut
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.EvenOddRefIdeal.RowValue

open Cert.EvenOddRefIdeal Cert.EvenOddRefIdeal.Read

/-- The reference's run: every result array ends at the value its stages name. -/
theorem ran (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
    r.2.mem ((c : Thread nD τ).loc main_v4) = val_main_v4 (F := Ideal) (m ((c : Thread nD τ).loc main_arg0)) (m ((c : Thread nD τ).loc main_arg1)) (m ((c : Thread nD τ).loc main_arg2)) (m ((c : Thread nD τ).loc main_arg3))
    ∧ r.2.mem ((c : Thread nD τ).loc main_v107) = val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11))
    ∧ r.2.mem ((c : Thread nD τ).loc main_v109) = val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11))
    ∧ r.2.mem ((c : Thread nD τ).loc main_v111) = val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9))
    ∧ r.2.mem ((c : Thread nD τ).loc main_v112) = val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine Idealize.ShloMosaic.θ_run_mono (Cert.EvenOddRefIdeal.Value.run m g) fun r h c => ?_
  obtain ⟨h0, h1, h2, h3, h4, -⟩ := h c
  exact ⟨h0.trans (val_main_v4_eq _ _ _ _), h1.trans (val_main_v107_eq m c), h2.trans (val_main_v109_eq m c),
    h3.trans (val_main_v111_eq m c), h4.trans (val_main_v112_eq _ _ _ _ _ _)⟩

end Cert.EvenOddRefIdeal.RowValue

namespace Cert.Proof

open Cert.EvenOddRefIdeal.Read

/-- The call and its reference end with the same five arrays. -/
theorem algebraic_eo : Cert.algebraic_EvenOddIdeal_EvenOddRefIdeal (hEvenOddIdeal := Cert.EvenOddIdeal.Gen.facts) (hEvenOddRefIdeal := Cert.EvenOddRefIdeal.Gen.facts) := by
  intro m g m' g' _ hagree
  refine ⟨fun c => val_main_v4 (F := Ideal) (Cert.EvenOddIdeal.RowValue.A0 m c) (Cert.EvenOddIdeal.RowValue.A1 m c) (Cert.EvenOddIdeal.RowValue.A2 m c) (Cert.EvenOddIdeal.RowValue.A3 m c),
    fun c => val_main_v107 (F := Ideal) (Cert.EvenOddIdeal.RowValue.A0 m c) (Cert.EvenOddIdeal.RowValue.A1 m c) (Cert.EvenOddIdeal.RowValue.A2 m c) (Cert.EvenOddIdeal.RowValue.A3 m c) (Cert.EvenOddIdeal.RowValue.A4 m c) (Cert.EvenOddIdeal.RowValue.A5 m c) (Cert.EvenOddIdeal.RowValue.A6 m c) (Cert.EvenOddIdeal.RowValue.A7 m c) (Cert.EvenOddIdeal.RowValue.A10 m c) (Cert.EvenOddIdeal.RowValue.A11 m c),
    fun c => val_main_v109 (F := Ideal) (Cert.EvenOddIdeal.RowValue.A0 m c) (Cert.EvenOddIdeal.RowValue.A1 m c) (Cert.EvenOddIdeal.RowValue.A2 m c) (Cert.EvenOddIdeal.RowValue.A3 m c) (Cert.EvenOddIdeal.RowValue.A4 m c) (Cert.EvenOddIdeal.RowValue.A5 m c) (Cert.EvenOddIdeal.RowValue.A8 m c) (Cert.EvenOddIdeal.RowValue.A9 m c) (Cert.EvenOddIdeal.RowValue.A10 m c) (Cert.EvenOddIdeal.RowValue.A11 m c),
    fun c => val_main_v111 (F := Ideal) (Cert.EvenOddIdeal.RowValue.A0 m c) (Cert.EvenOddIdeal.RowValue.A1 m c) (Cert.EvenOddIdeal.RowValue.A2 m c) (Cert.EvenOddIdeal.RowValue.A3 m c) (Cert.EvenOddIdeal.RowValue.A4 m c) (Cert.EvenOddIdeal.RowValue.A5 m c) (Cert.EvenOddIdeal.RowValue.A8 m c) (Cert.EvenOddIdeal.RowValue.A9 m c),
    fun c => val_main_v112 (F := Ideal) (Cert.EvenOddIdeal.RowValue.A0 m c) (Cert.EvenOddIdeal.RowValue.A1 m c) (Cert.EvenOddIdeal.RowValue.A2 m c) (Cert.EvenOddIdeal.RowValue.A3 m c) (Cert.EvenOddIdeal.RowValue.A4 m c) (Cert.EvenOddIdeal.RowValue.A5 m c), ?_, ?_⟩
  · refine Idealize.ShloMosaic.θ_run_mono (Idealize.ShloMosaic.θ_run_and (Cert.EvenOddIdeal.RowValue.ran m g) (Cert.EvenOddIdeal.Gen.unchanged m g)) fun r h c => ?_
    obtain ⟨h0, h1, h2, h3, h4⟩ := h.1 c
    exact ⟨h0, h1, h2, h3, h4, h.2 c⟩
  · refine Idealize.ShloMosaic.θ_run_mono (Idealize.ShloMosaic.θ_run_and (Cert.EvenOddRefIdeal.RowValue.ran m' g') (Cert.EvenOddRefIdeal.Value.run m' g')) fun r h c => ?_
    obtain ⟨a0, a1, a2, a3, a4, a5, a6, a7, a8, a9, a10, a11⟩ := hagree c
    obtain ⟨h0, h1, h2, h3, h4⟩ := h.1 c
    obtain ⟨-, -, -, -, -, k⟩ := h.2 c
    rw [a0, a1, a2, a3] at h0
    rw [a0, a1, a2, a3, a4, a5, a6, a7, a10, a11] at h1
    rw [a0, a1, a2, a3, a4, a5, a8, a9, a10, a11] at h2
    rw [a0, a1, a2, a3, a4, a5, a8, a9] at h3
    rw [a0, a1, a2, a3, a4, a5] at h4
    exact ⟨h0, h1, h2, h3, h4, k⟩

end Cert.Proof

end
-- ==== Proof.EmbedRows.lean ====
/- The embedding call: the rows it builds, its payloads and its reference, row by row. -/
module

public import proofs.«01_k».proof.Defs
public import proofs.«01_k».proof.Proof.EmbedFrame
public import proofs.«01_k».proof.Proof.Gen.EmbedRefIdeal.Run
public import proofs.«01_k».proof.Proof.Gen.EmbedRefIdeal.Read
public import proofs.«01_k».proof.Proof.Rows
public import proofs.«01_k».proof.Proof.MidOut
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.EmbedIdeal.RowValue

open Cert.EmbedIdeal Cert.EmbedIdeal.Gen Cert.EmbedRefIdeal.Read Cert.Rows

variable (m : (ℓ : Loc nD τ sig) → Buf (Elt Ideal) ℓ)

/-- Row `q` of a padded batch row: first the meta tokens, then the inputs, then zeros. -/
def hrowOf (x : Vec Ideal S8x2048x1024 .f32) (e : Vec Ideal S16x1024 .f32) (b : Fin 8) (q : Nat) (l : Fin 1024) : EReal :=
  if h : q < 16 then e (ix2 ⟨q, h⟩ l) else if h' : q - 16 < 2048 then x (ix3 b ⟨q - 16, h'⟩ l) else 0

/-- The reference's padded rows. -/
theorem ref_h (x : Vec Ideal Cert.EmbedRefIdeal.S8x2048x1024 .f32) (e : Vec Ideal Cert.EmbedRefIdeal.S16x1024 .f32) (b : Fin 8) (q : Fin 2176)
    (l : Fin 1024) (R : Fin 17408) (hR : R.val = b.val * 2176 + q.val) :
    val_main_v4 (F := Ideal) x e (ix2 R l) = hrowOf x e b q.val l := by
  have h0 : R.val / 2176 = b.val := by omega
  have h1 : R.val % 2176 = q.val := by omega
  unfold hrowOf
  pointwise [val_main_v4, val_main_v3, val_main_v2, val_main_v1, val_main_v0, val_main_call0_v0, val_main_c]
  have hx : ∀ (b' : Fin 8) (s s' : Fin 2048), b' = b → s = s' → x (ix3 b' s l) = x (ix3 b s' l) := by
    rintro _ _ _ rfl rfl; rfl
  have hz : FloatOps.sitofp (F := Ideal) FTy.f32 0#32 = (0 : EReal) := by simp [FloatOps.sitofp]
  by_cases hq : q.val < 16
  · refine (dif_pos (c := R.val / 2176 < 8 ∧ R.val % 2176 < 2064) ⟨by omega, by omega⟩).trans ?_
    refine (dif_pos (c := R.val % 2176 < 16) (by omega)).trans ?_
    refine Eq.trans ?_ (dif_pos (c := q.val < 16) hq).symm
    exact congrArg (fun k => e (ix2 k l)) (Fin.ext h1)
  refine Eq.trans ?_ (dif_neg (c := q.val < 16) hq).symm
  by_cases hq' : q.val - 16 < 2048
  · refine (dif_pos (c := R.val / 2176 < 8 ∧ R.val % 2176 < 2064) ⟨by omega, by omega⟩).trans ?_
    refine (dif_neg (c := R.val % 2176 < 16) (by omega)).trans ?_
    refine Eq.trans ?_ (dif_pos (c := q.val - 16 < 2048) hq').symm
    exact hx _ _ _ (Fin.ext h0) (Fin.ext (congrArg (· - 16) h1))
  · refine (dif_neg (c := R.val / 2176 < 8 ∧ R.val % 2176 < 2064) (by omega)).trans ?_
    refine Eq.trans ?_ (dif_neg (c := q.val - 16 < 2048) hq').symm
    exact hz

/-- The first half's normalised row. -/
theorem pay10_row (h : Vec Ideal S272x1024 .f32) (f : Vec Ideal S1x1024 .f32) (r : Fin 272) (l : Fin 1024) :
    k0_pay10 (F := Ideal) h f (ix2 r l) = nrow (fun l => h (ix2 r l)) (f (ix2 0 l)) l := by
  pointwise [k0_pay10]
  rfl

/-- The second half's normalised row. -/
theorem pay19_row (h : Vec Ideal S272x1024 .f32) (f : Vec Ideal S1x1024 .f32) (r : Fin 272) (l : Fin 1024) :
    k0_pay19 (F := Ideal) h f (ix2 r l) = nrow (fun l => h (ix2 r l)) (f (ix2 0 l)) l := by
  pointwise [k0_pay19]
  rfl

/-- The reference's normalised row. -/
theorem ref_n (x : Vec Ideal Cert.EmbedRefIdeal.S8x2048x1024 .f32) (e : Vec Ideal Cert.EmbedRefIdeal.S16x1024 .f32)
    (f : Vec Ideal Cert.EmbedRefIdeal.S1024 .f32) (r : Fin 17408) (l : Fin 1024) :
    val_main_v17 (F := Ideal) x e f (ix2 r l) = nrow (fun l => val_main_v4 (F := Ideal) x e (ix2 r l)) (f (ix1 l)) l := by
  pointwise [val_main_v5, val_main_cst, val_main_v6, val_main_v7, val_main_cst_0, val_main_v8, val_main_v9, val_main_cst_1, val_main_v10, val_main_v11, val_main_v12, val_main_v13, val_main_v14, val_main_v15, val_main_v16, val_main_v17]
  rfl

/-- The prepared weights. -/
theorem w9 (c : Dev nD) : V m c main_v9 = (truncf (F := Ideal) .bf16 (Cert.MidIdeal.RowValue.side (m ((c : Thread nD τ).loc main_arg3))) bitsLt_bf16_f32 : Vec Ideal S1024x5248 .bf16) := by
  unfold V
  simp only [hostOps0, hostOps0_1, hostOps0_2, List.flatten_cons, List.flatten_nil, List.append_nil, List.cons_append, List.nil_append]
  generalize hf : (fun u : (k : Fin 7) → (![main_v0, main_v1, main_v2, main_v3, main_v4, main_v6, main_v7] k).ty.Contents (Elt Ideal) => (concatenate S1024x5248 1 [⟨S1024x1024, (u 0 : (⟨S1024x1024, .f32⟩ : BufTy).Contents (Elt Ideal))⟩, ⟨S1024x1024, (u 1 : (⟨S1024x1024, .f32⟩ : BufTy).Contents (Elt Ideal))⟩, ⟨S1024x512, (u 2 : (⟨S1024x512, .f32⟩ : BufTy).Contents (Elt Ideal))⟩, ⟨S1024x512, (u 3 : (⟨S1024x512, .f32⟩ : BufTy).Contents (Elt Ideal))⟩, ⟨S1024x1024, (u 4 : (⟨S1024x1024, .f32⟩ : BufTy).Contents (Elt Ideal))⟩, ⟨S1024x1024, (u 5 : (⟨S1024x1024, .f32⟩ : BufTy).Contents (Elt Ideal))⟩, ⟨S1024x128, (u 6 : (⟨S1024x128, .f32⟩ : BufTy).Contents (Elt Ideal))⟩] concatenates_S1024x1024_S1024x1024_S1024x512_S1024x512_S1024x1024_S1024x1024_S1024x128_S1024x5248_d1 : (⟨S1024x5248, .f32⟩ : BufTy).Contents (Elt Ideal))) = f
  entry_read
  subst hf
  rfl

/-- The norm's row, entry by entry. -/
theorem w10 (c : Dev nD) (l : Fin 1024) : V m c main_v10 (ix2 0 l) = m ((c : Thread nD τ).loc main_arg2) (ix1 l) := by
  unfold V
  simp only [hostOps0, hostOps0_1, hostOps0_2, List.flatten_cons, List.flatten_nil, List.append_nil, List.cons_append, List.nil_append]
  entry_read
  pointwise

/-- The inputs, all batch rows one under the other. -/
theorem w11 (c : Dev nD) (b : Fin 8) (s : Fin 2048) (l : Fin 1024) (R : Fin 16384) (hR : R.val = b.val * 2048 + s.val) :
    V m c main_v11 (ix2 R l) = m ((c : Thread nD τ).loc main_arg0) (ix3 b s l) := by
  have h0 : R.val / 2048 = b.val := by omega
  have h1 : R.val % 2048 = s.val := by omega
  unfold V
  simp only [hostOps0, hostOps0_1, hostOps0_2, List.flatten_cons, List.flatten_nil, List.append_nil, List.cons_append, List.nil_append]
  entry_read
  pointwise
  exact congrArg₂ (fun b s => m ((c : Thread nD τ).loc main_arg0) (ix3 b s l)) (Fin.ext h0) (Fin.ext h1)

/-- Where each window's block begins, at every grid point. -/
theorem idx : ∀ t : Fin cfg0.N,
    win0_0.index t = ![t.val / 4 * 2048 + min (t.val % 4 * 544 - 16) 1504, 0] ∧ win0_1.index t = ![0, 0] ∧ win0_2.index t = ![0, 0]
    ∧ win0_3.index t = ![0, 0] ∧ win0_4.index t = ![t.val, 0] ∧ win0_5.index t = ![t.val, 0]
    ∧ win0_6.index t = ![t.val, 0] ∧ win0_7.index t = ![t.val, 0] ∧ win0_8.index t = ![t.val, 0] ∧ win0_9.index t = ![t.val, 0]
    ∧ win0_10.index t = ![t.val, 0] ∧ win0_11.index t = ![t.val, 0] :=
  (by decide +kernel : ∀ t : Fin grid0.N, _)

/-- A row of the input block. -/
theorem ld0 (c : Dev nD) (t : Fin cfg0.N) (r : Fin 544) (l : Fin 1024) (b : Fin 8) (s : Fin 2048)
    (hb : b.val = t.val / 4) (hs : s.val = min (t.val % 4 * 544 - 16) 1504 + r.val) :
    iblk m c 0 t (ix2 r l) = m ((c : Thread nD τ).loc main_arg0) (ix3 b s l) := by
  refine Eq.trans (congrArg (V m c main_v11) (a₂ := ix2 ⟨b.val * 2048 + s.val, by omega⟩ l) ?_) (w11 m c b s l _ rfl)
  have e : ∀ (y : (win0_0.xblock (cfg0.grid.coords t)).Idx) (a : Fin 2),
      ((((View.whole main_v11).slice (win0_0.rect t)).emb y a : Fin _) : Nat) = win0_0.index t a + y a :=
    fun y a => ValueKit.view_emb_slice_whole_unit_val main_v11 (fun a => win0_0.index t a) (win0_0.xsize (cfg0.grid.coords t)) _ y a
  have h0 : win0_0.index t = ![t.val / 4 * 2048 + min (t.val % 4 * 544 - 16) 1504, 0] := (idx t).1
  funext a
  refine Fin.ext ((e _ a).trans ?_)
  rw [h0]
  fin_cases a
  · show t.val / 4 * 2048 + min (t.val % 4 * 544 - 16) 1504 + r.val = b.val * 2048 + s.val
    omega
  · show 0 + l.val = l.val
    omega

/-- The meta tokens. -/
theorem ld1 (c : Dev nD) (t : Fin cfg0.N) (r : Fin 16) (l : Fin 1024) :
    iblk m c 1 t (ix2 r l) = m ((c : Thread nD τ).loc main_arg1) (ix2 r l) := by
  blk_point [iblk, V, idx t]

/-- The norm's entries. -/
theorem ld2 (c : Dev nD) (t : Fin cfg0.N) (l : Fin 1024) :
    iblk m c 2 t (ix2 0 l) = m ((c : Thread nD τ).loc main_arg2) (ix1 l) := by
  refine Eq.trans (congrArg (V m c main_v10) ?_) (w10 m c l)
  blk_ext [idx t]

end Cert.EmbedIdeal.RowValue

end
-- ==== Proof.EmbedBlocks.lean ====
/- The embedding call: what one point of the grid leaves in each result block, as two halves of payloads over the padded rows it has built. -/
module

public import proofs.«01_k».proof.Proof.EmbedRows

@[expose] public section

set_option maxRecDepth 16384

noncomputable section

open Idealize.ShloMosaic Idealize.ShloMosaic.TcCoe Idealize.SL.Sem
open Idealize.ShloMosaic.Pipeline (Dat)

namespace Cert.EmbedIdeal.RowValue

open Cert.EmbedIdeal Cert.EmbedIdeal.Gen Cert.EmbedIdeal.Whole Cert.Rows

variable (m : (ℓ : Loc nD τ sig) → Buf (Elt Ideal) ℓ)

/-- The part of a block that a load through a rectangle gives. -/
abbrev part {S : Shape} {e : EltTy} (x : Vec Ideal S e) (r : Rect S) : Vec Ideal r.shape e := fun j => x (r.toLoadRect.idx j)

/-- A load through a whole block's view is a part of what the block holds. -/
theorem readAt_part {κ : Kind} {sp : Space} {S : Shape} {e : EltTy} {b : Memref sig κ sp S e} (h : b.IsWhole) (X : Vec Ideal S e) (r : Rect S) :
    View.readAt (Elt Ideal) b.view r.toLoadRect (h.unread (Val := Elt Ideal) X) = part X r := funext fun x => congrFun (Memref.IsWhole.read_unread h X) _

/-- The upper 272 rows of a block of padded rows. -/
abbrev upper (x : Vec Ideal S544x1024 .f32) : Vec Ideal S272x1024 .f32 := part x (Rect.unit ![0, 0] S272x1024.size inb_S544x1024_S272x1024_0_0)

/-- The lower 272 rows. -/
abbrev lower (x : Vec Ideal S544x1024 .f32) : Vec Ideal S272x1024 .f32 := part x (Rect.unit ![272, 0] S272x1024.size inb_S544x1024_S272x1024_272_0)

theorem upper_apply (x : Vec Ideal S544x1024 .f32) (r : Fin 272) (l : Fin 1024) : upper x (ix2 r l) = x (ix2 ⟨r.val, by omega⟩ l) := by
  refine congrArg x ?_
  funext a
  refine Fin.ext ?_
  fin_cases a
  · exact (Rect.idx_unit_val _ _ _ _ _).trans (Nat.zero_add _)
  · exact (Rect.idx_unit_val _ _ _ _ _).trans (Nat.zero_add _)

theorem lower_apply (x : Vec Ideal S544x1024 .f32) (r : Fin 272) (l : Fin 1024) : lower x (ix2 r l) = x (ix2 ⟨272 + r.val, by omega⟩ l) := by
  refine congrArg x ?_
  funext a
  refine Fin.ext ?_
  fin_cases a
  · exact (Rect.idx_unit_val _ _ _ _ _)
  · exact (Rect.idx_unit_val _ _ _ _ _).trans (Nat.zero_add _)

/-- A block of 1024 columns from its upper and its lower half. -/
def halves (a b : Vec Ideal S272x1024 .bf16) : Vec Ideal S544x1024 .bf16 :=
  View.canon (Val := Elt Ideal) [⟨Rect.unit ![272, 0] S272x1024.size inb_S544x1024_S272x1024_272_0, b⟩, ⟨Rect.unit ![0, 0] S272x1024.size inb_S544x1024_S272x1024_0_0, a⟩]

/-- The same of 512 columns, -/
def halves512 (a b : Vec Ideal S272x512 .bf16) : Vec Ideal S544x512 .bf16 :=
  View.canon (Val := Elt Ideal) [⟨Rect.unit ![272, 0] S272x512.size inb_S544x512_S272x512_272_0, b⟩, ⟨Rect.unit ![0, 0] S272x512.size inb_S544x512_S272x512_0_0, a⟩]

/-- and of 128. -/
def halves128 (a b : Vec Ideal S272x128 .bf16) : Vec Ideal S544x128 .bf16 :=
  View.canon (Val := Elt Ideal) [⟨Rect.unit ![272, 0] S272x128.size inb_S544x128_S272x128_272_0, b⟩, ⟨Rect.unit ![0, 0] S272x128.size inb_S544x128_S272x128_0_0, a⟩]

/-- The norm's row as the body loads it. -/
abbrev gRow (c : Dev nD) (t : Fin cfg0.N) : Vec Ideal S1x1024 .f32 := part (iblk m c 2 t : Vec Ideal S1x1024 .f32) (Rect.unit ![0, 0] S1x1024.size inb_S1x1024_S1x1024_0_0)

/-- The weights' block. -/
abbrev wBlk (c : Dev nD) (t : Fin cfg0.N) : Vec Ideal S1024x5248 .bf16 := iblk m c 3 t

theorem at_A (c : Dev nD) (t : Fin cfg0.N) (h : t.val % 4 = 0) : runAt m c t = runA m c t h := dif_pos h
theorem at_B (c : Dev nD) (t : Fin cfg0.N) (h : t.val % 4 = 1) : runAt m c t = runB m c t h := by
  unfold runAt; rw [dif_neg (by omega), dif_pos h]
theorem at_C (c : Dev nD) (t : Fin cfg0.N) (h : t.val % 4 = 2) : runAt m c t = runC m c t h := by
  unfold runAt; rw [dif_neg (by omega), dif_neg (by omega), dif_pos h]
theorem at_D (c : Dev nD) (t : Fin cfg0.N) (h : t.val % 4 = 3) : runAt m c t = runD m c t h := by
  unfold runAt; rw [dif_neg (by omega), dif_neg (by omega), dif_neg (by omega)]

theorem four (t : Fin cfg0.N) : t.val % 4 = 0 ∨ t.val % 4 = 1 ∨ t.val % 4 = 2 ∨ t.val % 4 = 3 := by omega

/-- The padded rows of a tile that is first in its batch row: the meta tokens, then inputs; -/
def padA (x : Vec Ideal S544x1024 .f32) (e : Vec Ideal S16x1024 .f32) : Vec Ideal S544x1024 .f32 :=
  View.canon (Val := Elt Ideal) (s := S544x1024) [⟨(Rect.unit (s := S544x1024) ![16, 0] S528x1024.size inb_S544x1024_S528x1024_16_0), k0_pay5 (part x (Rect.unit (s := S544x1024) ![0, 0] S528x1024.size inb_S544x1024_S528x1024_0_0))⟩,
    ⟨(Rect.unit (s := S544x1024) ![0, 0] S16x1024.size inb_S544x1024_S16x1024_0_0), part e (Rect.unit (s := S16x1024) ![0, 0] S16x1024.size inb_S16x1024_S16x1024_0_0)⟩]

/-- of the second tile: inputs; -/
def padB (x : Vec Ideal S544x1024 .f32) : Vec Ideal S544x1024 .f32 :=
  View.canon (Val := Elt Ideal) (s := S544x1024) [⟨(Rect.unit (s := S544x1024) ![0, 0] S544x1024.size inb_S544x1024_S544x1024_0_0), k0_pay6 (part x (Rect.unit (s := S544x1024) ![0, 0] S544x1024.size inb_S544x1024_S544x1024_0_0))⟩]

/-- of the third: inputs; -/
def padC (x : Vec Ideal S544x1024 .f32) : Vec Ideal S544x1024 .f32 :=
  View.canon (Val := Elt Ideal) (s := S544x1024) [⟨(Rect.unit (s := S544x1024) ![0, 0] S544x1024.size inb_S544x1024_S544x1024_0_0), k0_pay7 (part x (Rect.unit (s := S544x1024) ![0, 0] S544x1024.size inb_S544x1024_S544x1024_0_0))⟩]

/-- of the last: the rest of the inputs, then zeros. -/
def padD (x : Vec Ideal S544x1024 .f32) : Vec Ideal S544x1024 .f32 :=
  View.canon (Val := Elt Ideal) (s := S544x1024) [⟨(Rect.unit (s := S544x1024) ![432, 0] S112x1024.size inb_S544x1024_S112x1024_432_0), k0_pay9 (F := Ideal)⟩,
    ⟨(Rect.unit (s := S544x1024) ![0, 0] S432x1024.size inb_S544x1024_S432x1024_0_0), k0_pay8 (part x (Rect.unit (s := S544x1024) ![112, 0] S432x1024.size inb_S544x1024_S432x1024_112_0))⟩]

/-- What a tile leaves in window 5, of its padded rows, the norm's row and the window's columns of the weights. -/
def out5 (x : Vec Ideal S544x1024 .f32) (g : Vec Ideal S1x1024 .f32) (w : Vec Ideal S1024x1024 .bf16) : Vec Ideal S544x1024 .bf16 :=
  halves (k0_pay11 (upper x) g w) (k0_pay20 (lower x) g w)

/-- What a tile leaves in window 6, of its padded rows, the norm's row and the window's columns of the weights. -/
def out6 (x : Vec Ideal S544x1024 .f32) (g : Vec Ideal S1x1024 .f32) (w : Vec Ideal S1024x1024 .bf16) : Vec Ideal S544x1024 .bf16 :=
  halves (k0_pay12 (k0_pay10 (upper x) g) w) (k0_pay21 (lower x) g w)

/-- What a tile leaves in window 7, of its padded rows, the norm's row and the window's columns of the weights. -/
def out7 (x : Vec Ideal S544x1024 .f32) (g : Vec Ideal S1x1024 .f32) (w : Vec Ideal S1024x512 .bf16) : Vec Ideal S544x512 .bf16 :=
  halves512 (k0_pay13 (k0_pay10 (upper x) g) w) (k0_pay22 (lower x) g w)

/-- What a tile leaves in window 8, of its padded rows, the norm's row and the window's columns of the weights. -/
def out8 (x : Vec Ideal S544x1024 .f32) (g : Vec Ideal S1x1024 .f32) (w : Vec Ideal S1024x512 .bf16) : Vec Ideal S544x512 .bf16 :=
  halves512 (k0_pay14 (k0_pay10 (upper x) g) w) (k0_pay1 (k0_pay19 (lower x) g) w)

/-- What a tile leaves in window 9, of its padded rows, the norm's row and the window's columns of the weights. -/
def out9 (x : Vec Ideal S544x1024 .f32) (g : Vec Ideal S1x1024 .f32) (w : Vec Ideal S1024x1024 .bf16) : Vec Ideal S544x1024 .bf16 :=
  halves (k0_pay15 (k0_pay10 (upper x) g) w) (k0_pay2 (k0_pay19 (lower x) g) w)

/-- What a tile leaves in window 10, of its padded rows, the norm's row and the window's columns of the weights. -/
def out10 (x : Vec Ideal S544x1024 .f32) (g : Vec Ideal S1x1024 .f32) (w : Vec Ideal S1024x1024 .bf16) : Vec Ideal S544x1024 .bf16 :=
  halves (k0_pay16 (k0_pay10 (upper x) g) w) (k0_pay3 (k0_pay19 (lower x) g) w)

/-- What a tile leaves in window 11, of its padded rows, the norm's row and the window's columns of the weights. -/
def out11 (x : Vec Ideal S544x1024 .f32) (g : Vec Ideal S1x1024 .f32) (w : Vec Ideal S1024x128 .bf16) : Vec Ideal S544x128 .bf16 :=
  halves128 (k0_pay18 (k0_pay10 (upper x) g) (k0_pay17 w)) (k0_pay4 (k0_pay19 (lower x) g) w)

/-- The weights' columns for window 5. -/
abbrev cols5 (c : Dev nD) (t : Fin cfg0.N) : Vec Ideal S1024x1024 .bf16 := part (wBlk m c t) (Rect.unit ![0, 0] S1024x1024.size inb_S1024x5248_S1024x1024_0_0)

/-- The weights' columns for window 6. -/
abbrev cols6 (c : Dev nD) (t : Fin cfg0.N) : Vec Ideal S1024x1024 .bf16 := part (wBlk m c t) (Rect.unit ![0, 1024] S1024x1024.size inb_S1024x5248_S1024x1024_0_1024)

/-- The weights' columns for window 7. -/
abbrev cols7 (c : Dev nD) (t : Fin cfg0.N) : Vec Ideal S1024x512 .bf16 := part (wBlk m c t) (Rect.unit ![0, 2048] S1024x512.size inb_S1024x5248_S1024x512_0_2048)

/-- The weights' columns for window 8. -/
abbrev cols8 (c : Dev nD) (t : Fin cfg0.N) : Vec Ideal S1024x512 .bf16 := part (wBlk m c t) (Rect.unit ![0, 2560] S1024x512.size inb_S1024x5248_S1024x512_0_2560)

/-- The weights' columns for window 9. -/
abbrev cols9 (c : Dev nD) (t : Fin cfg0.N) : Vec Ideal S1024x1024 .bf16 := part (wBlk m c t) (Rect.unit ![0, 3072] S1024x1024.size inb_S1024x5248_S1024x1024_0_3072)

/-- The weights' columns for window 10. -/
abbrev cols10 (c : Dev nD) (t : Fin cfg0.N) : Vec Ideal S1024x1024 .bf16 := part (wBlk m c t) (Rect.unit ![0, 4096] S1024x1024.size inb_S1024x5248_S1024x1024_0_4096)

/-- The weights' columns for window 11. -/
abbrev cols11 (c : Dev nD) (t : Fin cfg0.N) : Vec Ideal S1024x128 .bf16 := part (wBlk m c t) (Rect.unit ![0, 5120] S1024x128.size inb_S1024x5248_S1024x128_0_5120)

/-- What a tile leaves in its eight windows, of its padded rows. -/
def Leaves (c : Dev nD) (t : Fin cfg0.N) (x : Vec Ideal S544x1024 .f32) : Prop :=
  after4 m c t = x ∧ after5 m c t = out5 x (gRow m c t) (cols5 m c t)
    ∧ after6 m c t = out6 x (gRow m c t) (cols6 m c t)
    ∧ after7 m c t = out7 x (gRow m c t) (cols7 m c t)
    ∧ after8 m c t = out8 x (gRow m c t) (cols8 m c t)
    ∧ after9 m c t = out9 x (gRow m c t) (cols9 m c t)
    ∧ after10 m c t = out10 x (gRow m c t) (cols10 m c t)
    ∧ after11 m c t = out11 x (gRow m c t) (cols11 m c t)

theorem leaves_A (c : Dev nD) (t : Fin cfg0.N) (h : t.val % 4 = 0) : Leaves m c t (padA (iblk m c 0 t) (iblk m c 1 t)) := by
  unfold Leaves after4 after5 after6 after7 after8 after9 after10 after11
  rw [at_A m c t h]
  unfold runA
  dsimp only
  frame_open
  refine ⟨?_, ?_, ?_, ?_, ?_, ?_, ?_, ?_⟩
  all_goals simp only [out5, out6, out7, out8, out9, out10, out11, halves, halves512, halves128, padA, View.read_writes_junk_eq_canon, View.readCov_eq_canon', readAt_part]
  all_goals rfl

theorem leaves_B (c : Dev nD) (t : Fin cfg0.N) (h : t.val % 4 = 1) : Leaves m c t (padB (iblk m c 0 t)) := by
  unfold Leaves after4 after5 after6 after7 after8 after9 after10 after11
  rw [at_B m c t h]
  unfold runB
  dsimp only
  frame_open
  refine ⟨?_, ?_, ?_, ?_, ?_, ?_, ?_, ?_⟩
  all_goals simp only [out5, out6, out7, out8, out9, out10, out11, halves, halves512, halves128, padB, View.read_writes_junk_eq_canon, View.readCov_eq_canon', readAt_part]
  all_goals rfl

theorem leaves_C (c : Dev nD) (t : Fin cfg0.N) (h : t.val % 4 = 2) : Leaves m c t (padC (iblk m c 0 t)) := by
  unfold Leaves after4 after5 after6 after7 after8 after9 after10 after11
  rw [at_C m c t h]
  unfold runC
  dsimp only
  frame_open
  refine ⟨?_, ?_, ?_, ?_, ?_, ?_, ?_, ?_⟩
  all_goals simp only [out5, out6, out7, out8, out9, out10, out11, halves, halves512, halves128, padC, View.read_writes_junk_eq_canon, View.readCov_eq_canon', readAt_part]
  all_goals rfl

theorem leaves_D (c : Dev nD) (t : Fin cfg0.N) (h : t.val % 4 = 3) : Leaves m c t (padD (iblk m c 0 t)) := by
  unfold Leaves after4 after5 after6 after7 after8 after9 after10 after11
  rw [at_D m c t h]
  unfold runD
  dsimp only
  frame_open
  refine ⟨?_, ?_, ?_, ?_, ?_, ?_, ?_, ?_⟩
  all_goals simp only [out5, out6, out7, out8, out9, out10, out11, halves, halves512, halves128, padD, View.read_writes_junk_eq_canon, View.readCov_eq_canon', readAt_part]
  all_goals rfl

/-- Whatever tile it is, its blocks are those of the rows it has padded. -/
theorem leaves (c : Dev nD) (t : Fin cfg0.N) : Leaves m c t (after4 m c t) := by
  rcases four t with h | h | h | h
  · exact (leaves_A m c t h).1 ▸ leaves_A m c t h
  · exact (leaves_B m c t h).1 ▸ leaves_B m c t h
  · exact (leaves_C m c t h).1 ▸ leaves_C m c t h
  · exact (leaves_D m c t h).1 ▸ leaves_D m c t h

end Cert.EmbedIdeal.RowValue

end
-- ==== Proof.EmbedOut.lean ====
/- The embedding call: what each array holds when the run is over. -/
module

public import proofs.«01_k».proof.Proof.EmbedBlocks

@[expose] public section

set_option maxRecDepth 16384

noncomputable section

open Idealize.ShloMosaic Idealize.ShloMosaic.TcCoe Idealize.SL.Sem
open Idealize.ShloMosaic.Pipeline (Dat)

namespace Cert.EmbedIdeal.RowValue

open Cert.EmbedIdeal Cert.EmbedIdeal.Gen Cert.EmbedIdeal.Whole Cert.EmbedRefIdeal.Read Cert.Rows
open Cert.MidIdeal.RowValue (idx_of side side0 side1 side2 side3 side4 side5 side6 zero_cast)

variable (m : (ℓ : Loc nD τ sig) → Buf (Elt Ideal) ℓ)

/-- An entry of the product of normalised rows and weights. -/
def prod {n : Nat} (x : Vec Ideal S544x1024 .f32) (g : Vec Ideal S1x1024 .f32) (w : Vec Ideal ⟨2, ![1024, n]⟩ .bf16) (q : Fin 544) (l : Fin n) : EReal :=
  ∑ k : Fin 1024, nrow (fun l => x (ix2 q l)) (g (ix2 0 k)) k * w (ix2 k l)

/-- A normalised row of the upper half, whatever it is multiplied with; -/
theorem upper_sum (x : Vec Ideal S544x1024 .f32) (g : Vec Ideal S1x1024 .f32) (w : Fin 1024 → EReal) (r : Fin 272) (q : Fin 544) (hq : q.val = r.val) :
    ∑ k : Fin 1024, k0_pay10 (F := Ideal) (upper x) g (ix2 r k) * w k = ∑ k : Fin 1024, nrow (fun l => x (ix2 q l)) (g (ix2 0 k)) k * w k := by
  have hr : r.val < 544 := r.isLt.trans (by decide)
  obtain rfl : q = ⟨r.val, hr⟩ := Fin.ext hq
  refine Finset.sum_congr rfl fun k _ => congrArg (· * w k) ((pay10_row _ g r k).trans ?_)
  exact congrArg (fun f => nrow f (g (ix2 0 k)) k) (funext fun l => upper_apply x r l)

/-- and of the lower half. -/
theorem lower_sum (x : Vec Ideal S544x1024 .f32) (g : Vec Ideal S1x1024 .f32) (w : Fin 1024 → EReal) (r : Fin 272) (q : Fin 544) (hq : q.val = 272 + r.val) :
    ∑ k : Fin 1024, k0_pay19 (F := Ideal) (lower x) g (ix2 r k) * w k = ∑ k : Fin 1024, nrow (fun l => x (ix2 q l)) (g (ix2 0 k)) k * w k := by
  have hr : 272 + r.val < 544 := Nat.add_lt_add_left r.isLt 272
  obtain rfl : q = ⟨272 + r.val, hr⟩ := Fin.ext hq
  refine Finset.sum_congr rfl fun k _ => congrArg (· * w k) ((pay19_row _ g r k).trans ?_)
  exact congrArg (fun f => nrow f (g (ix2 0 k)) k) (funext fun l => lower_apply x r l)

/-- A product with 1024 columns, element by element, and the block of its two halves; -/
theorem dot1024 (a : FVec Ideal S272x1024 .bf16) (b : Vec Ideal S1024x1024 .bf16) (r : Fin 272) (l : Fin 1024) :
    k0_pay15 (F := Ideal) a b (ix2 r l) = ∑ k : Fin 1024, a (ix2 r k) * b (ix2 k l) := by
  pointwise [k0_pay15]

theorem rows1024 (x : Vec Ideal S544x1024 .f32) (g : Vec Ideal S1x1024 .f32) (w : Vec Ideal S1024x1024 .bf16) (y : S544x1024.Idx) :
    halves (k0_pay15 (k0_pay10 (upper x) g) w) (k0_pay15 (k0_pay19 (lower x) g) w) y = prod x g w (y 0) (y 1) := by
  unfold halves
  canon_tiles z h
  all_goals rw [Idealize.ShloMosaic.eq_ix2 z]
  · exact (dot1024 _ w _ _).trans ((lower_sum x g _ (z 0) (y 0) h0).trans (congrArg (prod x g w (y 0)) (Fin.ext (by omega))))
  · exact (dot1024 _ w _ _).trans ((upper_sum x g _ (z 0) (y 0) (by omega)).trans (congrArg (prod x g w (y 0)) (Fin.ext (by omega))))

/-- with 512 columns; -/
theorem dot512 (a : FVec Ideal S272x1024 .bf16) (b : Vec Ideal S1024x512 .bf16) (r : Fin 272) (l : Fin 512) :
    k0_pay14 (F := Ideal) a b (ix2 r l) = ∑ k : Fin 1024, a (ix2 r k) * b (ix2 k l) := by
  pointwise [k0_pay14]

theorem rows512 (x : Vec Ideal S544x1024 .f32) (g : Vec Ideal S1x1024 .f32) (w : Vec Ideal S1024x512 .bf16) (y : S544x512.Idx) :
    halves512 (k0_pay14 (k0_pay10 (upper x) g) w) (k0_pay14 (k0_pay19 (lower x) g) w) y = prod x g w (y 0) (y 1) := by
  unfold halves512
  canon_tiles z h
  all_goals rw [Idealize.ShloMosaic.eq_ix2 z]
  · exact (dot512 _ w _ _).trans ((lower_sum x g _ (z 0) (y 0) h0).trans (congrArg (prod x g w (y 0)) (Fin.ext (by omega))))
  · exact (dot512 _ w _ _).trans ((upper_sum x g _ (z 0) (y 0) (by omega)).trans (congrArg (prod x g w (y 0)) (Fin.ext (by omega))))

/-- and with 128. -/
theorem dot128 (a : FVec Ideal S272x1024 .bf16) (b : Vec Ideal S1024x128 .bf16) (r : Fin 272) (l : Fin 128) :
    k0_pay4 (F := Ideal) a b (ix2 r l) = ∑ k : Fin 1024, a (ix2 r k) * b (ix2 k l) := by
  pointwise [k0_pay4]

theorem rows128 (x : Vec Ideal S544x1024 .f32) (g : Vec Ideal S1x1024 .f32) (w : Vec Ideal S1024x128 .bf16) (y : S544x128.Idx) :
    halves128 (k0_pay4 (k0_pay10 (upper x) g) w) (k0_pay4 (k0_pay19 (lower x) g) w) y = prod x g w (y 0) (y 1) := by
  unfold halves128
  canon_tiles z h
  all_goals rw [Idealize.ShloMosaic.eq_ix2 z]
  · exact (dot128 _ w _ _).trans ((lower_sum x g _ (z 0) (y 0) h0).trans (congrArg (prod x g w (y 0)) (Fin.ext (by omega))))
  · exact (dot128 _ w _ _).trans ((upper_sum x g _ (z 0) (y 0) (by omega)).trans (congrArg (prod x g w (y 0)) (Fin.ext (by omega))))

/-- An entry of a part of a block is the entry as far in from the part's corner. -/
theorem part_at {n n' k k' : Nat} {e : EltTy} (x : Vec Ideal ⟨2, ![n, n']⟩ e) (o p : Nat)
    (inb : ∀ a, (![o, p] : Fin 2 → Nat) a + (![k, k'] : Fin 2 → Nat) a ≤ (⟨2, ![n, n']⟩ : Shape).size a) (r : Fin k) (l : Fin k') (R : Fin n) (L : Fin n')
    (hR : R.val = o + r.val) (hL : L.val = p + l.val) :
    part x (Rect.unit (s := ⟨2, ![n, n']⟩) ![o, p] ![k, k'] inb) (ix2 r l) = x (ix2 R L) := by
  refine congrArg x ?_
  funext a
  refine Fin.ext ?_
  fin_cases a
  · exact (Rect.idx_unit_val _ _ _ _ _).trans hR.symm
  · exact (Rect.idx_unit_val _ _ _ _ _).trans hL.symm

/-- A padded row among the first sixteen is a meta token, -/
theorem hrow_meta (x : Vec Ideal S8x2048x1024 .f32) (e : Vec Ideal S16x1024 .f32) (b : Fin 8) (q : Nat) (l : Fin 1024) (r : Fin 16) (h : q = r.val) :
    e (ix2 r l) = hrowOf x e b q l := by
  subst h
  refine Eq.trans ?_ (dif_pos (c := r.val < 16) r.isLt).symm
  rfl

/-- one after them an input, -/
theorem hrow_in (x : Vec Ideal S8x2048x1024 .f32) (e : Vec Ideal S16x1024 .f32) (b : Fin 8) (q : Nat) (l : Fin 1024) (s : Fin 2048) (h : q = 16 + s.val) :
    x (ix3 b s l) = hrowOf x e b q l := by
  subst h
  have h1 : ¬ 16 + s.val < 16 := by omega
  have h2 : 16 + s.val - 16 < 2048 := by omega
  refine Eq.trans ?_ ((dif_neg h1).trans (dif_pos h2)).symm
  exact congrArg (fun s => x (ix3 b s l)) (Fin.ext (by simp))

/-- and one after those zero. -/
theorem hrow_zero (x : Vec Ideal S8x2048x1024 .f32) (e : Vec Ideal S16x1024 .f32) (b : Fin 8) (q : Nat) (l : Fin 1024) (h : 2064 ≤ q) :
    0 = hrowOf x e b q l :=
  ((dif_neg (by omega : ¬ q < 16)).trans (dif_neg (by omega : ¬ q - 16 < 2048))).symm

/-- The inputs and the meta tokens of a memory. -/
abbrev A0 (c : Dev nD) : Vec Ideal S8x2048x1024 .f32 := m ((c : Thread nD τ).loc main_arg0)
abbrev A1 (c : Dev nD) : Vec Ideal S16x1024 .f32 := m ((c : Thread nD τ).loc main_arg1)
abbrev A2 (c : Dev nD) : Vec Ideal S1024 .f32 := m ((c : Thread nD τ).loc main_arg2)
abbrev A3 (c : Dev nD) : Vec Ideal S1024x5136 .f32 := m ((c : Thread nD τ).loc main_arg3)

/-- The payloads that carry rows over carry them over as they are. -/
theorem carry (u : Vec Ideal S528x1024 .f32) (v w : Vec Ideal S544x1024 .f32) (z : Vec Ideal S432x1024 .f32) :
    (∀ r l, k0_pay5 (F := Ideal) u (ix2 r l) = u (ix2 r l)) ∧ (∀ r l, k0_pay6 (F := Ideal) v (ix2 r l) = v (ix2 r l))
    ∧ (∀ r l, k0_pay7 (F := Ideal) w (ix2 r l) = w (ix2 r l)) ∧ (∀ r l, k0_pay8 (F := Ideal) z (ix2 r l) = z (ix2 r l)) := by
  refine ⟨fun r l => ?_, fun r l => ?_, fun r l => ?_, fun r l => ?_⟩
  · pointwise [k0_pay5]
  · pointwise [k0_pay6]
  · pointwise [k0_pay7]
  · pointwise [k0_pay8]

/-- A row of the part of the input block a tile carries over: `o` rows into the block, and `d` rows into the padded tile. -/
theorem input_row {n : Nat} (c : Dev nD) (t : Fin cfg0.N) (b : Fin 8) (hb : b.val = t.val / 4) (o d : Nat)
    (inb : ∀ a, (![o, 0] : Fin 2 → Nat) a + (![n, 1024] : Fin 2 → Nat) a ≤ S544x1024.size a) (r : Fin n) (l : Fin 1024) (q : Nat)
    (hq : q = d + r.val) (hs : min (t.val % 4 * 544 - 16) 1504 + o + 16 = t.val % 4 * 544 + d) (hn : min (t.val % 4 * 544 - 16) 1504 + o + n ≤ 2048) (ho : o + n ≤ 544) :
    part (iblk m c 0 t : Vec Ideal S544x1024 .f32) (Rect.unit (s := S544x1024) ![o, 0] ![n, 1024] inb) (ix2 r l)
      = hrowOf (A0 m c) (A1 m c) b (t.val % 4 * 544 + q) l := by
  have hr : o + r.val < 544 := lt_of_lt_of_le (Nat.add_lt_add_left r.isLt o) ho
  have hs' : min (t.val % 4 * 544 - 16) 1504 + (o + r.val) < 2048 := by have := r.isLt; omega
  refine (part_at _ o 0 inb r l ⟨o + r.val, hr⟩ l rfl (Nat.zero_add _).symm).trans ?_
  refine (ld0 m c t ⟨o + r.val, hr⟩ l b ⟨_, hs'⟩ hb rfl).trans (hrow_in _ _ b _ l _ ?_)
  show t.val % 4 * 544 + q = 16 + (min (t.val % 4 * 544 - 16) 1504 + (o + r.val))
  omega

/-- The rows a tile pads are those of its batch row. -/
theorem padded (c : Dev nD) (t : Fin cfg0.N) (y : S544x1024.Idx) (b : Fin 8) (hb : b.val = t.val / 4) :
    after4 m c t y = hrowOf (A0 m c) (A1 m c) b (t.val % 4 * 544 + (y 0).val) (y 1) := by
  rcases four t with k | k | k | k
  · rw [(leaves_A m c t k).1]
    unfold padA
    canon_tiles x h using (View.cover_of_tiledBy (s := S544x1024) _ ![16, 1024] (by sl_kernel_rfl) y)
    all_goals rw [Idealize.ShloMosaic.eq_ix2 x, show y 1 = x 1 from Fin.ext (by omega)]
    · refine ((carry _ (fun _ => 0) (fun _ => 0) (fun _ => 0)).1 _ _).trans (input_row m c t b hb 0 16 _ _ _ _ h0 (by omega) (by omega) (by omega))
    · refine (part_at _ 0 0 _ (x 0) (x 1) (x 0) (x 1) (Nat.zero_add _).symm (Nat.zero_add _).symm).trans ((ld1 m c t (x 0) (x 1)).trans (hrow_meta _ _ b _ _ _ ?_))
      omega
  · rw [(leaves_B m c t k).1]
    unfold padB
    canon_tiles x h
    all_goals rw [Idealize.ShloMosaic.eq_ix2 x, show y 1 = x 1 from Fin.ext (by omega)]
    exact ((carry (fun _ => 0) _ (fun _ => 0) (fun _ => 0)).2.1 _ _).trans (input_row m c t b hb 0 0 _ _ _ _ (by omega) (by omega) (by omega) (by omega))
  · rw [(leaves_C m c t k).1]
    unfold padC
    canon_tiles x h
    all_goals rw [Idealize.ShloMosaic.eq_ix2 x, show y 1 = x 1 from Fin.ext (by omega)]
    exact ((carry (fun _ => 0) (fun _ => 0) _ (fun _ => 0)).2.2.1 _ _).trans (input_row m c t b hb 0 0 _ _ _ _ (by omega) (by omega) (by omega) (by omega))
  · rw [(leaves_D m c t k).1]
    unfold padD
    canon_tiles x h using (View.cover_of_tiledBy (s := S544x1024) _ ![16, 1024] (by sl_kernel_rfl) y)
    all_goals rw [Idealize.ShloMosaic.eq_ix2 x, show y 1 = x 1 from Fin.ext (by omega)]
    · refine Eq.trans ?_ (hrow_zero _ _ b _ _ (by omega))
      pointwise [k0_pay9]
    · exact ((carry (fun _ => 0) (fun _ => 0) (fun _ => 0) _).2.2.2 _ _).trans (input_row m c t b hb 112 0 _ _ _ _ (by omega) (by omega) (by omega) (by omega))

/-- The row of the whole array a tile's row is. -/
theorem row_of (c : Dev nD) (t : Fin cfg0.N) (q : Fin 544) (R : Fin 17408) (hR : R.val = t.val * 544 + q.val) (l : Fin 1024) :
    after4 m c t (ix2 q l) = val_main_v4 (F := Ideal) (A0 m c) (A1 m c) (ix2 R l) := by
  have hb : t.val / 4 < 8 := by omega
  have hq : t.val % 4 * 544 + q.val < 2176 := by omega
  exact (padded m c t (ix2 q l) ⟨t.val / 4, hb⟩ rfl).trans (ref_h _ _ ⟨t.val / 4, hb⟩ ⟨t.val % 4 * 544 + q.val, hq⟩ l R (by show R.val = t.val / 4 * 2176 + (t.val % 4 * 544 + q.val); omega)).symm

/-- A product over a tile's row is the reference's over the array's row. -/
theorem prod_of {n : Nat} (c : Dev nD) (t : Fin cfg0.N) (w : Vec Ideal ⟨2, ![1024, n]⟩ .bf16) (q : Fin 544) (R : Fin 17408) (hR : R.val = t.val * 544 + q.val)
    (l : Fin n) (v : Fin 1024 → EReal) (hw : ∀ k, w (ix2 k l) = v k) :
    prod (after4 m c t) (gRow m c t) w q l = ∑ k : Fin 1024, val_main_v17 (F := Ideal) (A0 m c) (A1 m c) (A2 m c) (ix2 R k) * v k := by
  refine Finset.sum_congr rfl fun k _ => congrArg₂ (· * ·) (Eq.trans ?_ (ref_n _ _ _ R k).symm) (hw k)
  refine congrArg₂ (fun f g => nrow f g k) (funext fun l => row_of m c t q R hR l) ?_
  exact (part_at _ 0 0 _ 0 k 0 k rfl (Nat.zero_add _).symm).trans (ld2 m c t k)

/-- The weights' block is the prepared weights. -/
theorem wBlk_at (c : Dev nD) (t : Fin cfg0.N) (k : Fin 1024) (l : Fin 5248) : wBlk m c t (ix2 k l) = side (A3 m c) (ix2 k l) := by
  refine Eq.trans (congrArg (V m c main_v9) (a₂ := ix2 k l) ?_) (congrFun (w9 m c) _)
  blk_ext [idx t]

/-- Window 4: the padded rows after the run. -/
theorem final4 (c : Dev nD) : (dats m 0 c).arrAt 4 (cfgs 0).N = val_main_v4 (F := Ideal) (A0 m c) (A1 m c) := by
  refine (dats m 0 c).arrAt_eq_of_covers 4 _ (by decide +kernel) fun t _ y => ?_
  have e0 : ((((cfg0.win 4).blk t).view.emb y 0 : Fin _) : Nat) = t.val * 544 + (y 0).val := by blk_simp [idx t]
  have e1 : ((((cfg0.win 4).blk t).view.emb y 1 : Fin _) : Nat) = (y 1).val := by blk_simp [idx t]
  blk_simp
  refine Eq.trans ?_ (congrArg (val_main_v4 (F := Ideal) (A0 m c) (A1 m c)) (idx_of _ _ (y 1) rfl e1)).symm
  exact (congrArg (after4 m c t) (Idealize.ShloMosaic.eq_ix2 y)).trans (row_of m c t (y 0) _ e0 (y 1))

/-- Window 5: the reference's columns, element by element, -/
theorem ref5 (x : Vec Ideal Cert.EmbedRefIdeal.S8x2048x1024 .f32) (e : Vec Ideal Cert.EmbedRefIdeal.S16x1024 .f32)
    (f : Vec Ideal Cert.EmbedRefIdeal.S1024 .f32) (w : Vec Ideal Cert.EmbedRefIdeal.S1024x5136 .f32) (r : Fin 17408) (l : Fin 1024) :
    val_main_v27 (F := Ideal) x e f w (ix2 r l) = ∑ k : Fin 1024, val_main_v17 (F := Ideal) x e f (ix2 r k) * w (ix2 k ⟨0 + l.val, by omega⟩) := by
  pointwise [val_main_v27, val_main_v19, val_main_v18]

/-- what a tile leaves, -/
theorem point5 (c : Dev nD) (t : Fin cfg0.N) (y : S544x1024.Idx) (j : S17408x1024.Idx) (h0 : (j 0 : Nat) = t.val * 544 + (y 0).val) (h1 : (j 1 : Nat) = (y 1).val) :
    after5 m c t y = val_main_v27 (F := Ideal) (A0 m c) (A1 m c) (A2 m c) (A3 m c) j := by
  obtain ⟨-, e, -⟩ := leaves m c t
  refine Eq.trans ?_ ((congrArg (val_main_v27 (F := Ideal) (A0 m c) (A1 m c) (A2 m c) (A3 m c)) (idx_of j (j 0) (y 1) rfl h1)).trans (ref5 _ _ _ _ (j 0) (y 1))).symm
  refine (congrFun e y).trans ((rows1024 _ _ _ y).trans (prod_of m c t _ (y 0) _ h0 (y 1) _ fun k => ?_))
  exact (part_at _ 0 0 _ k (y 1) k _ (Nat.zero_add _).symm rfl).trans ((wBlk_at m c t k _).trans (side0 _ k (y 1)))

/-- and the array after the run. -/
theorem final5 (c : Dev nD) : (dats m 0 c).arrAt 5 (cfgs 0).N = val_main_v27 (F := Ideal) (A0 m c) (A1 m c) (A2 m c) (A3 m c) := by
  refine (dats m 0 c).arrAt_eq_of_covers 5 _ (by decide +kernel) fun t _ y => ?_
  have e0 : ((((cfg0.win 5).blk t).view.emb y 0 : Fin _) : Nat) = t.val * 544 + (y 0).val := by blk_simp [idx t]
  have e1 : ((((cfg0.win 5).blk t).view.emb y 1 : Fin _) : Nat) = (y 1).val := by blk_simp [idx t]
  blk_simp
  exact point5 m c t y _ e0 e1

/-- Window 6: the reference's columns, element by element, -/
theorem ref6 (x : Vec Ideal Cert.EmbedRefIdeal.S8x2048x1024 .f32) (e : Vec Ideal Cert.EmbedRefIdeal.S16x1024 .f32)
    (f : Vec Ideal Cert.EmbedRefIdeal.S1024 .f32) (w : Vec Ideal Cert.EmbedRefIdeal.S1024x5136 .f32) (r : Fin 17408) (l : Fin 1024) :
    val_main_v28 (F := Ideal) x e f w (ix2 r l) = ∑ k : Fin 1024, val_main_v17 (F := Ideal) x e f (ix2 r k) * w (ix2 k ⟨1024 + l.val, by omega⟩) := by
  pointwise [val_main_v28, val_main_v20, val_main_v18]

/-- what a tile leaves, -/
theorem point6 (c : Dev nD) (t : Fin cfg0.N) (y : S544x1024.Idx) (j : S17408x1024.Idx) (h0 : (j 0 : Nat) = t.val * 544 + (y 0).val) (h1 : (j 1 : Nat) = (y 1).val) :
    after6 m c t y = val_main_v28 (F := Ideal) (A0 m c) (A1 m c) (A2 m c) (A3 m c) j := by
  obtain ⟨-, -, e, -⟩ := leaves m c t
  refine Eq.trans ?_ ((congrArg (val_main_v28 (F := Ideal) (A0 m c) (A1 m c) (A2 m c) (A3 m c)) (idx_of j (j 0) (y 1) rfl h1)).trans (ref6 _ _ _ _ (j 0) (y 1))).symm
  refine (congrFun e y).trans ((rows1024 _ _ _ y).trans (prod_of m c t _ (y 0) _ h0 (y 1) _ fun k => ?_))
  exact (part_at _ 0 1024 _ k (y 1) k _ (Nat.zero_add _).symm rfl).trans ((wBlk_at m c t k _).trans (side1 _ k (y 1)))

/-- and the array after the run. -/
theorem final6 (c : Dev nD) : (dats m 0 c).arrAt 6 (cfgs 0).N = val_main_v28 (F := Ideal) (A0 m c) (A1 m c) (A2 m c) (A3 m c) := by
  refine (dats m 0 c).arrAt_eq_of_covers 6 _ (by decide +kernel) fun t _ y => ?_
  have e0 : ((((cfg0.win 6).blk t).view.emb y 0 : Fin _) : Nat) = t.val * 544 + (y 0).val := by blk_simp [idx t]
  have e1 : ((((cfg0.win 6).blk t).view.emb y 1 : Fin _) : Nat) = (y 1).val := by blk_simp [idx t]
  blk_simp
  exact point6 m c t y _ e0 e1

/-- Window 7: the reference's columns, element by element, -/
theorem ref7 (x : Vec Ideal Cert.EmbedRefIdeal.S8x2048x1024 .f32) (e : Vec Ideal Cert.EmbedRefIdeal.S16x1024 .f32)
    (f : Vec Ideal Cert.EmbedRefIdeal.S1024 .f32) (w : Vec Ideal Cert.EmbedRefIdeal.S1024x5136 .f32) (r : Fin 17408) (l : Fin 512) :
    val_main_v29 (F := Ideal) x e f w (ix2 r l) = ∑ k : Fin 1024, val_main_v17 (F := Ideal) x e f (ix2 r k) * w (ix2 k ⟨2048 + l.val, by omega⟩) := by
  pointwise [val_main_v29, val_main_v21, val_main_v18]

/-- what a tile leaves, -/
theorem point7 (c : Dev nD) (t : Fin cfg0.N) (y : S544x512.Idx) (j : S17408x512.Idx) (h0 : (j 0 : Nat) = t.val * 544 + (y 0).val) (h1 : (j 1 : Nat) = (y 1).val) :
    after7 m c t y = val_main_v29 (F := Ideal) (A0 m c) (A1 m c) (A2 m c) (A3 m c) j := by
  obtain ⟨-, -, -, e, -⟩ := leaves m c t
  refine Eq.trans ?_ ((congrArg (val_main_v29 (F := Ideal) (A0 m c) (A1 m c) (A2 m c) (A3 m c)) (idx_of j (j 0) (y 1) rfl h1)).trans (ref7 _ _ _ _ (j 0) (y 1))).symm
  refine (congrFun e y).trans ((rows512 _ _ _ y).trans (prod_of m c t _ (y 0) _ h0 (y 1) _ fun k => ?_))
  exact (part_at _ 0 2048 _ k (y 1) k _ (Nat.zero_add _).symm rfl).trans ((wBlk_at m c t k _).trans (side2 _ k (y 1)))

/-- and the array after the run. -/
theorem final7 (c : Dev nD) : (dats m 0 c).arrAt 7 (cfgs 0).N = val_main_v29 (F := Ideal) (A0 m c) (A1 m c) (A2 m c) (A3 m c) := by
  refine (dats m 0 c).arrAt_eq_of_covers 7 _ (by decide +kernel) fun t _ y => ?_
  have e0 : ((((cfg0.win 7).blk t).view.emb y 0 : Fin _) : Nat) = t.val * 544 + (y 0).val := by blk_simp [idx t]
  have e1 : ((((cfg0.win 7).blk t).view.emb y 1 : Fin _) : Nat) = (y 1).val := by blk_simp [idx t]
  blk_simp
  exact point7 m c t y _ e0 e1

/-- Window 8: the reference's columns, element by element, -/
theorem ref8 (x : Vec Ideal Cert.EmbedRefIdeal.S8x2048x1024 .f32) (e : Vec Ideal Cert.EmbedRefIdeal.S16x1024 .f32)
    (f : Vec Ideal Cert.EmbedRefIdeal.S1024 .f32) (w : Vec Ideal Cert.EmbedRefIdeal.S1024x5136 .f32) (r : Fin 17408) (l : Fin 512) :
    val_main_v30 (F := Ideal) x e f w (ix2 r l) = ∑ k : Fin 1024, val_main_v17 (F := Ideal) x e f (ix2 r k) * w (ix2 k ⟨2560 + l.val, by omega⟩) := by
  pointwise [val_main_v30, val_main_v22, val_main_v18]

/-- what a tile leaves, -/
theorem point8 (c : Dev nD) (t : Fin cfg0.N) (y : S544x512.Idx) (j : S17408x512.Idx) (h0 : (j 0 : Nat) = t.val * 544 + (y 0).val) (h1 : (j 1 : Nat) = (y 1).val) :
    after8 m c t y = val_main_v30 (F := Ideal) (A0 m c) (A1 m c) (A2 m c) (A3 m c) j := by
  obtain ⟨-, -, -, -, e, -⟩ := leaves m c t
  refine Eq.trans ?_ ((congrArg (val_main_v30 (F := Ideal) (A0 m c) (A1 m c) (A2 m c) (A3 m c)) (idx_of j (j 0) (y 1) rfl h1)).trans (ref8 _ _ _ _ (j 0) (y 1))).symm
  refine (congrFun e y).trans ((rows512 _ _ _ y).trans (prod_of m c t _ (y 0) _ h0 (y 1) _ fun k => ?_))
  exact (part_at _ 0 2560 _ k (y 1) k _ (Nat.zero_add _).symm rfl).trans ((wBlk_at m c t k _).trans (side3 _ k (y 1)))

/-- and the array after the run. -/
theorem final8 (c : Dev nD) : (dats m 0 c).arrAt 8 (cfgs 0).N = val_main_v30 (F := Ideal) (A0 m c) (A1 m c) (A2 m c) (A3 m c) := by
  refine (dats m 0 c).arrAt_eq_of_covers 8 _ (by decide +kernel) fun t _ y => ?_
  have e0 : ((((cfg0.win 8).blk t).view.emb y 0 : Fin _) : Nat) = t.val * 544 + (y 0).val := by blk_simp [idx t]
  have e1 : ((((cfg0.win 8).blk t).view.emb y 1 : Fin _) : Nat) = (y 1).val := by blk_simp [idx t]
  blk_simp
  exact point8 m c t y _ e0 e1

/-- Window 9: the reference's columns, element by element, -/
theorem ref9 (x : Vec Ideal Cert.EmbedRefIdeal.S8x2048x1024 .f32) (e : Vec Ideal Cert.EmbedRefIdeal.S16x1024 .f32)
    (f : Vec Ideal Cert.EmbedRefIdeal.S1024 .f32) (w : Vec Ideal Cert.EmbedRefIdeal.S1024x5136 .f32) (r : Fin 17408) (l : Fin 1024) :
    val_main_v31 (F := Ideal) x e f w (ix2 r l) = ∑ k : Fin 1024, val_main_v17 (F := Ideal) x e f (ix2 r k) * w (ix2 k ⟨3072 + l.val, by omega⟩) := by
  pointwise [val_main_v31, val_main_v23, val_main_v18]

/-- what a tile leaves, -/
theorem point9 (c : Dev nD) (t : Fin cfg0.N) (y : S544x1024.Idx) (j : S17408x1024.Idx) (h0 : (j 0 : Nat) = t.val * 544 + (y 0).val) (h1 : (j 1 : Nat) = (y 1).val) :
    after9 m c t y = val_main_v31 (F := Ideal) (A0 m c) (A1 m c) (A2 m c) (A3 m c) j := by
  obtain ⟨-, -, -, -, -, e, -⟩ := leaves m c t
  refine Eq.trans ?_ ((congrArg (val_main_v31 (F := Ideal) (A0 m c) (A1 m c) (A2 m c) (A3 m c)) (idx_of j (j 0) (y 1) rfl h1)).trans (ref9 _ _ _ _ (j 0) (y 1))).symm
  refine (congrFun e y).trans ((rows1024 _ _ _ y).trans (prod_of m c t _ (y 0) _ h0 (y 1) _ fun k => ?_))
  exact (part_at _ 0 3072 _ k (y 1) k _ (Nat.zero_add _).symm rfl).trans ((wBlk_at m c t k _).trans (side4 _ k (y 1)))

/-- and the array after the run. -/
theorem final9 (c : Dev nD) : (dats m 0 c).arrAt 9 (cfgs 0).N = val_main_v31 (F := Ideal) (A0 m c) (A1 m c) (A2 m c) (A3 m c) := by
  refine (dats m 0 c).arrAt_eq_of_covers 9 _ (by decide +kernel) fun t _ y => ?_
  have e0 : ((((cfg0.win 9).blk t).view.emb y 0 : Fin _) : Nat) = t.val * 544 + (y 0).val := by blk_simp [idx t]
  have e1 : ((((cfg0.win 9).blk t).view.emb y 1 : Fin _) : Nat) = (y 1).val := by blk_simp [idx t]
  blk_simp
  exact point9 m c t y _ e0 e1

/-- Window 10: the reference's columns, element by element, -/
theorem ref10 (x : Vec Ideal Cert.EmbedRefIdeal.S8x2048x1024 .f32) (e : Vec Ideal Cert.EmbedRefIdeal.S16x1024 .f32)
    (f : Vec Ideal Cert.EmbedRefIdeal.S1024 .f32) (w : Vec Ideal Cert.EmbedRefIdeal.S1024x5136 .f32) (r : Fin 17408) (l : Fin 1024) :
    val_main_v32 (F := Ideal) x e f w (ix2 r l) = ∑ k : Fin 1024, val_main_v17 (F := Ideal) x e f (ix2 r k) * w (ix2 k ⟨4112 + l.val, by omega⟩) := by
  pointwise [val_main_v32, val_main_v25, val_main_v18]

/-- what a tile leaves, -/
theorem point10 (c : Dev nD) (t : Fin cfg0.N) (y : S544x1024.Idx) (j : S17408x1024.Idx) (h0 : (j 0 : Nat) = t.val * 544 + (y 0).val) (h1 : (j 1 : Nat) = (y 1).val) :
    after10 m c t y = val_main_v32 (F := Ideal) (A0 m c) (A1 m c) (A2 m c) (A3 m c) j := by
  obtain ⟨-, -, -, -, -, -, e, -⟩ := leaves m c t
  refine Eq.trans ?_ ((congrArg (val_main_v32 (F := Ideal) (A0 m c) (A1 m c) (A2 m c) (A3 m c)) (idx_of j (j 0) (y 1) rfl h1)).trans (ref10 _ _ _ _ (j 0) (y 1))).symm
  refine (congrFun e y).trans ((rows1024 _ _ _ y).trans (prod_of m c t _ (y 0) _ h0 (y 1) _ fun k => ?_))
  exact (part_at _ 0 4096 _ k (y 1) k _ (Nat.zero_add _).symm rfl).trans ((wBlk_at m c t k _).trans (side5 _ k (y 1)))

/-- and the array after the run. -/
theorem final10 (c : Dev nD) : (dats m 0 c).arrAt 10 (cfgs 0).N = val_main_v32 (F := Ideal) (A0 m c) (A1 m c) (A2 m c) (A3 m c) := by
  refine (dats m 0 c).arrAt_eq_of_covers 10 _ (by decide +kernel) fun t _ y => ?_
  have e0 : ((((cfg0.win 10).blk t).view.emb y 0 : Fin _) : Nat) = t.val * 544 + (y 0).val := by blk_simp [idx t]
  have e1 : ((((cfg0.win 10).blk t).view.emb y 1 : Fin _) : Nat) = (y 1).val := by blk_simp [idx t]
  blk_simp
  exact point10 m c t y _ e0 e1

/-- Window 11: the reference's padded columns, element by element, -/
theorem ref11 (x : Vec Ideal Cert.EmbedRefIdeal.S8x2048x1024 .f32) (e : Vec Ideal Cert.EmbedRefIdeal.S16x1024 .f32)
    (f : Vec Ideal Cert.EmbedRefIdeal.S1024 .f32) (w : Vec Ideal Cert.EmbedRefIdeal.S1024x5136 .f32) (r : Fin 17408) (l : Fin 128) :
    val_main_v33 (F := Ideal) x e f w (ix2 r l)
      = ∑ k : Fin 1024, val_main_v17 (F := Ideal) x e f (ix2 r k) * (if hl : l.val < 16 then w (ix2 k ⟨4096 + l.val, by omega⟩) else 0) := by
  pointwise [val_main_v33, val_main_v26, val_main_v24, val_main_v18, val_main_call1_v0, val_main_c_2]
  by_cases hl : l.val < 16
  · simp only [dif_pos hl]
  · simp only [dif_neg hl, zero_cast, mul_zero, Finset.sum_const_zero]

/-- what a tile leaves, -/
theorem point11 (c : Dev nD) (t : Fin cfg0.N) (y : S544x128.Idx) (j : S17408x128.Idx) (h0 : (j 0 : Nat) = t.val * 544 + (y 0).val) (h1 : (j 1 : Nat) = (y 1).val) :
    after11 m c t y = val_main_v33 (F := Ideal) (A0 m c) (A1 m c) (A2 m c) (A3 m c) j := by
  obtain ⟨-, -, -, -, -, -, -, e⟩ := leaves m c t
  refine Eq.trans ?_ ((congrArg (val_main_v33 (F := Ideal) (A0 m c) (A1 m c) (A2 m c) (A3 m c)) (idx_of j (j 0) (y 1) rfl h1)).trans (ref11 _ _ _ _ (j 0) (y 1))).symm
  refine (congrFun e y).trans ((rows128 _ _ _ y).trans (prod_of m c t _ (y 0) _ h0 (y 1) _ fun k => ?_))
  exact (part_at _ 0 5120 _ k (y 1) k _ (Nat.zero_add _).symm rfl).trans ((wBlk_at m c t k _).trans (side6 _ k (y 1)))

/-- and the array after the run. -/
theorem final11 (c : Dev nD) : (dats m 0 c).arrAt 11 (cfgs 0).N = val_main_v33 (F := Ideal) (A0 m c) (A1 m c) (A2 m c) (A3 m c) := by
  refine (dats m 0 c).arrAt_eq_of_covers 11 _ (by decide +kernel) fun t _ y => ?_
  have e0 : ((((cfg0.win 11).blk t).view.emb y 0 : Fin _) : Nat) = t.val * 544 + (y 0).val := by blk_simp [idx t]
  have e1 : ((((cfg0.win 11).blk t).view.emb y 1 : Fin _) : Nat) = (y 1).val := by blk_simp [idx t]
  blk_simp
  exact point11 m c t y _ e0 e1

end Cert.EmbedIdeal.RowValue

end
-- ==== Proof.EmbedClaim.lean ====
/- The embedding call: the claim about it. -/
module

public import proofs.«01_k».proof.Defs
public import proofs.«01_k».proof.Proof.EmbedOut
public import Idealize.ShloMosaic.Lib.Claim

@[expose] public section

set_option maxRecDepth 16384

noncomputable section

open Idealize.ShloMosaic Idealize.ShloMosaic.TcCoe Idealize.SL.Sem

namespace Cert.EmbedIdeal.RowValue

open Cert.EmbedIdeal Cert.EmbedRefIdeal.Read

/-- The call's run: every result array ends at the value the reference's stages name. -/
theorem ran (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
    r.2.mem ((c : Thread nD τ).loc main_v12_0) = val_main_v4 (F := Ideal) (A0 m c) (A1 m c)
    ∧ r.2.mem ((c : Thread nD τ).loc main_v12_1) = val_main_v27 (F := Ideal) (A0 m c) (A1 m c) (A2 m c) (A3 m c)
    ∧ r.2.mem ((c : Thread nD τ).loc main_v12_2) = val_main_v28 (F := Ideal) (A0 m c) (A1 m c) (A2 m c) (A3 m c)
    ∧ r.2.mem ((c : Thread nD τ).loc main_v12_3) = val_main_v29 (F := Ideal) (A0 m c) (A1 m c) (A2 m c) (A3 m c)
    ∧ r.2.mem ((c : Thread nD τ).loc main_v12_4) = val_main_v30 (F := Ideal) (A0 m c) (A1 m c) (A2 m c) (A3 m c)
    ∧ r.2.mem ((c : Thread nD τ).loc main_v12_5) = val_main_v31 (F := Ideal) (A0 m c) (A1 m c) (A2 m c) (A3 m c)
    ∧ r.2.mem ((c : Thread nD τ).loc main_v12_6) = val_main_v32 (F := Ideal) (A0 m c) (A1 m c) (A2 m c) (A3 m c)
    ∧ r.2.mem ((c : Thread nD τ).loc main_v12_7) = val_main_v33 (F := Ideal) (A0 m c) (A1 m c) (A2 m c) (A3 m c)) := by
  refine Idealize.ShloMosaic.θ_run_mono (Cert.EmbedIdeal.Whole.run_main m g) fun r h c => ?_
  exact ⟨((h c).1 4).trans (final4 m c), ((h c).1 5).trans (final5 m c), ((h c).1 6).trans (final6 m c), ((h c).1 7).trans (final7 m c),
    ((h c).1 8).trans (final8 m c), ((h c).1 9).trans (final9 m c), ((h c).1 10).trans (final10 m c), ((h c).1 11).trans (final11 m c)⟩

end Cert.EmbedIdeal.RowValue

namespace Cert.EmbedRefIdeal.RowValue

open Cert.EmbedRefIdeal Cert.EmbedRefIdeal.Read

/-- The reference's run likewise. -/
theorem ran (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
    r.2.mem ((c : Thread nD τ).loc main_v4) = val_main_v4 (F := Ideal) (m ((c : Thread nD τ).loc main_arg0)) (m ((c : Thread nD τ).loc main_arg1))
    ∧ r.2.mem ((c : Thread nD τ).loc main_v27) = val_main_v27 (F := Ideal) (m ((c : Thread nD τ).loc main_arg0)) (m ((c : Thread nD τ).loc main_arg1)) (m ((c : Thread nD τ).loc main_arg2)) (m ((c : Thread nD τ).loc main_arg3))
    ∧ r.2.mem ((c : Thread nD τ).loc main_v28) = val_main_v28 (F := Ideal) (m ((c : Thread nD τ).loc main_arg0)) (m ((c : Thread nD τ).loc main_arg1)) (m ((c : Thread nD τ).loc main_arg2)) (m ((c : Thread nD τ).loc main_arg3))
    ∧ r.2.mem ((c : Thread nD τ).loc main_v29) = val_main_v29 (F := Ideal) (m ((c : Thread nD τ).loc main_arg0)) (m ((c : Thread nD τ).loc main_arg1)) (m ((c : Thread nD τ).loc main_arg2)) (m ((c : Thread nD τ).loc main_arg3))
    ∧ r.2.mem ((c : Thread nD τ).loc main_v30) = val_main_v30 (F := Ideal) (m ((c : Thread nD τ).loc main_arg0)) (m ((c : Thread nD τ).loc main_arg1)) (m ((c : Thread nD τ).loc main_arg2)) (m ((c : Thread nD τ).loc main_arg3))
    ∧ r.2.mem ((c : Thread nD τ).loc main_v31) = val_main_v31 (F := Ideal) (m ((c : Thread nD τ).loc main_arg0)) (m ((c : Thread nD τ).loc main_arg1)) (m ((c : Thread nD τ).loc main_arg2)) (m ((c : Thread nD τ).loc main_arg3))
    ∧ r.2.mem ((c : Thread nD τ).loc main_v32) = val_main_v32 (F := Ideal) (m ((c : Thread nD τ).loc main_arg0)) (m ((c : Thread nD τ).loc main_arg1)) (m ((c : Thread nD τ).loc main_arg2)) (m ((c : Thread nD τ).loc main_arg3))
    ∧ r.2.mem ((c : Thread nD τ).loc main_v33) = val_main_v33 (F := Ideal) (m ((c : Thread nD τ).loc main_arg0)) (m ((c : Thread nD τ).loc main_arg1)) (m ((c : Thread nD τ).loc main_arg2)) (m ((c : Thread nD τ).loc main_arg3))) := by
  refine Idealize.ShloMosaic.θ_run_mono (Cert.EmbedRefIdeal.Value.run m g) fun r h c => ?_
  obtain ⟨h0, h1, h2, h3, h4, h5, h6, h7, -⟩ := h c
  exact ⟨h0.trans (val_main_v4_eq _ _), h1.trans (val_main_v27_eq _ _ _ _), h2.trans (val_main_v28_eq _ _ _ _), h3.trans (val_main_v29_eq _ _ _ _), h4.trans (val_main_v30_eq _ _ _ _), h5.trans (val_main_v31_eq _ _ _ _), h6.trans (val_main_v32_eq _ _ _ _), h7.trans (val_main_v33_eq _ _ _ _)⟩

end Cert.EmbedRefIdeal.RowValue

namespace Cert.Proof

open Cert.EmbedRefIdeal.Read Cert.EmbedIdeal.RowValue

/-- The call and its reference end with the same eight arrays. -/
theorem algebraic_embed : Cert.algebraic_EmbedIdeal_EmbedRefIdeal (hEmbedIdeal := Cert.EmbedIdeal.Gen.facts) (hEmbedRefIdeal := Cert.EmbedRefIdeal.Gen.facts) := by
  intro m g m' g' _ hagree
  refine ⟨fun c => val_main_v4 (F := Ideal) (A0 m c) (A1 m c),
    fun c => val_main_v27 (F := Ideal) (A0 m c) (A1 m c) (A2 m c) (A3 m c),
    fun c => val_main_v28 (F := Ideal) (A0 m c) (A1 m c) (A2 m c) (A3 m c),
    fun c => val_main_v29 (F := Ideal) (A0 m c) (A1 m c) (A2 m c) (A3 m c),
    fun c => val_main_v30 (F := Ideal) (A0 m c) (A1 m c) (A2 m c) (A3 m c),
    fun c => val_main_v31 (F := Ideal) (A0 m c) (A1 m c) (A2 m c) (A3 m c),
    fun c => val_main_v32 (F := Ideal) (A0 m c) (A1 m c) (A2 m c) (A3 m c),
    fun c => val_main_v33 (F := Ideal) (A0 m c) (A1 m c) (A2 m c) (A3 m c), ?_, ?_⟩
  · refine Idealize.ShloMosaic.θ_run_mono (Idealize.ShloMosaic.θ_run_and (ran m g) (Cert.EmbedIdeal.Whole.frame m g)) fun r h c => ?_
    obtain ⟨h0, h1, h2, h3, h4, h5, h6, h7⟩ := h.1 c
    exact ⟨h0, h1, h2, h3, h4, h5, h6, h7, h.2.1 c⟩
  · refine Idealize.ShloMosaic.θ_run_mono (Idealize.ShloMosaic.θ_run_and (Cert.EmbedRefIdeal.RowValue.ran m' g') (Cert.EmbedRefIdeal.Value.run m' g')) fun r h c => ?_
    obtain ⟨a0, a1, a2, a3⟩ := hagree c
    have k := h.1 c
    obtain ⟨-, -, -, -, -, -, -, -, u⟩ := h.2 c
    rw [a0, a1, a2, a3] at k
    obtain ⟨h0, h1, h2, h3, h4, h5, h6, h7⟩ := k
    exact ⟨h0, h1, h2, h3, h4, h5, h6, h7, u⟩

end Cert.Proof

end
-- ==== Proof.RopeRows.lean ====
/- The rotary tables: the kernel's payloads, lane by lane. -/
module

public import proofs.«01_k».proof.Defs
public import proofs.«01_k».proof.Proof.Gen.RopeIdeal.Frame
public import proofs.«01_k».proof.Proof.Gen.RopeRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.RopeIdeal.RowValue

open Cert.RopeIdeal Cert.RopeIdeal.Gen

/-- A lane among a head's first sixteen. -/
theorem first_lanes : ∀ l : Fin 128, IntOp.cmpi .slt (BitVec.ofNat 32 l.val) 16#32 = if l.val < 16 then 1#1 else 0#1 := by
  decide +kernel

/-- A lane among the sixteen from 64 on. -/
theorem second_lanes : ∀ l : Fin 128, IntOp.andi (IntOp.cmpi .sge (BitVec.ofNat 32 l.val) 64#32) (IntOp.cmpi .slt (BitVec.ofNat 32 l.val) 80#32)
    = if 64 ≤ l.val ∧ l.val < 80 then 1#1 else 0#1 := by
  decide +kernel

/-- A lane of the second group or a later one. -/
theorem from_lane (n : Nat) (hn : n < 128) (l : Fin 128) :
    IntOp.cmpi .sge (BitVec.ofNat 32 l.val) (BitVec.ofNat 32 n) = if n ≤ l.val then 1#1 else 0#1 := by
  revert l
  interval_cases n <;> decide +kernel

/-- A choice by a decided bit. -/
theorem select_if {α : Type} (p : Prop) [Decidable p] (a b : α) : Scalar.select (if p then 1#1 else 0#1) a b = if p then a else b := by
  split <;> rfl

/-- The table of cosines over a head's lanes, from the lanes of one group of rows. -/
def cosLane (g : Nat) (x : Fin 128 → EReal) (l : Fin 128) : EReal :=
  if l.val < 16 then x ⟨(32 * g + l.val) % 128, Nat.mod_lt _ (by norm_num)⟩
  else if 64 ≤ l.val ∧ l.val < 80 then x ⟨(32 * g + (l.val - 64)) % 128, Nat.mod_lt _ (by norm_num)⟩ else 1

/-- The table of sines over a head's lanes, from the lanes of one group of rows. -/
def sinLane (g : Nat) (x : Fin 128 → EReal) (l : Fin 128) : EReal :=
  if l.val < 16 then 0 - x ⟨(32 * g + 16 + l.val) % 128, Nat.mod_lt _ (by norm_num)⟩
  else if 64 ≤ l.val ∧ l.val < 80 then x ⟨(32 * g + 16 + (l.val - 64)) % 128, Nat.mod_lt _ (by norm_num)⟩ else 0

/-- Lanes chosen by the two bits, for the cosines. -/
theorem cos_lanes (g : Nat) (x : Fin 128 → EReal) (l i j : Fin 128) (hi : l.val < 16 → i.val = (32 * g + l.val) % 128)
    (hj : 64 ≤ l.val ∧ l.val < 80 → j.val = (32 * g + (l.val - 64)) % 128) :
    Scalar.select (IntOp.cmpi .slt (BitVec.ofNat 32 l.val) 16#32) (x i)
      (Scalar.select (IntOp.andi (IntOp.cmpi .sge (BitVec.ofNat 32 l.val) 64#32) (IntOp.cmpi .slt (BitVec.ofNat 32 l.val) 80#32)) (x j) 1)
      = cosLane g x l := by
  rw [first_lanes, second_lanes, select_if, select_if]
  unfold cosLane
  split_ifs with h h'
  exacts [congrArg x (Fin.ext (hi h)), congrArg x (Fin.ext (hj h')), rfl]

/-- Lanes chosen by the two bits, for the sines. -/
theorem sin_lanes (g : Nat) (x : Fin 128 → EReal) (l i j : Fin 128) (hi : l.val < 16 → i.val = (32 * g + 16 + l.val) % 128)
    (hj : 64 ≤ l.val ∧ l.val < 80 → j.val = (32 * g + 16 + (l.val - 64)) % 128) :
    Scalar.select (IntOp.cmpi .slt (BitVec.ofNat 32 l.val) 16#32) (0 - x i)
      (Scalar.select (IntOp.andi (IntOp.cmpi .sge (BitVec.ofNat 32 l.val) 64#32) (IntOp.cmpi .slt (BitVec.ofNat 32 l.val) 80#32)) (x j) 0)
      = sinLane g x l := by
  rw [first_lanes, second_lanes, select_if, select_if]
  unfold sinLane
  split_ifs with h h'
  exacts [congrArg (0 - x ·) (Fin.ext (hi h)), congrArg x (Fin.ext (hj h')), rfl]

/-- Slab 0 of the table of cosines. -/
theorem cosin0_row (x : FVec Ideal S272x128 .f32) (r : Fin 272) (l : Fin 128) :
    k0_pay11 (F := Ideal) x k0_pay7 k0_pay8 k0_pay9 (ix2 r l) = cosLane 0 (fun l => x (ix2 r l)) l := by
  pointwise [k0_pay11, k0_pay7, k0_pay8, k0_pay9, k0_pay10]
  exact cos_lanes 0 (fun l => x (ix2 r l)) l _ _ (fun _ => by omega) (fun _ => by dsimp only; omega)

/-- Slab 1 of the table of cosines. -/
theorem cosin1_row (x : FVec Ideal S272x128 .f32) (r : Fin 272) (l : Fin 128) :
    k0_pay14 (F := Ideal) x k0_pay7 k0_pay8 k0_pay9 (ix2 r l) = cosLane 1 (fun l => x (ix2 r l)) l := by
  pointwise [k0_pay14, k0_pay13, k0_pay7, k0_pay8, k0_pay9, k0_pay10]
  exact cos_lanes 1 (fun l => x (ix2 r l)) l _ _ (fun _ => by dsimp only; omega) (fun _ => by dsimp only; omega)

/-- Slab 2 of the table of cosines. -/
theorem cosin2_row (x : FVec Ideal S272x128 .f32) (r : Fin 272) (l : Fin 128) :
    k0_pay1 (F := Ideal) k0_pay7 (k0_pay10 k0_pay8 k0_pay9) (k0_pay16 x) (k0_pay17 x) (ix2 r l) = cosLane 2 (fun l => x (ix2 r l)) l := by
  pointwise [k0_pay1, k0_pay16, k0_pay17, k0_pay7, k0_pay8, k0_pay9, k0_pay10]
  exact cos_lanes 2 (fun l => x (ix2 r l)) l _ _ (fun _ => by dsimp only; omega) (fun _ => by dsimp only; omega)

/-- Slab 3 of the table of cosines. -/
theorem cosin3_row (x : FVec Ideal S272x128 .f32) (r : Fin 272) (l : Fin 128) :
    k0_pay4 (F := Ideal) x k0_pay7 (k0_pay10 k0_pay8 k0_pay9) (ix2 r l) = cosLane 3 (fun l => x (ix2 r l)) l := by
  pointwise [k0_pay4, k0_pay3, k0_pay7, k0_pay8, k0_pay9, k0_pay10]
  exact cos_lanes 3 (fun l => x (ix2 r l)) l _ _ (fun _ => by dsimp only; omega) (fun _ => by dsimp only; omega)

/-- Slab 0 of the table of sines. -/
theorem sin0_row (x : FVec Ideal S272x128 .f32) (r : Fin 272) (l : Fin 128) :
    k0_pay12 (F := Ideal) x k0_pay7 k0_pay8 k0_pay9 (ix2 r l) = sinLane 0 (fun l => x (ix2 r l)) l := by
  pointwise [k0_pay12, k0_pay7, k0_pay8, k0_pay9, k0_pay10]
  exact sin_lanes 0 (fun l => x (ix2 r l)) l _ _ (fun _ => by dsimp only; omega) (fun _ => by dsimp only; omega)

/-- Slab 1 of the table of sines. -/
theorem sin1_row (x : FVec Ideal S272x128 .f32) (r : Fin 272) (l : Fin 128) :
    k0_pay15 (F := Ideal) x k0_pay7 k0_pay8 k0_pay9 (ix2 r l) = sinLane 1 (fun l => x (ix2 r l)) l := by
  pointwise [k0_pay15, k0_pay13, k0_pay7, k0_pay8, k0_pay9, k0_pay10]
  exact sin_lanes 1 (fun l => x (ix2 r l)) l _ _ (fun _ => by dsimp only; omega) (fun _ => by dsimp only; omega)

/-- Slab 2 of the table of sines. -/
theorem sin2_row (x : FVec Ideal S272x128 .f32) (r : Fin 272) (l : Fin 128) :
    k0_pay2 (F := Ideal) k0_pay7 (k0_pay10 k0_pay8 k0_pay9) (k0_pay16 x) (k0_pay18 x) 48#32 (ix2 r l) = sinLane 2 (fun l => x (ix2 r l)) l := by
  pointwise [k0_pay2, k0_pay16, k0_pay18, k0_pay7, k0_pay8, k0_pay9, k0_pay10]
  exact sin_lanes 2 (fun l => x (ix2 r l)) l _ _ (fun _ => by dsimp only; omega) (fun _ => by dsimp only; omega)

/-- Slab 3 of the table of sines. -/
theorem sin3_row (x : FVec Ideal S272x128 .f32) (r : Fin 272) (l : Fin 128) :
    k0_pay5 (F := Ideal) x k0_pay7 (k0_pay10 k0_pay8 k0_pay9) (ix2 r l) = sinLane 3 (fun l => x (ix2 r l)) l := by
  pointwise [k0_pay5, k0_pay3, k0_pay7, k0_pay8, k0_pay9, k0_pay10]
  exact sin_lanes 3 (fun l => x (ix2 r l)) l _ _ (fun _ => by dsimp only; omega) (fun _ => by dsimp only; omega)

/-- The cosines that the lanes hold, one group of thirty-two lanes for each group of rows. -/
theorem cos_row (a b c d : Vec Ideal S272x1 .f32) (f p : Vec Ideal S1x128 .f32) (r : Fin 272) (l : Fin 128) :
    k0_pay6 (F := Ideal) a b c d f p (ix2 r l)
      = Ideal.cos ((if 96 ≤ l.val then d (ix2 r 0) else if 64 ≤ l.val then c (ix2 r 0) else if 32 ≤ l.val then b (ix2 r 0) else a (ix2 r 0))
          * f (ix2 0 l) - p (ix2 0 l)) := by
  pointwise [k0_pay6]
  rw [from_lane 96 (by norm_num), from_lane 64 (by norm_num), from_lane 32 (by norm_num), select_if, select_if, select_if]

/-- A quarter turn less makes a cosine a sine. -/
theorem cos_quarter (x : EReal) : Ideal.cos (x - (0 + Ideal.acos 0)) = Ideal.sin x := by
  have h0 : Ideal.acos 0 = ((Real.pi / 2 : ℝ) : EReal) := by
    show (if -1 ≤ (0 : ℝ) ∧ (0 : ℝ) ≤ 1 then (Real.arccos 0 : EReal) else ⊥) = _
    rw [if_pos (by norm_num), Real.arccos_zero]
  rw [h0, zero_add]
  induction x with
  | bot => rfl
  | top => rfl
  | coe r =>
    show ((Real.cos (r - Real.pi / 2) : ℝ) : EReal) = ((Real.sin r : ℝ) : EReal)
    rw [Real.cos_sub_pi_div_two]

end Cert.RopeIdeal.RowValue

end
-- ==== Proof.RopeValue.lean ====
/- The rotary tables: what the call's two result arrays hold, and that the reference holds the same. -/
module

public import proofs.«01_k».proof.Proof.RopeRows
public import proofs.«01_k».proof.Proof.Gen.RopeRefIdeal.Run

@[expose] public section

set_option maxRecDepth 16384

noncomputable section

open Idealize.ShloMosaic Idealize.ShloMosaic.TcCoe Idealize.SL.Sem
open Idealize.ShloMosaic.Pipeline (Dat)

namespace Cert.RopeIdeal.RowValue

open Cert.RopeIdeal Cert.RopeIdeal.Gen Cert.RopeRefIdeal.Read

variable (m : (ℓ : Loc nD τ sig) → Buf (Elt Ideal) ℓ)

/-- The positions, as the call is given them. -/
abbrev A0 (c : Dev nD) := m ((c : Thread nD τ).loc main_arg0)

/-- Where each window's block begins, at every grid point. -/
theorem idx : ∀ t : Fin cfg0.N,
    win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The host code's frequencies, lane by lane. -/
theorem freq (c : Dev nD) (l : Fin 128) :
    V m c main_v24 (ix2 0 l) = val_main_v16 (F := Ideal) (ix1 ⟨l.val % 16, Nat.mod_lt _ (by norm_num)⟩) := by
  unfold V
  simp only [hostOps0, List.flatten_cons, List.flatten_nil, List.append_nil, List.cons_append, List.nil_append]
  entry_read
  pointwise
  unfold Cert.RopeRefIdeal.Read.val_main_v16
  pointwise [val_main_v15, val_main_v14, val_main_v13, val_main_v12, val_main_v11, val_main_v10, val_main_v9, val_main_v8, val_main_v7, val_main_cst, val_main_cst_1, val_main_cst_2, val_main_cst_3]
  split_ifs with h
  · rw [show l.val % 16 = l.val % 32 by omega]
  · rw [show l.val % 16 = l.val % 32 - 16 by omega]

/-- The host code's phases, lane by lane. -/
theorem phase (c : Dev nD) (l : Fin 128) :
    V m c main_v32 (ix2 0 l) = if l.val % 32 < 16 then (0 : EReal) else 0 + Ideal.acos 0 := by
  unfold V
  simp only [hostOps0, List.flatten_cons, List.flatten_nil, List.append_nil, List.cons_append, List.nil_append]
  entry_read
  pointwise
  simp only [dite_eq_ite]

/-- The positions' words, before the padding rows: the two ways of writing them agree. -/
theorem words (x : Vec Ideal Cert.RopeRefIdeal.S8x2048 .i32) (b : Fin 8) (s : Fin 2176) :
    val_main_v6 (F := Ideal) x (ix2 b s) = if h : s.val < 2064 then val_main_v5 (F := Ideal) x (ix2 b ⟨s.val, h⟩) else 0#32 := by
  unfold val_main_v6
  pointwise [val_main_call0_v0, val_main_c_0]
  rfl

/-- The call's positions, with the meta tokens' before and the padding's after. -/
def kpos (x : Vec Ideal S8x2048 .i32) : Vec Ideal S8x2176 .i32 :=
  concatenate S8x2176 1 [⟨S8x16, broadcastInDim S8x16 ![0, 1] bcast_S1x16_S8x16_0_1 (broadcastInDim S1x16 ![1] bcast_S16_S1x16_1 (iotaInDim S16 32 0))⟩,
    ⟨S8x2048, addi x (broadcastInDim S8x2048 ![] bcast_S_S8x2048 (constantI S_ 32 16#32))⟩,
    ⟨S8x112, broadcastInDim S8x112 ![] bcast_S_S8x112 (constantI S_ 32 0#32)⟩] concatenates_S8x16_S8x2048_S8x112_S8x2176_d1

/-- Padding after a join is a join of three. -/
theorem words_lanes (u : BitVec 32) (v : Fin 2048 → BitVec 32) (z : BitVec 32) (s : Fin 2176) :
    (if s.val < 16 then u else if h : s.val - 16 < 2048 then v ⟨s.val - 16, h⟩ else z)
      = if h : s.val < 2064 then if h' : s.val < 16 then u else v ⟨s.val - 16, by omega⟩ else z := by
  by_cases h1 : s.val < 16
  · rw [if_pos h1, dif_pos (by omega), dif_pos h1]
  rw [if_neg h1]
  by_cases h2 : s.val - 16 < 2048
  · rw [dif_pos h2, dif_pos (by omega), dif_neg h1]
  · rw [dif_neg h2, dif_neg (by omega)]

/-- They are the reference's. -/
theorem kpos_eq (x : Vec Ideal S8x2048 .i32) (b : Fin 8) (s : Fin 2176) : kpos x (ix2 b s) = val_main_v6 (F := Ideal) x (ix2 b s) := by
  rw [words]
  unfold kpos
  pointwise [val_main_v5, val_main_v4, val_main_v3, val_main_v2, val_main_v1, val_main_v0, val_main_c]
  exact words_lanes _ (fun k => IntOp.addi (x (ix2 b k)) 16#32) _ s

/-- The host code's positions, as the call gets them. -/
theorem w18 (c : Dev nD) : V m c main_v18 = (shapeCast S17408x1 (sitofp (F := Ideal) .f32 (kpos (A0 m c))) shapeCasts_S8x2176_S17408x1 : Vec Ideal S17408x1 .f32) := by
  unfold V
  simp only [hostOps0, List.flatten_cons, List.flatten_nil, List.append_nil, List.cons_append, List.nil_append]
  generalize hf0 : (fun u : (k : Fin 3) → (![main_v2, main_v4, main_v5] k).ty.Contents (Elt Ideal) => (concatenate S8x2176 1 [⟨S8x16, (u 0 : (⟨S8x16, .i32⟩ : BufTy).Contents (Elt Ideal))⟩, ⟨S8x2048, (u 1 : (⟨S8x2048, .i32⟩ : BufTy).Contents (Elt Ideal))⟩, ⟨S8x112, (u 2 : (⟨S8x112, .i32⟩ : BufTy).Contents (Elt Ideal))⟩] concatenates_S8x16_S8x2048_S8x112_S8x2176_d1 : (⟨S8x2176, .i32⟩ : BufTy).Contents (Elt Ideal))) = f0
  entry_read
  subst hf0
  rfl

/-- The host code's positions, row by row. -/
theorem pos (c : Dev nD) (R : Fin 17408) :
    V m c main_v18 (ix2 R 0) = val_main_v17 (F := Ideal) (A0 m c) (ix2 ⟨R.val / 2176, by omega⟩ ⟨R.val % 2176, Nat.mod_lt _ (by norm_num)⟩) := by
  rw [w18, val_main_v17_apply, ← kpos_eq]
  pointwise

/-- A row's angle at one of the sixteen frequencies. -/
def ang (x : Vec Ideal Cert.RopeRefIdeal.S8x2048 .i32) (R : Fin 17408) (j : Fin 16) : EReal :=
  val_main_v17 (F := Ideal) x (ix2 ⟨R.val / 2176, by omega⟩ ⟨R.val % 2176, Nat.mod_lt _ (by norm_num)⟩) * val_main_v16 (F := Ideal) (ix1 j)

/-- A head's lanes, of two runs of sixteen rotary ones with a constant after each. -/
theorem four_runs (f g : Fin 16 → EReal) (z : EReal) (l : Fin 128) :
    (if h : l.val < 16 then f ⟨l.val, h⟩ else if h : l.val - 16 < 48 then z else if h : l.val - 16 - 48 < 16 then g ⟨l.val - 16 - 48, h⟩ else z)
      = if l.val < 16 then f ⟨l.val % 16, Nat.mod_lt _ (by norm_num)⟩ else if 64 ≤ l.val ∧ l.val < 80 then g ⟨l.val % 16, Nat.mod_lt _ (by norm_num)⟩ else z := by
  by_cases h1 : l.val < 16
  · rw [dif_pos h1, if_pos h1]
    exact congrArg f (Fin.ext (by dsimp only; omega))
  rw [dif_neg h1, if_neg h1]
  by_cases h2 : l.val - 16 < 48
  · rw [dif_pos h2, if_neg (by omega)]
  rw [dif_neg h2]
  by_cases h3 : l.val - 16 - 48 < 16
  · rw [dif_pos h3, if_pos (by omega)]
    exact congrArg g (Fin.ext (by dsimp only; omega))
  · rw [dif_neg h3, if_neg (by omega)]

/-- The reference's cosines. -/
theorem ref_cos (x : Vec Ideal Cert.RopeRefIdeal.S8x2048 .i32) (R : Fin 17408) (l : Fin 128) :
    val_main_v29 (F := Ideal) x (ix2 R l) = if l.val < 16 then Ideal.cos (ang x R ⟨l.val % 16, Nat.mod_lt _ (by norm_num)⟩)
      else if 64 ≤ l.val ∧ l.val < 80 then Ideal.cos (ang x R ⟨l.val % 16, Nat.mod_lt _ (by norm_num)⟩) else 1 := by
  rw [← four_runs (fun j => Ideal.cos (ang x R j)) (fun j => Ideal.cos (ang x R j)) 1 l]
  pointwise [val_main_v29, val_main_v24, val_main_v23, val_main_v22, val_main_v21, val_main_v20, val_main_v19, val_main_v18, val_main_v27, val_main_cst_4, ang]

/-- The reference's sines, signed. -/
theorem ref_sin (x : Vec Ideal Cert.RopeRefIdeal.S8x2048 .i32) (R : Fin 17408) (l : Fin 128) :
    val_main_v31 (F := Ideal) x (ix2 R l) = if l.val < 16 then -Ideal.sin (ang x R ⟨l.val % 16, Nat.mod_lt _ (by norm_num)⟩)
      else if 64 ≤ l.val ∧ l.val < 80 then Ideal.sin (ang x R ⟨l.val % 16, Nat.mod_lt _ (by norm_num)⟩) else 0 := by
  rw [← four_runs (fun j => -Ideal.sin (ang x R j)) (fun j => Ideal.sin (ang x R j)) 0 l]
  pointwise [val_main_v31, val_main_v30, val_main_v26, val_main_v25, val_main_v22, val_main_v21, val_main_v20, val_main_v19, val_main_v18, val_main_v28, val_main_cst_5, ang]

/-- A row of one of the four slabs of a block of positions. -/
theorem ldpos (c : Dev nD) (t : Fin cfg0.N) (r : Fin 272) (n : Nat) (inb) (R : Fin 17408) (hR : (R : Nat) = t.val * 1088 + n + r.val) :
    View.ld (iblk m c 0 t) (Rect.unit (s := S1088x1) ![n, 0] S272x1.size inb) (ix2 r 0) = V m c main_v18 (ix2 R 0) := by
  refine congrArg (V m c main_v18) ?_
  blk_ext [idx t]
  have h := Rect.idx_unit_val (s := S1088x1) ![n, 0] S272x1.size inb (ix2 r 0) 0
  refine (congrArg (t.val * 1088 + ·) h).trans ?_
  simp only [Matrix.cons_val_zero]
  exact (Nat.add_assoc _ _ _).symm.trans hR.symm

/-- The frequencies' row. -/
theorem ldfreq (c : Dev nD) (t : Fin cfg0.N) (l : Fin 128) :
    View.ld (iblk m c 1 t) r0_4 (ix2 0 l) = val_main_v16 (F := Ideal) (ix1 ⟨l.val % 16, Nat.mod_lt _ (by norm_num)⟩) := by
  refine Eq.trans (congrArg (V m c main_v24) ?_) (freq m c l)
  blk_ext [idx t]
  exact (Rect.idx_unit_val _ _ _ _ _).trans (Nat.zero_add _)

/-- The phases' row. -/
theorem ldphase (c : Dev nD) (t : Fin cfg0.N) (l : Fin 128) :
    View.ld (iblk m c 2 t) r0_4 (ix2 0 l) = if l.val % 32 < 16 then (0 : EReal) else 0 + Ideal.acos 0 := by
  refine Eq.trans (congrArg (V m c main_v32) ?_) (phase m c l)
  blk_ext [idx t]
  exact (Rect.idx_unit_val _ _ _ _ _).trans (Nat.zero_add _)

/-- What the lanes of a block hold: the cosines, then the sines, of the rows of each slab in turn. -/
theorem held (c : Dev nD) (t : Fin cfg0.N) (r : Fin 272) (l : Fin 128) (R : Fin 17408) (hR : (R : Nat) = t.val * 1088 + 272 * (l.val / 32) + r.val)
    (j : Fin 16) (hj : j.val = l.val % 16) :
    k0_pay19 (F := Ideal) (iblk m c 0 t) (iblk m c 1 t) (iblk m c 2 t) (ix2 r l)
      = if l.val % 32 < 16 then Ideal.cos (ang (A0 m c) R j) else Ideal.sin (ang (A0 m c) R j) := by
  have hl := l.isLt
  unfold k0_pay19
  rw [cos_row, ldfreq, ldphase, show (⟨l.val % 16, Nat.mod_lt _ (by norm_num)⟩ : Fin 16) = j from Fin.ext hj.symm]
  have hp : (if 96 ≤ l.val then View.ld (iblk m c 0 t) r0_3 (ix2 r 0) else if 64 ≤ l.val then View.ld (iblk m c 0 t) r0_2 (ix2 r 0)
      else if 32 ≤ l.val then View.ld (iblk m c 0 t) r0_1 (ix2 r 0) else View.ld (iblk m c 0 t) r0_0 (ix2 r 0)) = V m c main_v18 (ix2 R 0) := by
    split_ifs
    · exact ldpos m c t r 816 _ R (by omega)
    · exact ldpos m c t r 544 _ R (by omega)
    · exact ldpos m c t r 272 _ R (by omega)
    · exact ldpos m c t r 0 _ R (by omega)
  rw [hp, pos]
  unfold ang
  split_ifs
  · rw [sub_zero]
  · exact cos_quarter _

/-- One slab of the cosines. -/
theorem core3 (c : Dev nD) (t : Fin cfg0.N) (r : Fin 272) (l : Fin 128) (g : Nat) (hg : g < 4) (R : Fin 17408) (hR : (R : Nat) = t.val * 1088 + 272 * g + r.val) :
    cosLane g (fun l => k0_pay19 (F := Ideal) (iblk m c 0 t) (iblk m c 1 t) (iblk m c 2 t) (ix2 r l)) l = val_main_v29 (F := Ideal) (A0 m c) (ix2 R l) := by
  have hl := l.isLt
  rw [ref_cos]
  unfold cosLane
  by_cases h1 : l.val < 16
  · rw [if_pos h1, if_pos h1]
    exact (held m c t r ⟨(32 * g + l.val) % 128, Nat.mod_lt _ (by norm_num)⟩ R (by dsimp only; omega) ⟨l.val % 16, Nat.mod_lt _ (by norm_num)⟩ (by dsimp only; omega)).trans (if_pos (by dsimp only; omega))
  by_cases h2 : 64 ≤ l.val ∧ l.val < 80
  · rw [if_neg h1, if_pos h2, if_neg h1, if_pos h2]
    exact (held m c t r ⟨(32 * g + (l.val - 64)) % 128, Nat.mod_lt _ (by norm_num)⟩ R (by dsimp only; omega) ⟨l.val % 16, Nat.mod_lt _ (by norm_num)⟩ (by dsimp only; omega)).trans (if_pos (by dsimp only; omega))
  · rw [if_neg h1, if_neg h2, if_neg h1, if_neg h2]

/-- One slab of the sines. -/
theorem core4 (c : Dev nD) (t : Fin cfg0.N) (r : Fin 272) (l : Fin 128) (g : Nat) (hg : g < 4) (R : Fin 17408) (hR : (R : Nat) = t.val * 1088 + 272 * g + r.val) :
    sinLane g (fun l => k0_pay19 (F := Ideal) (iblk m c 0 t) (iblk m c 1 t) (iblk m c 2 t) (ix2 r l)) l = val_main_v31 (F := Ideal) (A0 m c) (ix2 R l) := by
  have hl := l.isLt
  rw [ref_sin]
  unfold sinLane
  by_cases h1 : l.val < 16
  · rw [if_pos h1, if_pos h1, ← zero_sub]
    exact congrArg (0 - ·) ((held m c t r ⟨(32 * g + 16 + l.val) % 128, Nat.mod_lt _ (by norm_num)⟩ R (by dsimp only; omega) ⟨l.val % 16, Nat.mod_lt _ (by norm_num)⟩ (by dsimp only; omega)).trans (if_neg (by dsimp only; omega)))
  by_cases h2 : 64 ≤ l.val ∧ l.val < 80
  · rw [if_neg h1, if_pos h2, if_neg h1, if_pos h2]
    exact (held m c t r ⟨(32 * g + 16 + (l.val - 64)) % 128, Nat.mod_lt _ (by norm_num)⟩ R (by dsimp only; omega) ⟨l.val % 16, Nat.mod_lt _ (by norm_num)⟩ (by dsimp only; omega)).trans (if_neg (by dsimp only; omega))
  · rw [if_neg h1, if_neg h2, if_neg h1, if_neg h2]

/-- Where an element of window 3's block lands. -/
theorem lands3 (t : Fin cfg0.N) (y : S1088x128.Idx) :
    ((((cfg0.win 3).blk t).view.emb y 0 : Fin _) : Nat) = t.val * 1088 + (y 0).val ∧ ((((cfg0.win 3).blk t).view.emb y 1 : Fin _) : Nat) = (y 1).val := by
  constructor <;> blk_simp [idx t]

/-- Where an element of window 4's block lands. -/
theorem lands4 (t : Fin cfg0.N) (y : S1088x128.Idx) :
    ((((cfg0.win 4).blk t).view.emb y 0 : Fin _) : Nat) = t.val * 1088 + (y 0).val ∧ ((((cfg0.win 4).blk t).view.emb y 1 : Fin _) : Nat) = (y 1).val := by
  constructor <;> blk_simp [idx t]

/-- A place of a table, by its row and lane. -/
theorem place (j : S17408x128.Idx) (R : Fin 17408) (l : Fin 128) (h0 : (j 0 : Nat) = R.val) (h1 : (j 1 : Nat) = l.val) : j = ix2 R l :=
  (Idealize.ShloMosaic.eq_ix2 j).trans (congrArg₂ ix2 (Fin.ext h0) (Fin.ext h1))

/-- Window 3's block after a grid point. -/
theorem point3 (c : Dev nD) (t : Fin cfg0.N) (y : S1088x128.Idx) :
    out0_3 (F := Ideal) (iblk m c 0 t) (iblk m c 1 t) (iblk m c 2 t) y = val_main_v29 (F := Ideal) (A0 m c) (((cfg0.win 3).blk t).view.emb y) := by
  obtain ⟨e0, e1⟩ := lands3 t y
  unfold out0_3
  canon_tiles x h
  all_goals
    rw [Idealize.ShloMosaic.eq_ix2 x, place _ (((cfg0.win 3).blk t).view.emb y 0) (x 1) rfl (by omega)]
  · exact (cosin3_row _ (x 0) (x 1)).trans (core3 m c t (x 0) (x 1) 3 (by norm_num) _ (by omega))
  · exact (cosin2_row _ (x 0) (x 1)).trans (core3 m c t (x 0) (x 1) 2 (by norm_num) _ (by omega))
  · exact (cosin1_row _ (x 0) (x 1)).trans (core3 m c t (x 0) (x 1) 1 (by norm_num) _ (by omega))
  · exact (cosin0_row _ (x 0) (x 1)).trans (core3 m c t (x 0) (x 1) 0 (by norm_num) _ (by omega))

/-- Window 4's block after a grid point. -/
theorem point4 (c : Dev nD) (t : Fin cfg0.N) (y : S1088x128.Idx) :
    out0_4 (F := Ideal) (iblk m c 0 t) (iblk m c 1 t) (iblk m c 2 t) y = val_main_v31 (F := Ideal) (A0 m c) (((cfg0.win 4).blk t).view.emb y) := by
  obtain ⟨e0, e1⟩ := lands4 t y
  unfold out0_4
  canon_tiles x h
  all_goals
    rw [Idealize.ShloMosaic.eq_ix2 x, place _ (((cfg0.win 4).blk t).view.emb y 0) (x 1) rfl (by omega)]
  · exact (sin3_row _ (x 0) (x 1)).trans (core4 m c t (x 0) (x 1) 3 (by norm_num) _ (by omega))
  · exact (sin2_row _ (x 0) (x 1)).trans (core4 m c t (x 0) (x 1) 2 (by norm_num) _ (by omega))
  · exact (sin1_row _ (x 0) (x 1)).trans (core4 m c t (x 0) (x 1) 1 (by norm_num) _ (by omega))
  · exact (sin0_row _ (x 0) (x 1)).trans (core4 m c t (x 0) (x 1) 0 (by norm_num) _ (by omega))

/-- Window 3's array after the run. -/
theorem final3 (c : Dev nD) : (dats m 0 c).arrAt 3 (cfgs 0).N = val_main_v29 (F := Ideal) (A0 m c) := by
  refine (dats m 0 c).arrAt_eq_of_covers 3 _ (by decide +kernel) fun t _ y => ?_
  blk_simp
  rw [after0_3]
  exact point3 m c t y

/-- Window 4's array after the run. -/
theorem final4 (c : Dev nD) : (dats m 0 c).arrAt 4 (cfgs 0).N = val_main_v31 (F := Ideal) (A0 m c) := by
  refine (dats m 0 c).arrAt_eq_of_covers 4 _ (by decide +kernel) fun t _ y => ?_
  blk_simp
  rw [after0_4]
  exact point4 m c t y

/-- The run: both tables end at the reference's. -/
theorem ran (g : Dev nD → PrngReg) : θ_run (defs (F := Ideal)) (onTc (τ := τ) (main (F := Ideal))) ⟨m, fun _ => 0, g⟩ (fun r => ∀ c : Dev nD,
    r.2.mem ((c : Thread nD τ).loc main_v33_0) = val_main_v29 (F := Ideal) (A0 m c)
    ∧ r.2.mem ((c : Thread nD τ).loc main_v33_1) = val_main_v31 (F := Ideal) (A0 m c)) := by
  refine Idealize.ShloMosaic.θ_run_mono (run_main m g) fun r h c => ?_
  exact ⟨((h c).1 3).trans (final3 m c), ((h c).1 4).trans (final4 m c)⟩

end Cert.RopeIdeal.RowValue

end
-- ==== Proof.RopeClaim.lean ====
/- The call that makes the rotary tables: the claim about it. -/
module

public import proofs.«01_k».proof.Defs
public import proofs.«01_k».proof.Proof.Gen.RopeIdeal.Frame
public import proofs.«01_k».proof.Proof.Gen.RopeRefIdeal.Run
public import proofs.«01_k».proof.Proof.Gen.RopeRefIdeal.Read
public import proofs.«01_k».proof.Proof.RopeValue
public import Idealize.ShloMosaic.Lib.Claim

@[expose] public section

set_option maxRecDepth 16384

noncomputable section

open Idealize.ShloMosaic Idealize.ShloMosaic.TcCoe Idealize.SL.Sem

namespace Cert.RopeRefIdeal.RowValue

open Cert.RopeRefIdeal Cert.RopeRefIdeal.Read

/-- The reference's run: both tables end at the values its stages name. -/
theorem ran (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
    r.2.mem ((c : Thread nD τ).loc main_v29) = val_main_v29 (F := Ideal) (m ((c : Thread nD τ).loc main_arg0))
    ∧ r.2.mem ((c : Thread nD τ).loc main_v31) = val_main_v31 (F := Ideal) (m ((c : Thread nD τ).loc main_arg0))
    ∧ r.2.mem ((c : Thread nD τ).loc main_arg0) = m ((c : Thread nD τ).loc main_arg0)) := by
  refine Idealize.ShloMosaic.θ_run_mono (Cert.RopeRefIdeal.Value.run m g) fun r h c => ?_
  obtain ⟨h0, h1, k⟩ := h c
  exact ⟨h0.trans (val_main_v29_eq _), h1.trans (val_main_v31_eq _), k⟩

end Cert.RopeRefIdeal.RowValue

namespace Cert.Proof

open Cert.RopeRefIdeal.Read

/-- The call and its reference end with the same two tables. -/
theorem algebraic_rope : Cert.algebraic_RopeIdeal_RopeRefIdeal (hRopeIdeal := Cert.RopeIdeal.Gen.facts) (hRopeRefIdeal := Cert.RopeRefIdeal.Gen.facts) := by
  intro m g m' g' _ hagree
  refine ⟨fun c => val_main_v29 (F := Ideal) (Cert.RopeIdeal.RowValue.A0 m c), fun c => val_main_v31 (F := Ideal) (Cert.RopeIdeal.RowValue.A0 m c), ?_, ?_⟩
  · refine Idealize.ShloMosaic.θ_run_mono (Idealize.ShloMosaic.θ_run_and (Cert.RopeIdeal.RowValue.ran m g) (Cert.RopeIdeal.Gen.unchanged m g)) fun r h c => ?_
    obtain ⟨h0, h1⟩ := h.1 c
    exact ⟨h0, h1, h.2 c⟩
  · refine Idealize.ShloMosaic.θ_run_mono (Cert.RopeRefIdeal.RowValue.ran m' g') fun r h c => ?_
    have a0 := hagree c
    obtain ⟨h0, h1, k⟩ := h c
    rw [a0] at h0 h1
    exact ⟨h0, h1, k⟩

end Cert.Proof

end
-- ==== Proof.lean ====
module

public import proofs.«01_k».proof.Defs
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastRefIdeal
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.MidRefIdeal
public import proofs.«01_k».proof.Proof.Gen.LastRefIdeal.Run
public import proofs.«01_k».proof.Proof.Gen.LastRefIdeal.Read
public import proofs.«01_k».proof.Proof.Gen.MidRefIdeal.Run
public import proofs.«01_k».proof.Proof.Gen.MidRefIdeal.Read
public import proofs.«01_k».proof.Proof.Gen.EvenOdd
public import proofs.«01_k».proof.Proof.Gen.EvenOdd.Skeleton
public import proofs.«01_k».proof.Proof.Gen.EvenOdd.Launch
public import proofs.«01_k».proof.Proof.Gen.EvenOdd.Points
public import proofs.«01_k».proof.Proof.Gen.EvenOdd.Frame
public import proofs.«01_k».proof.Proof.Gen.EvenOddIdeal
public import proofs.«01_k».proof.Proof.Gen.EvenOddIdeal.Skeleton
public import proofs.«01_k».proof.Proof.Gen.EvenOddIdeal.Launch
public import proofs.«01_k».proof.Proof.Gen.EvenOddIdeal.Points
public import proofs.«01_k».proof.Proof.Gen.EvenOddIdeal.Frame
public import proofs.«01_k».proof.Proof.Gen.EvenOddRefIdeal
public import proofs.«01_k».proof.Proof.Gen.EvenOddRefIdeal.Run
public import proofs.«01_k».proof.Proof.Gen.EvenOddRefIdeal.Read
public import proofs.«01_k».proof.Proof.Gen.Embed
public import proofs.«01_k».proof.Proof.Gen.Embed.Skeleton
public import proofs.«01_k».proof.Proof.Gen.Embed.Launch
public import proofs.«01_k».proof.Proof.Gen.Embed.Points
public import proofs.«01_k».proof.Proof.EmbedBitsFrame
public import proofs.«01_k».proof.Proof.Gen.EmbedIdeal
public import proofs.«01_k».proof.Proof.Gen.EmbedIdeal.Skeleton
public import proofs.«01_k».proof.Proof.Gen.EmbedIdeal.Launch
public import proofs.«01_k».proof.Proof.Gen.EmbedIdeal.Points
public import proofs.«01_k».proof.Proof.EmbedFrame
public import proofs.«01_k».proof.Proof.Gen.EmbedRefIdeal
public import proofs.«01_k».proof.Proof.Gen.EmbedRefIdeal.Run
public import proofs.«01_k».proof.Proof.Gen.EmbedRefIdeal.Read
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeRefIdeal
public import proofs.«01_k».proof.Proof.Gen.RopeRefIdeal.Run
public import proofs.«01_k».proof.Proof.Gen.RopeRefIdeal.Read
public import proofs.«01_k».proof.Proof.LastValue
public import proofs.«01_k».proof.Proof.MidClaim
public import proofs.«01_k».proof.Proof.EvenOddClaim
public import proofs.«01_k».proof.Proof.EmbedClaim
public import proofs.«01_k».proof.Proof.RopeClaim
public import Idealize.ShloMosaic.Adequacy
public import Idealize.ShloMosaic.Init

@[expose] public section

noncomputable section

namespace Cert.Proof

open Idealize.ShloMosaic Idealize.SL.Sem Cert.Last

/-- The last call's reference runs and leaves its arguments as they were. -/
theorem frame_last_ref : Cert.quiescent_LastRefIdeal (hLastRefIdeal := Cert.LastRefIdeal.Gen.facts) := by
  intro m ρ _
  run_from Cert.LastRefIdeal.Value.run m ρ
  exacts [fun _ => by simp, sem_eq_zero_of_no_sems (sig := Cert.LastRefIdeal.sig) (by decide) _]

/-- The middle call's reference runs and leaves its arguments as they were. -/
theorem frame_mid_ref : Cert.quiescent_MidRefIdeal (hMidRefIdeal := Cert.MidRefIdeal.Gen.facts) := by
  intro m ρ _
  run_from Cert.MidRefIdeal.Value.run m ρ
  exacts [fun _ => by simp, sem_eq_zero_of_no_sems (sig := Cert.MidRefIdeal.sig) (by decide) _]

/-- The reference of the call between a pair of layers and the next layer runs and leaves its arguments as they were. -/
theorem frame_eo_ref : Cert.quiescent_EvenOddRefIdeal (hEvenOddRefIdeal := Cert.EvenOddRefIdeal.Gen.facts) := by
  intro m ρ _
  run_from Cert.EvenOddRefIdeal.Value.run m ρ
  exacts [fun _ => by simp, sem_eq_zero_of_no_sems (sig := Cert.EvenOddRefIdeal.sig) (by decide) _]

/-- The embedding call's reference runs and leaves its arguments as they were. -/
theorem frame_embed_ref : Cert.quiescent_EmbedRefIdeal (hEmbedRefIdeal := Cert.EmbedRefIdeal.Gen.facts) := by
  intro m ρ _
  run_from Cert.EmbedRefIdeal.Value.run m ρ
  exacts [fun _ => by simp, sem_eq_zero_of_no_sems (sig := Cert.EmbedRefIdeal.sig) (by decide) _]

/-- The reference of the rotary tables runs and leaves its argument as it was. -/
theorem frame_rope_ref : Cert.quiescent_RopeRefIdeal (hRopeRefIdeal := Cert.RopeRefIdeal.Gen.facts) := by
  intro m ρ _
  run_from Cert.RopeRefIdeal.Value.run m ρ
  exacts [fun _ => by simp, sem_eq_zero_of_no_sems (sig := Cert.RopeRefIdeal.sig) (by decide) _]

theorem claim : Cert.Claim := ⟨Cert.Last.Gen.facts, Cert.LastIdeal.Gen.facts, Cert.LastRefIdeal.Gen.facts, Cert.Mid.Gen.facts, Cert.MidIdeal.Gen.facts, Cert.MidRefIdeal.Gen.facts,
  Cert.EvenOdd.Gen.facts, Cert.EvenOddIdeal.Gen.facts, Cert.EvenOddRefIdeal.Gen.facts,
  Cert.Embed.Gen.facts, Cert.EmbedIdeal.Gen.facts, Cert.EmbedRefIdeal.Gen.facts,
  Cert.Rope.Gen.facts, Cert.RopeIdeal.Gen.facts, Cert.RopeRefIdeal.Gen.facts,
  fun m ρ _ => Cert.Last.Gen.frame m ρ, fun m ρ _ => Cert.LastIdeal.Gen.frame m ρ, frame_last_ref,
  fun m ρ _ => Cert.Mid.Gen.frame m ρ, fun m ρ _ => Cert.MidIdeal.Gen.frame m ρ, frame_mid_ref,
  fun m ρ _ => Cert.EvenOdd.Gen.frame m ρ, fun m ρ _ => Cert.EvenOddIdeal.Gen.frame m ρ, frame_eo_ref,
  fun m ρ _ => Cert.Embed.Whole.frame m ρ, fun m ρ _ => Cert.EmbedIdeal.Whole.frame m ρ, frame_embed_ref,
  fun m ρ _ => Cert.Rope.Gen.frame m ρ, fun m ρ _ => Cert.RopeIdeal.Gen.frame m ρ, frame_rope_ref,
  IdealRules.named_const.statement Cert.LastIdeal.κ "nlog2e" .f32 0xBFB8AA3B#32 ((-((Real.log 2)⁻¹) : ℝ) : EReal) rfl, algebraic_last,
  IdealRules.named_const.statement Cert.MidIdeal.κ "nlog2e" .f32 0xBFB8AA3B#32 ((-((Real.log 2)⁻¹) : ℝ) : EReal) rfl, algebraic_mid,
  IdealRules.named_const.statement Cert.EvenOddIdeal.κ "qscale" .f32 0x3E16C740#32 (((Real.log 2)⁻¹ * (Real.sqrt 96)⁻¹ : ℝ) : EReal) rfl, algebraic_eo,
  trivial, algebraic_embed,
  trivial, algebraic_rope⟩

end Cert.Proof

end
